-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x128x4096 : Shape := ⟨3, ![2, 128, 4096]⟩
abbrev S2x4096x512 : Shape := ⟨3, ![2, 4096, 512]⟩
abbrev S3x1024x512 : Shape := ⟨3, ![3, 1024, 512]⟩
abbrev S4x1024x512 : Shape := ⟨3, ![4, 1024, 512]⟩
abbrev S2x1024x512 : Shape := ⟨3, ![2, 1024, 512]⟩
abbrev S8x128 : Shape := ⟨2, ![8, 128]⟩
abbrev S4x8x128 : Shape := ⟨3, ![4, 8, 128]⟩
abbrev S2 : Shape := ⟨1, ![2]⟩
abbrev S6 : Shape := ⟨1, ![6]⟩
abbrev S8 : Shape := ⟨1, ![8]⟩
abbrev S4 : Shape := ⟨1, ![4]⟩
abbrev S_ : Shape := ⟨0, ![]⟩
abbrev S1 : Shape := ⟨1, ![1]⟩
abbrev S1x4096x512 : Shape := ⟨3, ![1, 4096, 512]⟩
abbrev S1x128x4096 : Shape := ⟨3, ![1, 128, 4096]⟩
abbrev S128x4096 : Shape := ⟨2, ![128, 4096]⟩
abbrev S512x512 : Shape := ⟨2, ![512, 512]⟩
abbrev S512x4096 : Shape := ⟨2, ![512, 4096]⟩
abbrev S1x512x512 : Shape := ⟨3, ![1, 512, 512]⟩
abbrev S1x1x1 : Shape := ⟨3, ![1, 1, 1]⟩
abbrev S1x8x128 : Shape := ⟨3, ![1, 8, 128]⟩
abbrev S1x1024x512 : Shape := ⟨3, ![1, 1024, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S2x128x4096, .f32⟩
  | .local _ .vmem, ⟨1, _⟩ => ⟨S1024x4096, .bf16⟩
  | .local _ .vmem, ⟨2, _⟩ => ⟨S2x4096x512, .f32⟩
  | .local _ .vmem, ⟨3, _⟩ => ⟨S3x1024x512, .bf16⟩
  | .local _ .vmem, ⟨4, _⟩ => ⟨S4x1024x512, .bf16⟩
  | .local _ .vmem, ⟨5, _⟩ => ⟨S2x1024x512, .f32⟩
  | .local _ .vmem, ⟨6, _⟩ => ⟨S8x128, .f32⟩
  | .local _ .vmem, ⟨7, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_636 : BitVec 32 := 0#32
  let c0_i32_634 : BitVec 32 := 0#32
  let c1_i32_635 : BitVec 32 := 1#32
  let v764 : BitVec 32 := Scalar.muli c0_i32_634 c1_i32_635
  let v765 : BitVec 32 := Scalar.addi c0_i32_636 v764
  v765.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_636 : BitVec 32 := 0#32
  let c1_i32_634 : BitVec 32 := 1#32
  let c1_i32_635 : BitVec 32 := 1#32
  let v764 : BitVec 32 := Scalar.muli c1_i32_634 c1_i32_635
  let v765 : BitVec 32 := Scalar.addi c0_i32_636 v764
  v765.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_636 : BitVec 32 := 0#32
  let c2_i32_634 : BitVec 32 := 2#32
  let c1_i32_635 : BitVec 32 := 1#32
  let v764 : BitVec 32 := Scalar.muli c2_i32_634 c1_i32_635
  let v765 : BitVec 32 := Scalar.addi c0_i32_636 v764
  v765.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_636 : BitVec 32 := 0#32
  let c3_i32_634 : BitVec 32 := 3#32
  let c1_i32_635 : BitVec 32 := 1#32
  let v764 : BitVec 32 := Scalar.muli c3_i32_634 c1_i32_635
  let v765 : BitVec 32 := Scalar.addi c0_i32_636 v764
  v765.toNat
def k0_off1 (d0 : Dev nD) (c2_i32_6 : BitVec 32) : Fin 2 → Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c2_i32_6
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c512_i32 : BitVec 32 := 512#32
  let v60 : BitVec 32 := Scalar.muli v26 c512_i32
  ![0, v60.toNat]
def k0_off2 (d0 : Dev nD) (c0_i32_132 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_131 : BitVec 32 := 2#32
  let v163 : BitVec 32 := Scalar.muli v2 c2_i32_131
  let v164 : BitVec 32 := Scalar.addi v163 c0_i32_132
  ![v164.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_137 : BitVec 32 := 0#32
  let c0_i32_138 : BitVec 32 := 0#32
  ![v2.toNat, 0, 0]
def k0_dev5 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_6 : BitVec 32 := 2#32
  let v16 : BitVec 32 := Scalar.addi v2 c2_i32_6
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_135 : BitVec 32 := 1#32
  let v165 : BitVec 32 := Scalar.muli v26 c1_i32_135
  let v166 : BitVec 32 := Scalar.addi c0_i32_136 v165
  v166.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_206 : BitVec 32 := 512#32
  let c0_i32_207 : BitVec 32 := 0#32
  ![v2.toNat, 512, 0]
def k0_dev6 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_6 : BitVec 32 := 2#32
  let v16 : BitVec 32 := Scalar.addi v2 c2_i32_6
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_204 : BitVec 32 := 1#32
  let v241 : BitVec 32 := Scalar.muli v26 c1_i32_204
  let v242 : BitVec 32 := Scalar.addi c0_i32_205 v241
  v242.toNat
def k0_dev7 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.addi v2 c1_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_235 : BitVec 32 := 1#32
  let v275 : BitVec 32 := Scalar.muli v37 c1_i32_235
  let v276 : BitVec 32 := Scalar.addi c0_i32_236 v275
  v276.toNat
def k0_dev8 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v27 : BitVec 32 := Scalar.addi v2 c1_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_254 : BitVec 32 := 1#32
  let v297 : BitVec 32 := Scalar.muli v37 c1_i32_254
  let v298 : BitVec 32 := Scalar.addi c0_i32_255 v297
  v298.toNat
def k0_dev9 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v38 : BitVec 32 := Scalar.addi v2 c3_i32_20
  let c4_i32_21 : BitVec 32 := 4#32
  let c0_i32_22 : BitVec 32 := 0#32
  let v39 : BitVec 1 := Scalar.cmpi .eq c4_i32_21 c0_i32_22
  let c1_i32_23 : BitVec 32 := 1#32
  let v40 : BitVec 32 := Scalar.select v39 c1_i32_23 c4_i32_21
  let v41 : BitVec 32 := Scalar.remsi v38 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c1_i32_284 : BitVec 32 := 1#32
  let v331 : BitVec 32 := Scalar.muli v48 c1_i32_284
  let v332 : BitVec 32 := Scalar.addi c0_i32_285 v331
  v332.toNat
def k0_dev10 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v38 : BitVec 32 := Scalar.addi v2 c3_i32_20
  let c4_i32_21 : BitVec 32 := 4#32
  let c0_i32_22 : BitVec 32 := 0#32
  let v39 : BitVec 1 := Scalar.cmpi .eq c4_i32_21 c0_i32_22
  let c1_i32_23 : BitVec 32 := 1#32
  let v40 : BitVec 32 := Scalar.select v39 c1_i32_23 c4_i32_21
  let v41 : BitVec 32 := Scalar.remsi v38 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let c1_i32_302 : BitVec 32 := 1#32
  let v353 : BitVec 32 := Scalar.muli v48 c1_i32_302
  let v354 : BitVec 32 := Scalar.addi c0_i32_303 v353
  v354.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_347 : BitVec 32 := 0#32
  let v418 : BitVec 1 := Scalar.cmpi .ne v2 c0_i32_347
  let v419 : BitVec 32 := Scalar.extui v418
  let c0_i32_348 : BitVec 32 := 0#32
  let v420 : BitVec 1 := Scalar.cmpi .ne v419 c0_i32_348
  v420

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_637 : BitVec 32 := 0#32
  let c0_i32_638 : BitVec 32 := 0#32
  ![v2.toNat, 0, 0]
def k0_dev11 : Nat :=
  let c0_i32_636 : BitVec 32 := 0#32
  let c0_i32_634 : BitVec 32 := 0#32
  let c1_i32_635 : BitVec 32 := 1#32
  let v764 : BitVec 32 := Scalar.muli c0_i32_634 c1_i32_635
  let v765 : BitVec 32 := Scalar.addi c0_i32_636 v764
  v765.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_351 : BitVec 32 := 1#32
  let v424 : BitVec 1 := Scalar.cmpi .ne v2 c1_i32_351
  let v425 : BitVec 32 := Scalar.extui v424
  let c0_i32_352 : BitVec 32 := 0#32
  let v426 : BitVec 1 := Scalar.cmpi .ne v425 c0_i32_352
  v426

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_637 : BitVec 32 := 0#32
  let c0_i32_638 : BitVec 32 := 0#32
  ![v2.toNat, 0, 0]
def k0_dev12 : Nat :=
  let c0_i32_636 : BitVec 32 := 0#32
  let c1_i32_634 : BitVec 32 := 1#32
  let c1_i32_635 : BitVec 32 := 1#32
  let v764 : BitVec 32 := Scalar.muli c1_i32_634 c1_i32_635
  let v765 : BitVec 32 := Scalar.addi c0_i32_636 v764
  v765.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_355 : BitVec 32 := 2#32
  let v430 : BitVec 1 := Scalar.cmpi .ne v2 c2_i32_355
  let v431 : BitVec 32 := Scalar.extui v430
  let c0_i32_356 : BitVec 32 := 0#32
  let v432 : BitVec 1 := Scalar.cmpi .ne v431 c0_i32_356
  v432

def k0_off9 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_637 : BitVec 32 := 0#32
  let c0_i32_638 : BitVec 32 := 0#32
  ![v2.toNat, 0, 0]
def k0_dev13 : Nat :=
  let c0_i32_636 : BitVec 32 := 0#32
  let c2_i32_634 : BitVec 32 := 2#32
  let c1_i32_635 : BitVec 32 := 1#32
  let v764 : BitVec 32 := Scalar.muli c2_i32_634 c1_i32_635
  let v765 : BitVec 32 := Scalar.addi c0_i32_636 v764
  v765.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_359 : BitVec 32 := 3#32
  let v436 : BitVec 1 := Scalar.cmpi .ne v2 c3_i32_359
  let v437 : BitVec 32 := Scalar.extui v436
  let c0_i32_360 : BitVec 32 := 0#32
  let v438 : BitVec 1 := Scalar.cmpi .ne v437 c0_i32_360
  v438

def k0_off11 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_637 : BitVec 32 := 0#32
  let c0_i32_638 : BitVec 32 := 0#32
  ![v2.toNat, 0, 0]
def k0_dev14 : Nat :=
  let c0_i32_636 : BitVec 32 := 0#32
  let c3_i32_634 : BitVec 32 := 3#32
  let c1_i32_635 : BitVec 32 := 1#32
  let v764 : BitVec 32 := Scalar.muli c3_i32_634 c1_i32_635
  let v765 : BitVec 32 := Scalar.addi c0_i32_636 v764
  v765.toNat
def k0_off13 (d0 : Dev nD) (c0_i32_382 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v464 : BitVec 32 := Scalar.addi v2 c0_i32_382
  let c4_i32_383 : BitVec 32 := 4#32
  let c0_i32_384 : BitVec 32 := 0#32
  let v465 : BitVec 1 := Scalar.cmpi .eq c4_i32_383 c0_i32_384
  let c1_i32_385 : BitVec 32 := 1#32
  let v466 : BitVec 32 := Scalar.select v465 c1_i32_385 c4_i32_383
  let v467 : BitVec 32 := Scalar.remsi v464 v466
  let c0_i32_387 : BitVec 32 := 0#32
  let v469 : BitVec 1 := Scalar.cmpi .slt v467 c0_i32_387
  let c0_i32_388 : BitVec 32 := 0#32
  let v470 : BitVec 1 := Scalar.cmpi .slt v466 c0_i32_388
  let v471 : BitVec 1 := Scalar.xori v469 v470
  let c0_i32_386 : BitVec 32 := 0#32
  let v468 : BitVec 1 := Scalar.cmpi .ne v467 c0_i32_386
  let v472 : BitVec 1 := Scalar.andi v471 v468
  let v473 : BitVec 32 := Scalar.addi v467 v466
  let v474 : BitVec 32 := Scalar.select v472 v473 v467
  let v475 : Index := Scalar.indexCast v474
  let c0_389 : Index := 0#32
  let c0_390 : Index := 0#32
  ![v475.toNat, 0, 0]
def k0_off14 (d0 : Dev nD) (c0_i32_382 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v464 : BitVec 32 := Scalar.addi v2 c0_i32_382
  let c4_i32_383 : BitVec 32 := 4#32
  let c0_i32_384 : BitVec 32 := 0#32
  let v465 : BitVec 1 := Scalar.cmpi .eq c4_i32_383 c0_i32_384
  let c1_i32_385 : BitVec 32 := 1#32
  let v466 : BitVec 32 := Scalar.select v465 c1_i32_385 c4_i32_383
  let v467 : BitVec 32 := Scalar.remsi v464 v466
  let c0_i32_387 : BitVec 32 := 0#32
  let v469 : BitVec 1 := Scalar.cmpi .slt v467 c0_i32_387
  let c0_i32_388 : BitVec 32 := 0#32
  let v470 : BitVec 1 := Scalar.cmpi .slt v466 c0_i32_388
  let v471 : BitVec 1 := Scalar.xori v469 v470
  let c0_i32_386 : BitVec 32 := 0#32
  let v468 : BitVec 1 := Scalar.cmpi .ne v467 c0_i32_386
  let v472 : BitVec 1 := Scalar.andi v471 v468
  let v473 : BitVec 32 := Scalar.addi v467 v466
  let v474 : BitVec 32 := Scalar.select v472 v473 v467
  let c1024_i32 : BitVec 32 := 1024#32
  let v492 : BitVec 32 := Scalar.muli v474 c1024_i32
  let c0_i32_398 : BitVec 32 := 0#32
  ![v492.toNat, 0]
def k0_off15 (d0 : Dev nD) (c2_i32_401 : BitVec 32) (c0_i32_409 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v498 : BitVec 32 := Scalar.addi v2 c2_i32_401
  let c4_i32_402 : BitVec 32 := 4#32
  let c0_i32_403 : BitVec 32 := 0#32
  let v499 : BitVec 1 := Scalar.cmpi .eq c4_i32_402 c0_i32_403
  let c1_i32_404 : BitVec 32 := 1#32
  let v500 : BitVec 32 := Scalar.select v499 c1_i32_404 c4_i32_402
  let v501 : BitVec 32 := Scalar.remsi v498 v500
  let c0_i32_406 : BitVec 32 := 0#32
  let v503 : BitVec 1 := Scalar.cmpi .slt v501 c0_i32_406
  let c0_i32_407 : BitVec 32 := 0#32
  let v504 : BitVec 1 := Scalar.cmpi .slt v500 c0_i32_407
  let v505 : BitVec 1 := Scalar.xori v503 v504
  let c0_i32_405 : BitVec 32 := 0#32
  let v502 : BitVec 1 := Scalar.cmpi .ne v501 c0_i32_405
  let v506 : BitVec 1 := Scalar.andi v505 v502
  let v507 : BitVec 32 := Scalar.addi v501 v500
  let v508 : BitVec 32 := Scalar.select v506 v507 v501
  let c2_i32_408 : BitVec 32 := 2#32
  let v509 : BitVec 32 := Scalar.muli v508 c2_i32_408
  let v510 : BitVec 32 := Scalar.addi v509 c0_i32_409
  ![v510.toNat]
def k0_off16 (d0 : Dev nD) (c2_i32_401 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v498 : BitVec 32 := Scalar.addi v2 c2_i32_401
  let c4_i32_402 : BitVec 32 := 4#32
  let c0_i32_403 : BitVec 32 := 0#32
  let v499 : BitVec 1 := Scalar.cmpi .eq c4_i32_402 c0_i32_403
  let c1_i32_404 : BitVec 32 := 1#32
  let v500 : BitVec 32 := Scalar.select v499 c1_i32_404 c4_i32_402
  let v501 : BitVec 32 := Scalar.remsi v498 v500
  let c0_i32_406 : BitVec 32 := 0#32
  let v503 : BitVec 1 := Scalar.cmpi .slt v501 c0_i32_406
  let c0_i32_407 : BitVec 32 := 0#32
  let v504 : BitVec 1 := Scalar.cmpi .slt v500 c0_i32_407
  let v505 : BitVec 1 := Scalar.xori v503 v504
  let c0_i32_405 : BitVec 32 := 0#32
  let v502 : BitVec 1 := Scalar.cmpi .ne v501 c0_i32_405
  let v506 : BitVec 1 := Scalar.andi v505 v502
  let v507 : BitVec 32 := Scalar.addi v501 v500
  let v508 : BitVec 32 := Scalar.select v506 v507 v501
  let c0_i32_414 : BitVec 32 := 0#32
  let c0_i32_415 : BitVec 32 := 0#32
  ![v508.toNat, 0, 0]
def k0_off17 (d0 : Dev nD) (c2_i32_401 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v498 : BitVec 32 := Scalar.addi v2 c2_i32_401
  let c4_i32_402 : BitVec 32 := 4#32
  let c0_i32_403 : BitVec 32 := 0#32
  let v499 : BitVec 1 := Scalar.cmpi .eq c4_i32_402 c0_i32_403
  let c1_i32_404 : BitVec 32 := 1#32
  let v500 : BitVec 32 := Scalar.select v499 c1_i32_404 c4_i32_402
  let v501 : BitVec 32 := Scalar.remsi v498 v500
  let c0_i32_406 : BitVec 32 := 0#32
  let v503 : BitVec 1 := Scalar.cmpi .slt v501 c0_i32_406
  let c0_i32_407 : BitVec 32 := 0#32
  let v504 : BitVec 1 := Scalar.cmpi .slt v500 c0_i32_407
  let v505 : BitVec 1 := Scalar.xori v503 v504
  let c0_i32_405 : BitVec 32 := 0#32
  let v502 : BitVec 1 := Scalar.cmpi .ne v501 c0_i32_405
  let v506 : BitVec 1 := Scalar.andi v505 v502
  let v507 : BitVec 32 := Scalar.addi v501 v500
  let v508 : BitVec 32 := Scalar.select v506 v507 v501
  let c512_i32_424 : BitVec 32 := 512#32
  let c0_i32_425 : BitVec 32 := 0#32
  ![v508.toNat, 512, 0]
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Contents.lean ====
/-
# What each buffer holds, as a function of the two inputs

Pure definitions, over any float values: the halves of a device's rows rounded to bf16, the column blocks of its
weights, the products it sends, the running maximum it exchanges, the quantised blocks it writes back. Nothing here
speaks of memory or of the order of events.
-/
module

public import proofs.«01_k».proof.Proof.Gen.KernelIdeal
public import proofs.«01_k».proof.Proof.Gen.KernelIdeal.Skeleton

@[expose] public section

noncomputable section

namespace Cert.A2A

open Cert.KernelIdeal Cert.KernelIdeal.Gen
open Idealize.ShloMosaic

/-- The index of a matrix at row `a` and column `b`. -/
abbrev ix2 {n m : ℕ} (a b : ℕ) (ha : a < n) (hb : b < m) : (⟨2, ![n, m]⟩ : Shape).Idx :=
  fun k => match k with
    | ⟨0, _⟩ => ⟨a, ha⟩
    | ⟨1, _⟩ => ⟨b, hb⟩

/-- The index of a stack of matrices at layer `a`, row `b` and column `c`. -/
abbrev ix3 {l n m : ℕ} (a b c : ℕ) (ha : a < l) (hb : b < n) (hc : c < m) : (⟨3, ![l, n, m]⟩ : Shape).Idx :=
  fun k => match k with
    | ⟨0, _⟩ => ⟨a, ha⟩
    | ⟨1, _⟩ => ⟨b, hb⟩
    | ⟨2, _⟩ => ⟨c, hc⟩

theorem ext2 {n m : ℕ} {i j : (⟨2, ![n, m]⟩ : Shape).Idx} (h0 : (i 0).val = (j 0).val) (h1 : (i 1).val = (j 1).val) : i = j := by
  funext k
  match k with
  | ⟨0, _⟩ => exact Fin.ext h0
  | ⟨1, _⟩ => exact Fin.ext h1

theorem ext3 {l n m : ℕ} {i j : (⟨3, ![l, n, m]⟩ : Shape).Idx} (h0 : (i 0).val = (j 0).val) (h1 : (i 1).val = (j 1).val)
    (h2 : (i 2).val = (j 2).val) : i = j := by
  funext k
  match k with
  | ⟨0, _⟩ => exact Fin.ext h0
  | ⟨1, _⟩ => exact Fin.ext h1
  | ⟨2, _⟩ => exact Fin.ext h2

theorem lt2_0 {n m : ℕ} (i : (⟨2, ![n, m]⟩ : Shape).Idx) : (i 0).val < n := (i 0).isLt
theorem lt2_1 {n m : ℕ} (i : (⟨2, ![n, m]⟩ : Shape).Idx) : (i 1).val < m := (i 1).isLt
theorem lt3_0 {l n m : ℕ} (i : (⟨3, ![l, n, m]⟩ : Shape).Idx) : (i 0).val < l := (i 0).isLt
theorem lt3_1 {l n m : ℕ} (i : (⟨3, ![l, n, m]⟩ : Shape).Idx) : (i 1).val < n := (i 1).isLt
theorem lt3_2 {l n m : ℕ} (i : (⟨3, ![l, n, m]⟩ : Shape).Idx) : (i 2).val < m := (i 2).isLt

variable {F : FTy → Type} [FloatOps F]

/-- A block of layers, layer `o` holding `A o` everywhere. -/
def layers (A : Dev nD → F .f32) : FVec F S4x8x128 .f32 := fun i => A ⟨(i 0).val, lt3_0 i⟩

section
variable (x : Dev nD → Vec F S1024x4096 .f32) (w : Dev nD → Vec F S4096x2048 .f32)

/-- Device `c`'s rows rounded to bf16. -/
def xb (c : Dev nD) : FVec F S1024x4096 .bf16 := truncf .bf16 (x c) bitsLt_bf16_f32

/-- Strip `k` of device `c`'s rows, 128 of them. -/
def xstrip (c : Dev nD) (k : Fin 8) : Vec F S1x128x4096 .f32 := fun j =>
  x c (ix2 (128 * k.val + (j 1).val) (j 2).val (by have := lt3_1 j; have := k.isLt; omega) (lt3_2 j))

/-- Half `h` of device `c`'s rows rounded to bf16, 512 of them. -/
def xhalf (c : Dev nD) (h : Fin 2) : Vec F S512x4096 .bf16 := fun j =>
  xb x c (ix2 (512 * h.val + (j 0).val) (j 1).val (by have := lt2_0 j; have := h.isLt; omega) (lt2_1 j))

/-- Column block `t` of device `c`'s weights, 512 columns. -/
def wblk (c : Dev nD) (t : Fin 4) : Vec F S1x4096x512 .f32 := fun j =>
  w c (ix2 (j 1).val (512 * t.val + (j 2).val) (lt3_1 j) (by have := lt3_2 j; have := t.isLt; omega))

/-- The product of half `h` of device `o`'s rows and column block `p` of its weights. -/
def prod (o p : Dev nD) (h : Fin 2) : FVec F S512x512 .f32 := k0_pay6 (xhalf x o h) (wblk w o p)

/-- That product rounded to bf16. -/
def prodb (o p : Dev nD) (h : Fin 2) : FVec F S512x512 .bf16 := truncf .bf16 (prod x w o p h) bitsLt_bf16_f32

/-- All of device `o`'s rows times column block `p` of its weights, rounded to bf16: what `o` gives `p`. -/
def yblk (o p : Dev nD) : FVec F S1024x512 .bf16 := fun i =>
  prodb x w o p ⟨(i 0).val / 512, by have := lt2_0 i; omega⟩ (ix2 ((i 0).val % 512) (i 1).val (Nat.mod_lt _ (by decide)) (lt2_1 i))

/-- The peer `t` places after `c`. -/
def peer (c : Dev nD) (t : ℕ) : Dev nD := ⟨(c.val + t) % 4, Nat.mod_lt _ (by decide)⟩

/-- How far ahead the device is that slot `s` of the send buffer is for: 2, 1, 3. -/
def ahead (s : Fin 3) : ℕ := match s with | 0 => 2 | 1 => 1 | 2 => 3

/-- The send buffer of device `c`, filled. -/
def sendC (c : Dev nD) : FVec F S3x1024x512 .bf16 := fun i =>
  yblk x w c (peer c (ahead ⟨(i 0).val, lt3_0 i⟩)) (ix2 (i 1).val (i 2).val (lt3_1 i) (lt3_2 i))

/-- The receive buffer of device `p`, filled: layer `o` is what device `o` gives `p`. -/
def recvC (p : Dev nD) : FVec F S4x1024x512 .bf16 := fun i =>
  yblk x w ⟨(i 0).val, lt3_0 i⟩ p (ix2 (i 1).val (i 2).val (lt3_1 i) (lt3_2 i))

/-- The running maximum of device `c` before it is reduced to one number, in the order the products are made; the
    last product still to come. -/
def acc7 (c : Dev nD) : FVec F S512x512 .f32 :=
  let a1 := k0_pay7 (k0_pay5 (F := F)) (xhalf x c 0) (wblk w c (peer c 2))
  let a2 := k0_pay14 a1 (xhalf x c 1) (wblk w c (peer c 2))
  let a3 := k0_pay17 a2 (xhalf x c 0) (wblk w c (peer c 1))
  let a4 := k0_pay21 a3 (xhalf x c 1) (k0_pay19 (wblk w c (peer c 1))) (constant S512x512 .f32 0x00000000#32)
  let a6 := k0_pay26 a4 (xhalf x c 0) (wblk w c (peer c 3)) (xhalf x c 1) (wblk w c (peer c 3))
  k0_pay30 a6 (xhalf x c 0) (wblk w c (peer c 0))

/-- The largest of zero and every product device `c` makes. -/
def amax (c : Dev nD) : F .f32 := k0_pay42 (acc7 x w c) (xhalf x c 1) (wblk w c (peer c 0))

/-- The block each device sends the others: its maximum, everywhere. -/
def amaxS (c : Dev nD) : FVec F S8x128 .f32 := fun _ => amax x w c

/-- The block of maxima once all have arrived (the same on every device): layer `o` is device `o`'s. -/
def amaxR : FVec F S4x8x128 .f32 := layers (amax x w)

/-- The quantiser's scale, -/
def scale : F .f32 := k0_pay50 (fun _ => amax x w 0) (fun _ => amax x w 1) (fun _ => amax x w 2) (fun _ => amax x w 3)
/-- and its inverse, as the kernel computes them from the four maxima. -/
def inv : F .f32 := k0_pay51 (fun _ => amax x w 0) (fun _ => amax x w 1) (fun _ => amax x w 2) (fun _ => amax x w 3)

/-- The block of rows from device `o` of device `p`'s result, quantised and scaled back. -/
def outB (p o : Dev nD) : FVec F S1x1024x512 .f32 :=
  k0_pay52 (scale x w) (inv x w) (fun j => yblk x w o p (ix2 (j 1).val (j 2).val (lt3_1 j) (lt3_2 j)))

/-- Device `p`'s result: the four blocks stacked. -/
def outC (p : Dev nD) : Vec F S4096x512 .f32 := fun i =>
  outB x w p ⟨(i 0).val / 1024, by have := lt2_0 i; show _ < 4; omega⟩
    (ix3 0 ((i 0).val % 1024) (i 1).val (by decide) (Nat.mod_lt _ (by decide)) (lt2_1 i))

end

end Cert.A2A

end
-- ==== Proof.Protocol.lean ====
/-
# The protocol between the four devices

Each device `c` multiplies its rows of `x` by each of the four column blocks of `w`, gives device `p` the block for
`p`, learns the largest product of all devices, and quantises the four blocks it was given. The semaphores, each used
for one round (`h` is one of the two halves of a block's rows):

* the barrier of `c`: every other device `p` signals it one unit, first thing; `c` waits for three. A signal hands
  over that `p`'s receive buffer layer `c` (both halves) and `p`'s layer `c` of the block of maxima are `c`'s to write,
  whatever they hold.
* `recv o h` of `c`, for another device `o`: `o` copies half `h` of its block for `c` onto layer `o` of `c`'s receive
  buffer, once past the barrier; `c` waits for each half before it reads it. The landing hands over the half layer,
  holding `o`'s rounded product (`recvC`).
* `send s h` of `c`: the source side of the copies above, slot `s` going to the device 2, 1 or 3 ahead. `c` waits for
  it at the end; it gives back half `h` of slot `s` of the send buffer, holding what was sent (`sendC`).
* `arecv o` of `c`, for another `o`: `o` copies its own maximum onto layer `o` of `c`'s block of maxima, after all its
  products; `c` waits for it before it computes the scale. The landing hands over the layer, holding `o`'s maximum.
* `asend p` of `c`, for another `p`: the source side of that copy, which reads one share of the send block; the wait
  just before that for `arecv p` gives the share back.
* six semaphores of local copies (two for strips of `x`, two for column blocks of `w`, two for finished blocks): one
  copy at a time on each, issued and waited for by the device alone.

A device first signals the three barriers, waits at its own, issues its six half-block copies, then its three copies
of the maximum, and only after that waits for anything another device pays. A wait at a local copy is below everything
owed, a wait at the barrier below the copies; the other waits come when nothing is owed.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the cells above: a duty is named by the device that pays it. -/
abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance EB_landsIn : (EB : Emb UB 𝕄).LandsIn (upEmb : UEmb _ 𝕄) := by unfold EB; infer_instance
abbrev EC : UEmb Counters (MT nD τ sig Unit (Elt F) ℕ UU ℕ) := countersEmb (U := UU)
example : (EC : UEmb Counters 𝕄).LandsIn (upEmb : UEmb _ 𝕄) := inferInstance

variable (m : (ℓ : Loc nD τ sig) → Buf (Elt F) ℓ)

/-! ## The inputs -/

def xin (c : Dev nD) : Vec F S1024x4096 .f32 := m (((c : Dev nD) : Thread nD τ).loc main_arg0)
def win (c : Dev nD) : Vec F S4096x2048 .f32 := m (((c : Dev nD) : Thread nD τ).loc main_arg1)

/-! ## The cells -/

/-- The kinds of cell another device pays or is paid through. -/
inductive CK where
  | bar
  | send (s : Fin 3) (h : Fin 2)
  | recv (o : Dev nD) (h : Fin 2)
  | asend (p : Dev nD)
  | arecv (o : Dev nD)
deriving DecidableEq

/-- All of them. -/
def ckL : List CK :=
  [.bar, .send 0 0, .send 0 1, .send 1 0, .send 1 1, .send 2 0, .send 2 1,
   .recv 0 0, .recv 0 1, .recv 1 0, .recv 1 1, .recv 2 0, .recv 2 1, .recv 3 0, .recv 3 1,
   .asend 0, .asend 1, .asend 2, .asend 3, .arecv 0, .arecv 1, .arecv 2, .arecv 3]

theorem ckL_nodup : ckL.Nodup := by decide
theorem mem_ckL (k : CK) : k ∈ ckL := by
  rcases k with _ | ⟨s, h⟩ | ⟨o, h⟩ | p | o
  · decide
  · revert s h; decide
  · revert o h; decide
  · revert p; decide
  · revert o; decide
instance : Fintype CK := ⟨⟨ckL, ckL_nodup⟩, mem_ckL⟩

/-- The semaphore of each kind, -/
def enc : CK → SemLoc sig
  | .bar => .reg barrier0
  | .send s h => .dma (⟨6 + (2 * s.val + h.val), by have := s.isLt; have := h.isLt; show _ < 28; omega⟩ : Fin 28)
  | .recv o h => .dma (⟨12 + (2 * o.val + h.val), by have : o.val < 4 := o.isLt; have := h.isLt; show _ < 28; omega⟩ : Fin 28)
  | .asend p => .dma (⟨20 + p.val, by have : p.val < 4 := p.isLt; show _ < 28; omega⟩ : Fin 28)
  | .arecv o => .dma (⟨24 + o.val, by have : o.val < 4 := o.isLt; show _ < 28; omega⟩ : Fin 28)

/-- and the kind of each semaphore. -/
def dec : SemLoc sig → Option CK
  | .reg _ => some .bar
  | .dma (i : Fin 28) =>
    if i.val < 6 then none
    else if h : i.val < 12 then some (.send ⟨(i.val - 6) / 2, by omega⟩ ⟨(i.val - 6) % 2, Nat.mod_lt _ (by decide)⟩)
    else if h : i.val < 20 then some (.recv ⟨(i.val - 12) / 2, by show _ < 4; omega⟩ ⟨(i.val - 12) % 2, Nat.mod_lt _ (by decide)⟩)
    else if h : i.val < 24 then some (.asend ⟨i.val - 20, by show _ < 4; omega⟩)
    else some (.arecv ⟨i.val - 24, by have := i.isLt; show _ < 4; omega⟩)

theorem dec_enc (k : CK) : dec (enc k) = some k := by
  revert k; decide
theorem enc_inj : Function.Injective enc := fun a b h => by
  have := congrArg dec h; rw [dec_enc, dec_enc] at this; exact Option.some.inj this

/-- The cell of kind `k` on device `c`. -/
abbrev cell (c : Dev nD) (k : CK) : GSem nD τ sig := ((c : Thread nD τ), enc k)

theorem cell_inj {c c' : Dev nD} {k k' : CK} (h : cell c k = cell c' k') : c = c' ∧ k = k' :=
  ⟨congrArg (fun g : GSem nD τ sig => g.1.1) h, enc_inj (congrArg Prod.snd h)⟩
theorem cell_eq_iff {c c' : Dev nD} {k k' : CK} : Iff (cell c k = cell c' k') (c = c' ∧ k = k') :=
  ⟨cell_inj, fun h => by rw [h.1, h.2]⟩

/-- The semaphores of the local copies: strips of `x`, blocks of `w`, finished blocks. -/
abbrev xsem (q : Fin 2) : DmaSem sig := (⟨q.val, by have := q.isLt; omega⟩ : Fin 28)
abbrev wsem (q : Fin 2) : DmaSem sig := (⟨2 + q.val, by have := q.isLt; omega⟩ : Fin 28)
abbrev osem (q : Fin 2) : DmaSem sig := (⟨4 + q.val, by have := q.isLt; omega⟩ : Fin 28)

/-! ## The pieces of the buffers -/

section Sets

def xsSet (q : Fin 2) : Finset S2x128x4096.Idx := Finset.univ.filter fun i => (i 0).val = q.val
def wbSet (q : Fin 2) : Finset S2x4096x512.Idx := Finset.univ.filter fun i => (i 0).val = q.val
def ovSet (q : Fin 2) : Finset S2x1024x512.Idx := Finset.univ.filter fun i => (i 0).val = q.val
def svSet (s : Fin 3) (h : Fin 2) : Finset S3x1024x512.Idx := Finset.univ.filter fun i => (i 0).val = s.val ∧ (i 1).val / 512 = h.val
def rvSet (o : Dev nD) (h : Fin 2) : Finset S4x1024x512.Idx := Finset.univ.filter fun i => (i 0).val = o.val ∧ (i 1).val / 512 = h.val
def arSet (o : Dev nD) : Finset S4x8x128.Idx := Finset.univ.filter fun i => (i 0).val = o.val
def outSet (o : Dev nD) : Finset S4096x512.Idx := Finset.univ.filter fun i => (i 0).val / 1024 = o.val

end Sets

/-- The buffers of device `c`. -/
abbrev bufX (c : Dev nD) : Loc nD τ sig := (c : Thread nD τ).loc main_arg0
abbrev bufW (c : Dev nD) : Loc nD τ sig := (c : Thread nD τ).loc main_arg1
abbrev bufO (c : Dev nD) : Loc nD τ sig := (c : Thread nD τ).loc main_v1
abbrev bufXs (c : Dev nD) : Loc nD τ sig := (c : Thread nD τ).loc cc0_scratch0
abbrev bufXb (c : Dev nD) : Loc nD τ sig := (c : Thread nD τ).loc cc0_scratch1
abbrev bufWb (c : Dev nD) : Loc nD τ sig := (c : Thread nD τ).loc cc0_scratch2
abbrev bufSv (c : Dev nD) : Loc nD τ sig := (c : Thread nD τ).loc cc0_scratch3
abbrev bufRv (c : Dev nD) : Loc nD τ sig := (c : Thread nD τ).loc cc0_scratch4
abbrev bufOv (c : Dev nD) : Loc nD τ sig := (c : Thread nD τ).loc cc0_scratch5
abbrev bufAs (c : Dev nD) : Loc nD τ sig := (c : Thread nD τ).loc cc0_scratch6
abbrev bufAr (c : Dev nD) : Loc nD τ sig := (c : Thread nD τ).loc cc0_scratch7

/-- A half layer of the send buffer, filled; -/
def svD (c : Dev nD) (s : Fin 3) (h : Fin 2) : sProp 𝕄 :=
  (bufSv c) ↦[svSet s h]{fullShare} (sendC (xin m) (win m) c : Buf (Elt F) (bufSv c))
/-- holding anything. -/
def sv? (c : Dev nD) (s : Fin 3) (h : Fin 2) : sProp 𝕄 := iprop(∃ f : Buf (Elt F) (bufSv c), (bufSv c) ↦[svSet s h]{fullShare} f)
/-- A half layer of the receive buffer, filled; -/
def rvD (c o : Dev nD) (h : Fin 2) : sProp 𝕄 :=
  (bufRv c) ↦[rvSet o h]{fullShare} (recvC (xin m) (win m) c : Buf (Elt F) (bufRv c))
def rv? (c o : Dev nD) (h : Fin 2) : sProp 𝕄 := iprop(∃ f : Buf (Elt F) (bufRv c), (bufRv c) ↦[rvSet o h]{fullShare} f)
/-- A layer of the block of maxima, filled; -/
def arD (c o : Dev nD) : sProp 𝕄 := (bufAr c) ↦[arSet o]{fullShare} (amaxR (xin m) (win m) : Buf (Elt F) (bufAr c))
def ar? (c o : Dev nD) : sProp 𝕄 := iprop(∃ f : Buf (Elt F) (bufAr c), (bufAr c) ↦[arSet o]{fullShare} f)
/-- Share `p` of the block with the device's own maximum. -/
def asD (c p : Dev nD) : sProp 𝕄 :=
  (bufAs c) ↦[Finset.univ]{Transfers.shareTok fullShare 4 p} (amaxS (xin m) (win m) c : Buf (Elt F) (bufAs c))

instance svD_storable (c s h) : BI.Storable (upEmb : UEmb _ 𝕄) (svD m c s h) := by unfold svD; infer_instance
instance rvD_storable (c o h) : BI.Storable (upEmb : UEmb _ 𝕄) (rvD m c o h) := by unfold rvD; infer_instance
instance rvE_storable (c o h) : BI.Storable (upEmb : UEmb _ 𝕄) (rv? (F := F) c o h) := by unfold rv?; infer_instance
instance arD_storable (c o) : BI.Storable (upEmb : UEmb _ 𝕄) (arD m c o) := by unfold arD; infer_instance
instance arE_storable (c o) : BI.Storable (upEmb : UEmb _ 𝕄) (ar? (F := F) c o) := by unfold ar?; infer_instance
instance asD_storable (c p) : BI.Storable (upEmb : UEmb _ 𝕄) (asD m c p) := by unfold asD; infer_instance

/-! ## The schedule -/

/-- The credit of a half-block copy and of a copy of the maxima. -/
abbrev Nr : ℕ := ((Memref.whole cc0_scratch4 : Memref sig .tc .vmem S4x1024x512 .bf16).slice (Rect.unit (s := S4x1024x512) ![0, 0, 0] S1x512x512.size inb_S4x1024x512_S1x512x512_0_0_0) (fun _ => rfl)
  |>.squeeze S512x512 squeezes_S1x512x512_S512x512).view.dmaCredit
abbrev Na : ℕ := ((Memref.whole cc0_scratch7 : Memref sig .tc .vmem S4x8x128 .f32).slice (Rect.unit (s := S4x8x128) ![0, 0, 0] S1x8x128.size inb_S4x8x128_S1x8x128_0_0_0) (fun _ => rfl)
  |>.squeeze S8x128 squeezes_S1x8x128_S8x128).view.dmaCredit
theorem Nr_pos : 0 < Nr := View.dmaCredit_pos _ (by decide)
theorem Na_pos : 0 < Na := View.dmaCredit_pos _ (by decide)

/-- Who pays a cell of device `c`. -/
def payers (c : Dev nD) : CK → Finset (Dev nD)
  | .bar => Finset.univ.erase c
  | .send _ _ => {c}
  | .recv o _ => if o = c then ∅ else {o}
  | .asend p => if p = c then ∅ else {c}
  | .arecv o => if o = c then ∅ else {o}

/-- How much each payer pays. -/
def amt : CK → ℕ
  | .bar => 1
  | .send _ _ => Nr
  | .recv _ _ => Nr
  | .asend _ => Na
  | .arecv _ => Na

theorem amt_pos (k : CK) : 0 < amt k := by
  cases k <;> first | exact Nat.one_pos | exact Nr_pos | exact Na_pos

/-- What payer `p` hands device `c` through each cell. -/
def pay (c : Dev nD) (p : Dev nD) : CK → sProp 𝕄
  | .bar => iprop(rv? p c 0 ∗ rv? p c 1 ∗ ar? p c)
  | .send s h => svD m c s h
  | .recv o h => rvD m c o h
  | .asend q => asD m c q
  | .arecv o => arD m c o

instance pay_storable (c p k) : BI.Storable (upEmb : UEmb _ 𝕄) (pay m c p k) := by
  cases k <;> (unfold pay; infer_instance)

/-- The one round of every cell. -/
def Rd : Rounds.Schedule (GSem nD τ sig) (Dev nD) 𝕄 where
  duties g r := if r = 0 ∧ g.1.2 = .tc then (match dec g.2 with | some k => payers g.1.1 k | none => ∅) else ∅
  unitless _ := False
  amount g _ _ := match dec g.2 with | some k => amt k | none => 1
  payload g _ p := match dec g.2 with | some k => pay m g.1.1 p k | none => iprop(emp)
  amount_pos g _ _ _ := by
    split
    · exact amt_pos _
    · exact Nat.one_pos

instance Rd_storable (g : GSem nD τ sig) (r : ℕ) (p : Dev nD) : BI.Storable (upEmb : UEmb _ 𝕄) ((Rd m).payload g r p) := by
  show BI.Storable upEmb (match dec g.2 with | some k => pay m g.1.1 p k | none => iprop(emp))
  split <;> infer_instance

theorem duties_eq (c : Dev nD) (k : CK) : (Rd m).duties (cell c k) 0 = payers c k := by
  dsimp only [Rd]; rw [if_pos ⟨rfl, rfl⟩, dec_enc]
theorem duties_later (g : GSem nD τ sig) : ∀ r, 1 ≤ r → (Rd m).duties g r = ∅ :=
  fun r hr => by dsimp only [Rd]; exact if_neg fun h => by omega
theorem amount_eq (c : Dev nD) (k : CK) (p : Dev nD) : (Rd m).amount (cell c k) 0 p = amt k := by
  dsimp only [Rd]; rw [dec_enc]
theorem payload_eq (c : Dev nD) (k : CK) (p : Dev nD) : (Rd m).payload (cell c k) 0 p = pay m c p k := by
  dsimp only [Rd]; rw [dec_enc]
theorem expect_eq (c : Dev nD) (k : CK) : (Rd m).expect (cell c k) 0 = (payers c k).card * amt k := by
  unfold Schedule.expect Schedule.amountOf
  rw [duties_eq, Finset.sum_congr rfl fun p _ => amount_eq m c k p, Finset.sum_const, smul_eq_mul]
theorem rest_eq (c : Dev nD) (k : CK) :
    bigSep ((Rd m).duties (cell c k) 0 \ ∅) (fun p => (Rd m).payload (cell c k) 0 p) = bigSep (payers c k) fun p => pay m c p k := by
  rw [Finset.sdiff_empty, duties_eq]; exact bigSep_congr fun p _ => payload_eq m c k p

/-! ## What a device owes, in the order it pays -/

/-- The payments of device `c` to other devices' cells: the three signals, the six half-block copies, the three copies of the maximum (an entry
    for the device itself is of no unit). -/
def owedL (c : Dev nD) : List (GSem nD τ sig × ℕ) :=
  [(cell 0 .bar, if c = 0 then 0 else 1), (cell 1 .bar, if c = 1 then 0 else 1), (cell 2 .bar, if c = 2 then 0 else 1), (cell 3 .bar, if c = 3 then 0 else 1),
   (cell (peer c 2) (.recv c 0), Nr), (cell (peer c 2) (.recv c 1), Nr), (cell (peer c 1) (.recv c 0), Nr), (cell (peer c 1) (.recv c 1), Nr),
   (cell (peer c 3) (.recv c 0), Nr), (cell (peer c 3) (.recv c 1), Nr),
   (cell 0 (.arecv c), if c = 0 then 0 else Na), (cell 1 (.arecv c), if c = 1 then 0 else Na), (cell 2 (.arecv c), if c = 2 then 0 else Na), (cell 3 (.arecv c), if c = 3 then 0 else Na)]

def sumOf : List (GSem nD τ sig × ℕ) → CellTallies nD τ sig Unit
  | [] => 0
  | a :: l => sumOf l + tallyAt a.1 () a.2

/-- What is still owed after the first `n` payments. -/
def owed (c : Dev nD) (n : ℕ) : CellTallies nD τ sig Unit := sumOf ((owedL c).drop n)

theorem owed_end (c : Dev nD) : owed c 14 = 0 := rfl

theorem sumOf_pos {l : List (GSem nD τ sig × ℕ)} {g : GSem nD τ sig} {u : Unit} (h : 0 < sumOf l g u) : ∃ a ∈ l, a.1 = g := by
  induction l with
  | nil => exact absurd h (Nat.lt_irrefl 0)
  | cons a l ih =>
    by_cases e : a.1 = g
    · exact ⟨a, List.mem_cons_self, e⟩
    · have : sumOf (a :: l) g u = sumOf l g u := by
        show (sumOf l + tallyAt a.1 () a.2) g u = _
        rw [Pi.add_apply, Finsupp.add_apply, tallyAt_apply, if_neg (fun h' => e h'.1.symm), Nat.add_zero]
      rw [this] at h
      obtain ⟨b, hb, hg⟩ := ih h
      exact ⟨b, List.mem_cons_of_mem _ hb, hg⟩

/-! ## Levels -/

def L (g : GSem nD τ sig) : Finset Unit := if g.1.2 = .tc then {()} else ∅
/-- Local copies (and what is waited for when nothing is owed) lowest, the barrier next, the arrivals highest. -/
def lv (g : GSem nD τ sig) (_ : Unit) : ℕ := match dec g.2 with | some .bar => 1 | some (.recv _ _) => 2 | some (.arecv _) => 2 | _ => 0
theorem L_of_ne (g : GSem nD τ sig) (h : g.1.2 ≠ .tc) : L g = ∅ := if_neg h
theorem L_tc (c : Dev nD) (sm : SemLoc sig) : L ((c : Thread nD τ), sm) = {()} := if_pos rfl

theorem owedL_level (c : Dev nD) : ∀ a ∈ owedL c, a.1.1.2 = .tc ∧ 0 < lv a.1 () := by
  intro a ha
  simp only [owedL, List.mem_cons, List.not_mem_nil, or_false] at ha
  rcases ha with rfl | rfl | rfl | rfl | rfl | rfl | rfl | rfl | rfl | rfl | rfl | rfl | rfl | rfl <;>
    exact ⟨rfl, by simp only [lv, dec_enc]; decide⟩
theorem owedL_level4 (c : Dev nD) : ∀ a ∈ (owedL c).drop 4, a.1.1.2 = .tc ∧ 1 < lv a.1 () := by
  intro a ha
  simp only [owedL, List.drop, List.mem_cons, List.not_mem_nil, or_false] at ha
  rcases ha with rfl | rfl | rfl | rfl | rfl | rfl | rfl | rfl | rfl | rfl <;>
    exact ⟨rfl, by simp only [lv, dec_enc]; decide⟩

/-- A wait at a local copy's semaphore is below everything a device owes at any time. -/
theorem mayWait_local (c : Dev nD) (i : DmaSem sig) (hi : dec (.dma i) = none) (n : ℕ) :
    (levAts L lv : sProp 𝕄) ⊢ MayWait (c : Thread nD τ) (.dma i) () (owed c n) := by
  refine MayOwe.of_cut (L := L) (lev := lv) 0 (fun p hp => by rw [Finset.mem_singleton.mp hp, L_tc]; exact Finset.mem_singleton_self _)
    (fun g u hg => ?_) (fun p hp => by rw [Finset.mem_singleton.mp hp]; simp only [lv, hi]; decide) (fun g u hg => ?_) <;>
  obtain ⟨a, ha, rfl⟩ := sumOf_pos hg
  · have h := (owedL_level c a (List.mem_of_mem_drop ha)).1
    unfold L; rw [if_pos h]; exact Finset.mem_singleton_self _
  · exact (owedL_level c a (List.mem_of_mem_drop ha)).2

/-- The wait at the barrier is below everything owed once the signals are given. -/
theorem mayWait_bar (c : Dev nD) : (levAts L lv : sProp 𝕄) ⊢ MayWait (c : Thread nD τ) (enc .bar) () (owed c 4) := by
  refine MayOwe.of_cut (L := L) (lev := lv) 1 (fun p hp => by rw [Finset.mem_singleton.mp hp, L_tc]; exact Finset.mem_singleton_self _)
    (fun g u hg => ?_) (fun p hp => by rw [Finset.mem_singleton.mp hp]; simp only [lv, dec_enc]; decide) (fun g u hg => ?_) <;>
  obtain ⟨a, ha, rfl⟩ := sumOf_pos hg
  · have h := (owedL_level4 c a ha).1
    unfold L; rw [if_pos h]; exact Finset.mem_singleton_self _
  · exact (owedL_level4 c a ha).2

end Cert.A2A

end
-- ==== Proof.Geometry.lean ====
/-
# Where the elements of each piece lie

Every memref the kernel copies through, loads or stores is a rectangle of a whole buffer, some with a leading axis of
size one dropped. For each: the coordinates of an element, and that the elements are exactly one piece of the
protocol's.
-/
module

public import proofs.«01_k».proof.Proof.Protocol

@[expose] public section

noncomputable section

namespace Cert.A2A

open Cert.KernelIdeal Cert.KernelIdeal.Gen
open Idealize.ShloMosaic

variable {F : FTy → Type} [FloatOps F]

/-- A coordinate of an element of a unit-stride rectangle. -/
theorem unit_emb {s : Shape} {off size : Fin s.rank → ℕ} (inb : ∀ a, off a + size a ≤ s.size a) (j : (Rect.unit off size inb).shape.Idx) (a : Fin s.rank) :
    ((Rect.unit off size inb).emb j a).val = off a + (j a).val := by
  rw [Rect.emb_apply]; show off a + 1 * (j a).val = _; rw [Nat.one_mul]

/-- The memref of a rectangle of a whole buffer, -/
abbrev slc {sp : Space} {s : Shape} {e : EltTy} (b : Memref sig .tc sp s e) (off size : Fin s.rank → ℕ) (inb : ∀ a, off a + size a ≤ s.size a) :
    Memref sig .tc sp ⟨s.rank, size⟩ e := b.slice (Rect.unit off size inb) (fun _ => rfl)

section Three
variable {sp : Space} {l n m d d' : ℕ} {e : EltTy} (b : Memref sig .tc sp ⟨3, ![l, n, m]⟩ e) (off : Fin 3 → ℕ)
  (inb : ∀ a, off a + (![1, d, d'] : Fin 3 → ℕ) a ≤ (⟨3, ![l, n, m]⟩ : Shape).size a)
  (h : (⟨3, ![1, d, d']⟩ : Shape).Squeezes ⟨2, ![d, d']⟩)

/-- An element of a layer's rectangle, its leading axis dropped. -/
theorem sq_emb (y : (⟨2, ![d, d']⟩ : Shape).Idx) :
    ((slc b off ![1, d, d'] inb).squeeze ⟨2, ![d, d']⟩ h).view.emb y
      = b.view.emb (ix3 (off 0) (off 1 + (y 0).val) (off 2 + (y 1).val)
          (by have := inb 0; change off 0 + 1 ≤ l at this; omega)
          (by have := inb 1; change off 1 + d ≤ n at this; have := lt2_0 y; omega)
          (by have := inb 2; change off 2 + d' ≤ m at this; have := lt2_1 y; omega)) := by
  show b.view.emb ((Rect.unit (s := ⟨3, ![l, n, m]⟩) off ![1, d, d'] inb).emb (Shape.reshapeEquiv h.numel_eq y)) = _
  congr 1
  have hr : Shape.reshapeEquiv h.numel_eq y = ix3 0 (y 0).val (y 1).val (by decide) (lt2_0 y) (lt2_1 y) := by
    refine (Shape.reshapeEquiv_cons_one h.numel_eq y).trans ?_
    exact ext3 rfl rfl rfl
  rw [hr]
  exact ext3 (unit_emb inb _ 0) (unit_emb inb _ 1) (unit_emb inb _ 2)

theorem slc_emb3 {d0 : ℕ} (inb : ∀ a, off a + (![d0, d, d'] : Fin 3 → ℕ) a ≤ (⟨3, ![l, n, m]⟩ : Shape).size a) (y : (⟨3, ![d0, d, d']⟩ : Shape).Idx) :
    (slc b off ![d0, d, d'] inb).view.emb y
      = b.view.emb (ix3 (off 0 + (y 0).val) (off 1 + (y 1).val) (off 2 + (y 2).val)
          (by have := inb 0; change off 0 + d0 ≤ l at this; have := lt3_0 y; omega)
          (by have := inb 1; change off 1 + d ≤ n at this; have := lt3_1 y; omega)
          (by have := inb 2; change off 2 + d' ≤ m at this; have := lt3_2 y; omega)) := by
  show b.view.emb ((Rect.unit (s := ⟨3, ![l, n, m]⟩) off ![d0, d, d'] inb).emb y) = _
  congr 1
  exact ext3 (unit_emb inb _ 0) (unit_emb inb _ 1) (unit_emb inb _ 2)
end Three

section Two
variable {sp : Space} {n m d d' : ℕ} {e : EltTy} (b : Memref sig .tc sp ⟨2, ![n, m]⟩ e) (off : Fin 2 → ℕ)
  (inb : ∀ a, off a + (![d, d'] : Fin 2 → ℕ) a ≤ (⟨2, ![n, m]⟩ : Shape).size a)

theorem slc_emb2 (y : (⟨2, ![d, d']⟩ : Shape).Idx) :
    (slc b off ![d, d'] inb).view.emb y
      = b.view.emb (ix2 (off 0 + (y 0).val) (off 1 + (y 1).val)
          (by have := inb 0; change off 0 + d ≤ n at this; have := lt2_0 y; omega)
          (by have := inb 1; change off 1 + d' ≤ m at this; have := lt2_1 y; omega)) := by
  show b.view.emb ((Rect.unit (s := ⟨2, ![n, m]⟩) off ![d, d'] inb).emb y) = _
  congr 1
  exact ext2 (unit_emb inb _ 0) (unit_emb inb _ 1)
end Two

end Cert.A2A

end
-- ==== Proof.Local.lean ====
/-
# Local copies, loads and stores

A device's own copies are on three pairs of semaphores, one copy at a time on each. A slot is idle (nothing known of
its contents), in flight, or landed (holding a known content); the three lemmas of each buffer move it from one state
to the next. Loads and stores are stated with the value they read or leave.
-/
module

public import proofs.«01_k».proof.Proof.Geometry

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)
variable (κ : Dev nD × CK → ℕ)

/-- The program's continuations and postconditions. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What everyone knows of every cell: its invariant, and that its round is open. -/
def records : sProp 𝕄 :=
  iprop((bigSep Finset.univ fun p : Dev nD × CK => cellInv EB (Rd m) (κ p) (cell p.1 p.2))
    ∗ bigSep Finset.univ fun p : Dev nD × CK => reached EB (cell p.1 p.2) 0)
instance : BI.Persistent (records m κ) := by unfold records; infer_instance

theorem big_elim {I : Type} [Fintype I] [DecidableEq I] (Φ : I → sProp 𝕄) (i : I) : bigSep Finset.univ Φ ⊢ Φ i := bigSep_elim (Finset.mem_univ i)
theorem records_inv (c : Dev nD) (k : CK) : records m κ ⊢ cellInv EB (Rd m) (κ (c, k)) (cell c k) := by
  unfold records
  iintro ⟨H, -⟩
  iapply (big_elim (fun p : Dev nD × CK => cellInv EB (Rd m) (κ p) (cell p.1 p.2)) (c, k)) $$ H
theorem records_reached (c : Dev nD) (k : CK) : records m κ ⊢ reached EB (cell c k) 0 := by
  unfold records
  iintro ⟨-, H⟩
  iapply (big_elim (fun p : Dev nD × CK => reached EB (cell p.1 p.2) 0) (c, k)) $$ H

/-- What device `c` holds after its first `n` payments: the rest it owes, and what everyone knows. -/
def Ow (c : Dev nD) (n : ℕ) : sProp 𝕄 := iprop(records m κ ∗ levAts L lv ∗ ∃ W, owes (c : Thread nD τ) (owed c n) W)

/-! ## Copies -/

section Copy
variable {c : Dev nD} {ℓd ℓs : Loc nD τ sig}

/-- A slot `Sd` of `ℓd`, its source elements `Ss` of `ℓs` holding `fs`, and the semaphore at zero. -/
def Idle (ℓd : Loc nD τ sig) (Sd : Finset (Idx ℓd)) (ℓs : Loc nD τ sig) (Ss : Finset (Idx ℓs)) (q : PosShare TreeShare) (fs : Buf (Elt F) ℓs)
    (c : Dev nD) (i : DmaSem sig) : sProp 𝕄 :=
  iprop((∃ f : Buf (Elt F) ℓd, ℓd ↦[Sd]{fullShare} f) ∗ (ℓs ↦[Ss]{q} fs) ∗ semVal ((c : Thread nD τ), .dma i) 0)
/-- The copy in flight, to leave `g` in the slot. -/
def Fly (ℓd : Loc nD τ sig) (Sd : Finset (Idx ℓd)) (g : Buf (Elt F) ℓd) (ℓs : Loc nD τ sig) (Ss : Finset (Idx ℓs)) (q : PosShare TreeShare) (fs : Buf (Elt F) ℓs)
    (c : Dev nD) (i : DmaSem sig) (N : ℕ) : sProp 𝕄 :=
  iprop(∃ I : Finset (Idx ℓs), ⌜I ⊆ Ss⌝ ∗ Transfers.Flight EC (c : Thread nD τ) (.dma i) () N iprop((ℓd ↦[Sd]{fullShare} g) ∗ (ℓs ↦[I]{q} fs)) ∗ (ℓs ↦[Ss \ I]{q} fs))
/-- The copy landed. -/
def Landed (ℓd : Loc nD τ sig) (Sd : Finset (Idx ℓd)) (g : Buf (Elt F) ℓd) (ℓs : Loc nD τ sig) (Ss : Finset (Idx ℓs)) (q : PosShare TreeShare) (fs : Buf (Elt F) ℓs)
    (c : Dev nD) (i : DmaSem sig) : sProp 𝕄 :=
  iprop((ℓd ↦[Sd]{fullShare} g) ∗ (ℓs ↦[Ss]{q} fs) ∗ semVal ((c : Thread nD τ), .dma i) 0)

variable {sp sp' : Space} {s : Shape} {e : EltTy} {src : Memref sig .tc sp s e} {dst : Memref sig .tc sp' s e}
variable {α : Type} {Q : α → sProp (MT nD τ sig Unit (Elt F) ℕ UU ℕ)}

theorem copy_start {i : DmaSem sig} {hsrc : src.view.WordExact} {hdst : (DmaTarget.here (nD := nD) (τ := τ) (p := .tc) dst).view.WordExact}
    {hsem : DmaTarget.Typed (nD := nD) (τ := τ) (p := .tc) sp (.dma i) (.here dst)}
    {k : PUnit → Prog (TpuEff nD τ sig (Elt F) Λ₀ .tc) α} {q : PosShare TreeShare}
    {fs : Buf (Elt F) (src.view.loc (c : Thread nD τ))} {Ss : Finset (Idx (src.view.loc (c : Thread nD τ)))}
    {Sd : Finset (Idx (dst.view.loc (c : Thread nD τ)))} {g : Buf (Elt F) (dst.view.loc (c : Thread nD τ))}
    (N : ℕ) (hN : dst.view.dmaCredit = N) (hN0 : 0 < N) (hSs : src.view.set ⊆ Ss) (hSd : dst.view.set ⊆ Sd)
    (hg : ∀ fd, ∀ j ∈ Sd, dst.view.write (Elt F) fd (src.view.read (Elt F) fs) Finset.univ j = g j) :
    Idle (dst.view.loc (c : Thread nD τ)) Sd (src.view.loc (c : Thread nD τ)) Ss q fs c i
      ⊢ iprop((Fly (dst.view.loc (c : Thread nD τ)) Sd g (src.view.loc (c : Thread nD τ)) Ss q fs c i N -∗ WP c (k ⟨⟩) Q)
          -∗ WP c (.op (.enqueueDma src (.here dst) (.dma i) hsrc hdst hsem) k) Q) := by
  unfold Idle Fly
  iintro ⟨⟨%fd, Hd⟩, Hs, Hv⟩ Hk
  ihave Hs' := (pointsTo_split_subset hSs).1 $$ Hs
  icases Hs' with ⟨Hs, Hr⟩
  iapply (Transfers.wp_dmaLocal EC 𝒱₀ (c : Thread nD τ) none (sm := .dma i) () N hN hN0 hSd) $$ [Hs Hd Hv]
  · isplitl [Hs]; · iexact Hs
    isplitl [Hd] <;> iassumption
  iintro HF
  iapply Hk
  iexists src.view.set
  isplitr; · ipureintro; exact hSs
  isplitl [HF]
  · iapply (Transfers.Flight_mono EC (c : Thread nD τ) (sep_mono_left (Entails.of_eq (pointsTo_congr fun j hj => hg fd j hj)))) $$ HF
  · iexact Hr

theorem copy_wait {n : ℕ} {i : DmaSem sig} (hi : dec (.dma i) = none) {sp₁ sp₂ : Space} {s₁ s₂ : Shape} {e₁ e₂ : EltTy}
    {srcw : Memref sig .tc sp₁ s₁ e₁} {dstw : Memref sig .tc sp₂ s₂ e₂} {hsrc : srcw.view.WordExact} {hdst : dstw.view.WordExact}
    {k : PUnit → Prog (TpuEff nD τ sig (Elt F) Λ₀ .tc) α} {q : PosShare TreeShare}
    {ℓd ℓs : Loc nD τ sig} {fs : Buf (Elt F) ℓs} {Ss : Finset (Idx ℓs)} {Sd : Finset (Idx ℓd)} {g : Buf (Elt F) ℓd}
    {N : ℕ} (hN : dstw.view.dmaCredit = N) :
    iprop(Fly ℓd Sd g ℓs Ss q fs c i N ∗ Ow m κ c n)
      ⊢ iprop((iprop(Landed ℓd Sd g ℓs Ss q fs c i ∗ Ow m κ c n) -∗ WP c (k ⟨⟩) Q)
          -∗ WP c (.op (.waitDma2 i srcw dstw hsrc hdst) k) Q) := by
  unfold Landed Fly Ow
  iintro ⟨⟨%I, %hI, HF, Hr⟩, #Hrec, #Hlev, %W, HO⟩ Hk
  iapply (Transfers.wp_waitLocalO EC 𝒱₀ (c : Thread nD τ) none () hN (O := owed c n) (W := W)) $$ [HF HO]
  · isplitl [HF]; · iexact HF
    isplitl [HO]; · iexact HO
    iapply (mayWait_local c i hi n); iexact Hlev
  iintro ⟨⟨Hd, Hs⟩, Hv, HO⟩
  iapply Hk
  isplitr [HO]
  · isplitl [Hd]; · iexact Hd
    isplitl [Hs Hr]
    · iapply (pointsTo_split_subset hI).2
      isplitl [Hs] <;> iassumption
    · iexact Hv
  · isplitr; · iexact Hrec
    isplitr; · iexact Hlev
    iexists (insert (SemLoc.dma i, ()) W); iexact HO

/-! ## Loads and stores -/

theorem load_as {cs : CoreSpace} {b : Memref sig .tc cs s e} {r : LoadRect s} {hl : b.view.LoadsAt r} {k : (r.shape.Idx → Elt F e) → Prog (TpuEff nD τ sig (Elt F) Λ₀ .tc) α}
    {S : Finset (Idx (b.view.loc (c : Thread nD τ)))} {q : PosShare TreeShare} {f : Buf (Elt F) (b.view.loc (c : Thread nD τ))} (v : r.shape.Idx → Elt F e)
    (hS : b.view.setOn r.set ⊆ S) (hv : b.view.readAt (Elt F) r f = v) :
    (b.view.loc (c : Thread nD τ) ↦[S]{q} f)
      ⊢ iprop(((b.view.loc (c : Thread nD τ) ↦[S]{q} f) -∗ WP c (k v) Q) -∗ WP c (.op (.load b r hl) k) Q) := by
  subst hv
  exact wp_load 𝒱₀ (c : Thread nD τ) none Set.univ (m := b) hS

theorem store_as {cs : CoreSpace} {b : Memref sig .tc cs s e} {r : Rect s} {w : r.shape.Idx → Elt F e} {hx : (b.access r).Stores Finset.univ} {hm : (Finset.univ : Finset r.shape.Idx) = Finset.univ ∨ ∀ a, r.stride a = 1}
    {k : PUnit → Prog (TpuEff nD τ sig (Elt F) Λ₀ .tc) α} {S : Finset (Idx (b.view.loc (c : Thread nD τ)))} {f g : Buf (Elt F) (b.view.loc (c : Thread nD τ))}
    (hS : (b.access r).set ⊆ S) (hg : ∀ j ∈ S, (b.access r).write (Elt F) f w Finset.univ j = g j) :
    (b.view.loc (c : Thread nD τ) ↦[S]{fullShare} f)
      ⊢ iprop(((b.view.loc (c : Thread nD τ) ↦[S]{fullShare} g) -∗ WP c (k ⟨⟩) Q) -∗ WP c (.op (.store b r w Finset.univ hx hm) k) Q) := by
  rw [← pointsTo_congr (ℓ := b.view.loc (c : Thread nD τ)) hg]
  exact wp_store 𝒱₀ (c : Thread nD τ) none Set.univ (m := b) (r := r) (Mk := Finset.univ) hS

end Copy

end Cert.A2A

end
-- ==== Proof.Payloads.lean ====
/-
# What the kernel stores

Each value the program computes before a store, as a function of the inputs.
-/
module

public import proofs.«01_k».proof.Proof.Contents
public import Idealize.ShloMosaic.Lib.Pipeline.Value

@[expose] public section

noncomputable section

namespace Cert.A2A

open Cert.KernelIdeal Cert.KernelIdeal.Gen
open Idealize.ShloMosaic

variable {F : FTy → Type} [FloatOps F]
variable (x : Dev nD → Vec F S1024x4096 .f32) (w : Dev nD → Vec F S4096x2048 .f32)

/-- A strip rounded to bf16. -/
theorem pay1_strip (c : Dev nD) (k : Fin 8) :
    k0_pay1 (xstrip x c k) = fun j => xb x c (ix2 (128 * k.val + (j 0).val) (j 1).val (by have := lt2_0 j; have := k.isLt; omega) (lt2_1 j)) := by
  funext j
  unfold k0_pay1
  rw [shapeCast_self]
  show FloatOps.truncf .bf16 bitsLt_bf16_f32 (shapeCast S128x4096 (xstrip x c k) shapeCasts_S1x128x4096_S128x4096 j) = _
  rw [show shapeCast S128x4096 (xstrip x c k) shapeCasts_S1x128x4096_S128x4096 j = xstrip x c k (ix3 0 (j 0).val (j 1).val (by decide) (lt2_0 j) (lt2_1 j)) from
    (shapeCast_dropUnit_apply ![128, 4096] _ shapeCasts_S1x128x4096_S128x4096 j).trans (congrArg _ (ext3 rfl rfl rfl))]
  rfl

/-- A half product as the send and receive buffers hold it. -/
theorem pay8_half (o p : Dev nD) (h : Fin 2) :
    k0_pay8 (xhalf x o h) (wblk w o p) = fun j => prodb x w o p h (ix2 (j 1).val (j 2).val (lt3_1 j) (lt3_2 j)) := by
  funext j
  unfold k0_pay8
  refine (shapeCast_addUnit_apply ![512, 512] (prodb x w o p h) shapeCasts_S512x512_S1x512x512 j).trans ?_
  have e : (fun a => j a.succ : S512x512.Idx) = ix2 (j 1).val (j 2).val (lt3_1 j) (lt3_2 j) := by
    funext a
    match a with
    | ⟨0, _⟩ => rfl
    | ⟨1, _⟩ => rfl
  exact congrArg (prodb x w o p h) e

/-- The maximum, spread over the block that is sent. -/
theorem pay44_const (v : FVec F S8x128 .f32) : k0_pay44 v = v := by
  unfold k0_pay44; exact shapeCast_self _ _
theorem pay44_amax (c : Dev nD) : k0_pay44 (k0_pay43 (acc7 x w c) (xhalf x c 1) (wblk w c (peer c 0))) = amaxS x w c := by
  rw [pay44_const]; unfold k0_pay43 amaxS amax
  generalize k0_pay42 (acc7 x w c) (xhalf x c 1) (wblk w c (peer c 0)) = v
  rfl
theorem pay45_const (v : F .f32) : k0_pay45 v = fun _ => v := rfl

end Cert.A2A

end
-- ==== Proof.Slots.lean ====
/-
# The slots of the local copies

The strips of `x`, the column blocks of `w` and the finished blocks: each slot's three states, and the copies, waits,
loads and stores that move it between them.
-/
module

public import proofs.«01_k».proof.Proof.Local
public import proofs.«01_k».proof.Proof.Payloads

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)

theorem set_sub {κ' : Kind} {sp : Space} {s : Shape} {e : EltTy} {v : View sig κ' sp s e} {S : Finset v.ty.Idx} (h : ∀ y, v.emb y ∈ S) : v.set ⊆ S := by
  intro j hj
  obtain ⟨y, -, rfl⟩ := Finset.mem_map.mp hj
  exact h y

theorem write_at {κ' : Kind} {sp : Space} {s : Shape} {e : EltTy} {v : View sig κ' sp s e} {fd : v.ty.Contents (Elt F)} {w : s.Idx → Elt F e} {j : v.ty.Idx} {y : s.Idx}
    (h : v.emb y = j) : v.write (Elt F) fd w Finset.univ j = cast (congrArg (Elt F) v.elt_eq.symm) (w y) := by
  subst h; exact View.write_emb_of_mem _ _ (Finset.mem_univ y)

variable {c : Dev nD} {α : Type} {Q : α → sProp (MT nD τ sig Unit (Elt F) ℕ UU ℕ)} {kk : PUnit → Prog (TpuEff nD τ sig (Elt F) Λ₀ .tc) α}

/-! ## Strips of `x` -/

/-- A slot's contents once strip `k` has landed. -/
def xsC (x : Dev nD → Vec F S1024x4096 .f32) (c : Dev nD) (k : Fin 8) : Vec F S2x128x4096 .f32 := fun i =>
  x c (ix2 (128 * k.val + (i 1).val) (i 2).val (by have := lt3_1 i; have := k.isLt; omega) (lt3_2 i))

/-- Half of the right to read `x` goes with each slot. -/
def xsh (q : Fin 2) : PosShare TreeShare := if q = 0 then fullShare.left else fullShare.right

abbrev Nx : ℕ := ((slc (Memref.whole cc0_scratch0 : Memref sig .tc .vmem S2x128x4096 .f32) ![0, 0, 0] S1x128x4096.size inb_S2x128x4096_S1x128x4096_0_0_0).squeeze S128x4096 squeezes_S1x128x4096_S128x4096).view.dmaCredit

def XIdle (c : Dev nD) (q : Fin 2) : sProp 𝕄 := Idle (bufXs c) (xsSet q) (bufX c) Finset.univ (xsh q) (xin m c) c (xsem q)
def XFly (c : Dev nD) (q : Fin 2) (k : Fin 8) : sProp 𝕄 := Fly (bufXs c) (xsSet q) (xsC (xin m) c k) (bufX c) Finset.univ (xsh q) (xin m c) c (xsem q) Nx
def XHas (c : Dev nD) (q : Fin 2) (k : Fin 8) : sProp 𝕄 := Landed (bufXs c) (xsSet q) (xsC (xin m) c k) (bufX c) Finset.univ (xsh q) (xin m c) c (xsem q)

theorem XHas_idle (q : Fin 2) (k : Fin 8) : XHas m c q k ⊢ XIdle m c q := by
  unfold XHas XIdle Landed Idle
  iintro ⟨H, Hs, Hv⟩
  isplitl [H]; · iexists _; iexact H
  isplitl [Hs] <;> iassumption

section X
variable {off : Fin 2 → ℕ} {off' : Fin 3 → ℕ} {inb : ∀ a, off a + S128x4096.size a ≤ S1024x4096.size a} {inb' : ∀ a, off' a + S1x128x4096.size a ≤ S2x128x4096.size a}
  {hq : S1x128x4096.Squeezes S128x4096}

abbrev xsrc (off : Fin 2 → ℕ) (inb : ∀ a, off a + S128x4096.size a ≤ S1024x4096.size a) : Memref sig .tc .hbm S128x4096 .f32 :=
  slc (Memref.whole main_arg0 : Memref sig .tc .hbm S1024x4096 .f32) off S128x4096.size inb
abbrev xdst (off' : Fin 3 → ℕ) (inb' : ∀ a, off' a + S1x128x4096.size a ≤ S2x128x4096.size a) (hq : S1x128x4096.Squeezes S128x4096) : Memref sig .tc .vmem S128x4096 .f32 :=
  (slc (Memref.whole cc0_scratch0 : Memref sig .tc .vmem S2x128x4096 .f32) off' S1x128x4096.size inb').squeeze S128x4096 hq

theorem xdst_emb (q : Fin 2) (hoff' : off' = ![q.val, 0, 0]) (y : S128x4096.Idx) :
    (xdst off' inb' hq).view.emb y = ix3 q.val (y 0).val (y 1).val q.isLt (lt2_0 y) (lt2_1 y) := by
  subst hoff'
  exact (sq_emb (Memref.whole cc0_scratch0 : Memref sig .tc .vmem S2x128x4096 .f32) ![q.val, 0, 0] inb' hq y).trans
    (ext3 rfl (Nat.zero_add _) (Nat.zero_add _))
theorem xsrc_emb (k : Fin 8) (hoff : off = ![128 * k.val, 0]) (y : S128x4096.Idx) :
    (xsrc off inb).view.emb y = ix2 (128 * k.val + (y 0).val) (y 1).val (by have := lt2_0 y; have := k.isLt; omega) (lt2_1 y) := by
  subst hoff
  exact (slc_emb2 (Memref.whole main_arg0 : Memref sig .tc .hbm S1024x4096 .f32) ![128 * k.val, 0] inb y).trans (ext2 rfl (Nat.zero_add _))
theorem xdst_sub (q : Fin 2) (hoff' : off' = ![q.val, 0, 0]) : (xdst off' inb' hq).view.set ⊆ xsSet q :=
  set_sub fun y => by rw [xdst_emb q hoff']; exact Finset.mem_filter.mpr ⟨Finset.mem_univ _, rfl⟩
theorem x_landing (q : Fin 2) (k : Fin 8) (hoff : off = ![128 * k.val, 0]) (hoff' : off' = ![q.val, 0, 0]) (x : Dev nD → Vec F S1024x4096 .f32)
    (fd : Vec F S2x128x4096 .f32) (j : S2x128x4096.Idx) (hj : j ∈ xsSet q) :
    (xdst off' inb' hq).view.write (Elt F) fd ((xsrc off inb).view.read (Elt F) (x c)) Finset.univ j = xsC x c k j := by
  have hj0 : (j 0).val = q.val := (Finset.mem_filter.mp hj).2
  have hy : (xdst off' inb' hq).view.emb (ix2 (j 1).val (j 2).val (lt3_1 j) (lt3_2 j)) = j := by
    rw [xdst_emb q hoff']; exact ext3 hj0.symm rfl rfl
  refine (write_at hy).trans ?_
  exact congrArg (x c) (xsrc_emb k hoff _)

theorem x_start (q : Fin 2) (k : Fin 8) (hoff : off = ![128 * k.val, 0]) (hoff' : off' = ![q.val, 0, 0]) {i : DmaSem sig} (hi : i = xsem q)
    {hsrc} {hdst} {hsem} :
    XIdle m c q ⊢ iprop((XFly m c q k -∗ WP c (kk ⟨⟩) Q)
      -∗ WP c (.op (.enqueueDma (xsrc off inb) (.here (xdst off' inb' hq)) (.dma i) hsrc hdst hsem) kk) Q) := by
  subst hi
  exact copy_start (src := xsrc off inb) (dst := xdst off' inb' hq) Nx rfl (View.dmaCredit_pos _ (by decide)) (Finset.subset_univ _) (xdst_sub q hoff') (fun fd j hj => x_landing q k hoff hoff' (xin m) fd j hj)

theorem x_wait (q : Fin 2) (k : Fin 8) {n : ℕ} {i : DmaSem sig} (hi : i = xsem q) {hsrc} {hdst} :
    iprop(XFly m c q k ∗ Ow m κ c n) ⊢ iprop((iprop(XHas m c q k ∗ Ow m κ c n) -∗ WP c (kk ⟨⟩) Q)
      -∗ WP c (.op (.waitDma2 i (xsrc off inb) (xdst off' inb' hq) hsrc hdst) kk) Q) := by
  subst hi
  exact copy_wait m κ (by revert q; decide) rfl

theorem x_load (q : Fin 2) (k : Fin 8) (hoff' : off' = ![q.val, 0, 0]) {hl} {kv : Vec F S1x128x4096 .f32 → Prog (TpuEff nD τ sig (Elt F) Λ₀ .tc) α} :
    XHas m c q k ⊢ iprop((XHas m c q k -∗ WP c (kv (xstrip (xin m) c k)) Q)
      -∗ WP c (.op (.load (Memref.whole cc0_scratch0 : Memref sig .tc .vmem S2x128x4096 .f32) (Rect.unit (s := S2x128x4096) off' S1x128x4096.size inb').toLoadRect hl) kv) Q) := by
  subst hoff'
  unfold XHas Landed
  iintro ⟨H, Hs, Hv⟩ Hk
  iapply (load_as (b := (Memref.whole cc0_scratch0 : Memref sig .tc .vmem S2x128x4096 .f32)) (xstrip (xin m) c k) ?_ ?_) $$ H
  · intro j hj
    obtain ⟨y, hy, rfl⟩ := Finset.mem_map.mp hj
    have := (Rect.mem_set_unit (inb := inb')).mp hy 0
    exact Finset.mem_filter.mpr ⟨Finset.mem_univ _, by
      have h1 : q.val ≤ (y 0).val := this.1
      have h2 : (y 0).val < q.val + 1 := this.2
      show (y 0).val = q.val; omega⟩
  · funext y
    exact congrArg (xin m c) (ext2 (congrArg (128 * k.val + ·) ((unit_emb inb' y 1).trans (Nat.zero_add _))) ((unit_emb inb' y 2).trans (Nat.zero_add _)))
  iintro H
  iapply Hk
  isplitl [H]; · iexact H
  isplitl [Hs] <;> iassumption
end X

/-! ## The rounded rows -/

/-- The first `k` strips of the rounded rows are in place. -/
def XB (c : Dev nD) (k : ℕ) : sProp 𝕄 :=
  iprop(∃ f : Vec F S1024x4096 .bf16, ⌜∀ i : S1024x4096.Idx, (i 0).val < 128 * k → f i = xb (xin m) c i⌝ ∗ ((bufXb c) ↦[Finset.univ]{fullShare} (f : Buf (Elt F) (bufXb c))))

section XBs
variable {off : Fin 2 → ℕ}

theorem xb_dead (k : ℕ) {inb : ∀ a, off a + S128x4096.size a ≤ S1024x4096.size a} {hl} {kd : Prog (TpuEff nD τ sig (Elt F) Λ₀ .tc) α} :
    XB m c k ⊢ iprop((XB m c k -∗ WP c kd Q)
      -∗ WP c (.op (.load (Memref.whole cc0_scratch1 : Memref sig .tc .vmem S1024x4096 .bf16) (Rect.unit (s := S1024x4096) off S128x4096.size inb).toLoadRect hl) (fun _ => kd)) Q) := by
  unfold XB
  iintro ⟨%f, %hf, H⟩ Hk
  iapply (load_as (b := (Memref.whole cc0_scratch1 : Memref sig .tc .vmem S1024x4096 .bf16)) _ (Finset.subset_univ _) rfl) $$ H
  iintro H
  iapply Hk
  iexists f
  isplitr; · ipureintro; exact hf
  iexact H

abbrev xbacc (off : Fin 2 → ℕ) (inb : ∀ a, off a + S128x4096.size a ≤ S1024x4096.size a) :=
  (Memref.whole cc0_scratch1 : Memref sig .tc .vmem S1024x4096 .bf16).access (Rect.unit (s := S1024x4096) off S128x4096.size inb)

theorem xbacc_emb (k : Fin 8) (hoff : off = ![128 * k.val, 0]) {inb : ∀ a, off a + S128x4096.size a ≤ S1024x4096.size a} (y : S128x4096.Idx) :
    (xbacc off inb).emb y = ix2 (128 * k.val + (y 0).val) (y 1).val (by have := lt2_0 y; have := k.isLt; omega) (lt2_1 y) := by
  subst hoff
  exact ext2 (unit_emb (s := S1024x4096) inb y 0) ((unit_emb (s := S1024x4096) inb y 1).trans (Nat.zero_add _))

theorem xb_write (k : Fin 8) (hoff : off = ![128 * k.val, 0]) {inb : ∀ a, off a + S128x4096.size a ≤ S1024x4096.size a} (x : Dev nD → Vec F S1024x4096 .f32)
    (f : Vec F S1024x4096 .bf16) (hf : ∀ i : S1024x4096.Idx, (i 0).val < 128 * k.val → f i = xb x c i) (i : S1024x4096.Idx) (hi : (i 0).val < 128 * (k.val + 1)) :
    (xbacc off inb).write (Elt F) f (k0_pay1 (xstrip x c k)) Finset.univ i = xb x c i := by
  by_cases h : (i 0).val < 128 * k.val
  · refine (View.write_of_not_mem (v := xbacc off inb) f (k0_pay1 (xstrip x c k)) Finset.univ fun hm => ?_).trans (hf i h)
    obtain ⟨y, -, hy⟩ := Finset.mem_map.mp hm
    rw [xbacc_emb k hoff] at hy
    have h0 : 128 * k.val + (y 0).val = (i 0).val := congrArg (fun z : S1024x4096.Idx => (z 0).val) hy
    omega
  · have hy : (xbacc off inb).emb (ix2 ((i 0).val - 128 * k.val) (i 1).val (by omega) (lt2_1 i) : S128x4096.Idx) = i := by
      rw [xbacc_emb k hoff]
      exact ext2 (by show 128 * k.val + ((i 0).val - 128 * k.val) = _; omega) rfl
    refine (write_at hy).trans ?_
    rw [pay1_strip]
    exact congrArg (xb x c) (ext2 (by show 128 * k.val + ((i 0).val - 128 * k.val) = _; omega) rfl)

theorem xb_store (k : Fin 8) (hoff : off = ![128 * k.val, 0]) {inb : ∀ a, off a + S128x4096.size a ≤ S1024x4096.size a} {hx} {hm} {v : FVec F S128x4096 .bf16}
    (hv : v = k0_pay1 (xstrip (xin m) c k)) :
    XB m c k.val ⊢ iprop((XB m c (k.val + 1) -∗ WP c (kk ⟨⟩) Q)
      -∗ WP c (.op (.store (Memref.whole cc0_scratch1 : Memref sig .tc .vmem S1024x4096 .bf16) (Rect.unit (s := S1024x4096) off S128x4096.size inb) v Finset.univ hx hm) kk) Q) := by
  subst hv
  unfold XB
  iintro ⟨%f, %hf, H⟩ Hk
  iapply (store_as (b := (Memref.whole cc0_scratch1 : Memref sig .tc .vmem S1024x4096 .bf16)) (r := Rect.unit (s := S1024x4096) off S128x4096.size inb)
    (g := (xbacc off inb).write (Elt F) f (k0_pay1 (xstrip (xin m) c k)) Finset.univ) (Finset.subset_univ _) (fun j _ => rfl)) $$ H
  iintro H
  iapply Hk
  iexists ((xbacc off inb).write (Elt F) f (k0_pay1 (xstrip (xin m) c k)) Finset.univ)
  isplitr
  · ipureintro
    exact xb_write k hoff (xin m) f hf
  · iexact H

theorem xb_load (k : ℕ) (h : Fin 2) (hk : 4 * (h.val + 1) ≤ k) (hoff : off = ![512 * h.val, 0]) {inb : ∀ a, off a + S512x4096.size a ≤ S1024x4096.size a} {hl}
    {kv : Vec F S512x4096 .bf16 → Prog (TpuEff nD τ sig (Elt F) Λ₀ .tc) α} :
    XB m c k ⊢ iprop((XB m c k -∗ WP c (kv (xhalf (xin m) c h)) Q)
      -∗ WP c (.op (.load (Memref.whole cc0_scratch1 : Memref sig .tc .vmem S1024x4096 .bf16) (Rect.unit (s := S1024x4096) off S512x4096.size inb).toLoadRect hl) kv) Q) := by
  subst hoff
  unfold XB
  iintro ⟨%f, %hf, H⟩ Hk
  iapply (load_as (b := (Memref.whole cc0_scratch1 : Memref sig .tc .vmem S1024x4096 .bf16)) (xhalf (xin m) c h) (Finset.subset_univ _) ?_) $$ H
  · funext y
    have he : (Rect.unit (s := S1024x4096) ![512 * h.val, 0] S512x4096.size inb).emb y
        = ix2 (512 * h.val + (y 0).val) (y 1).val (by have := lt2_0 y; have := h.isLt; omega) (lt2_1 y) :=
      ext2 (unit_emb (s := S1024x4096) inb y 0) ((unit_emb (s := S1024x4096) inb y 1).trans (Nat.zero_add _))
    refine (congrArg f he).trans (hf _ ?_)
    have := lt2_0 y
    show 512 * h.val + (y 0).val < 128 * k
    omega
  iintro H
  iapply Hk
  iexists f
  isplitr; · ipureintro; exact hf
  iexact H
end XBs

/-! ## Column blocks of `w` -/

/-- A slot's contents once column block `t` has landed. -/
def wC (w : Dev nD → Vec F S4096x2048 .f32) (c : Dev nD) (t : Fin 4) : Vec F S2x4096x512 .f32 := fun i =>
  w c (ix2 (i 1).val (512 * t.val + (i 2).val) (lt3_1 i) (by have := lt3_2 i; have := t.isLt; omega))

abbrev Nw : ℕ := ((slc (Memref.whole cc0_scratch2 : Memref sig .tc .vmem S2x4096x512 .f32) ![0, 0, 0] S1x4096x512.size inb_S2x4096x512_S1x4096x512_0_0_0).squeeze S4096x512 squeezes_S1x4096x512_S4096x512).view.dmaCredit

def WIdle (c : Dev nD) (q : Fin 2) : sProp 𝕄 := Idle (bufWb c) (wbSet q) (bufW c) Finset.univ (xsh q) (win m c) c (wsem q)
def WFly (c : Dev nD) (q : Fin 2) (t : Fin 4) : sProp 𝕄 := Fly (bufWb c) (wbSet q) (wC (win m) c t) (bufW c) Finset.univ (xsh q) (win m c) c (wsem q) Nw
def WHas (c : Dev nD) (q : Fin 2) (t : Fin 4) : sProp 𝕄 := Landed (bufWb c) (wbSet q) (wC (win m) c t) (bufW c) Finset.univ (xsh q) (win m c) c (wsem q)

theorem WHas_idle (q : Fin 2) (t : Fin 4) : WHas m c q t ⊢ WIdle m c q := by
  unfold WHas WIdle Landed Idle
  iintro ⟨H, Hs, Hv⟩
  isplitl [H]; · iexists _; iexact H
  isplitl [Hs] <;> iassumption

section W
variable {off : Fin 2 → ℕ} {off' : Fin 3 → ℕ} {inb : ∀ a, off a + S4096x512.size a ≤ S4096x2048.size a} {inb' : ∀ a, off' a + S1x4096x512.size a ≤ S2x4096x512.size a}
  {hq : S1x4096x512.Squeezes S4096x512}

abbrev wsrc (off : Fin 2 → ℕ) (inb : ∀ a, off a + S4096x512.size a ≤ S4096x2048.size a) : Memref sig .tc .hbm S4096x512 .f32 :=
  slc (Memref.whole main_arg1 : Memref sig .tc .hbm S4096x2048 .f32) off S4096x512.size inb
abbrev wdst (off' : Fin 3 → ℕ) (inb' : ∀ a, off' a + S1x4096x512.size a ≤ S2x4096x512.size a) (hq : S1x4096x512.Squeezes S4096x512) : Memref sig .tc .vmem S4096x512 .f32 :=
  (slc (Memref.whole cc0_scratch2 : Memref sig .tc .vmem S2x4096x512 .f32) off' S1x4096x512.size inb').squeeze S4096x512 hq

theorem wdst_emb (q : Fin 2) (hoff' : off' = ![q.val, 0, 0]) (y : S4096x512.Idx) :
    (wdst off' inb' hq).view.emb y = ix3 q.val (y 0).val (y 1).val q.isLt (lt2_0 y) (lt2_1 y) := by
  subst hoff'
  exact (sq_emb (Memref.whole cc0_scratch2 : Memref sig .tc .vmem S2x4096x512 .f32) ![q.val, 0, 0] inb' hq y).trans
    (ext3 rfl (Nat.zero_add _) (Nat.zero_add _))
theorem wsrc_emb (t : Fin 4) (hoff : off = ![0, 512 * t.val]) (y : S4096x512.Idx) :
    (wsrc off inb).view.emb y = ix2 (y 0).val (512 * t.val + (y 1).val) (lt2_0 y) (by have := lt2_1 y; have := t.isLt; omega) := by
  subst hoff
  exact (slc_emb2 (Memref.whole main_arg1 : Memref sig .tc .hbm S4096x2048 .f32) ![0, 512 * t.val] inb y).trans (ext2 (Nat.zero_add _) rfl)
theorem wdst_sub (q : Fin 2) (hoff' : off' = ![q.val, 0, 0]) : (wdst off' inb' hq).view.set ⊆ wbSet q :=
  set_sub fun y => by rw [wdst_emb q hoff']; exact Finset.mem_filter.mpr ⟨Finset.mem_univ _, rfl⟩
theorem w_landing (q : Fin 2) (t : Fin 4) (hoff : off = ![0, 512 * t.val]) (hoff' : off' = ![q.val, 0, 0]) (w : Dev nD → Vec F S4096x2048 .f32)
    (fd : Vec F S2x4096x512 .f32) (j : S2x4096x512.Idx) (hj : j ∈ wbSet q) :
    (wdst off' inb' hq).view.write (Elt F) fd ((wsrc off inb).view.read (Elt F) (w c)) Finset.univ j = wC w c t j := by
  have hj0 : (j 0).val = q.val := (Finset.mem_filter.mp hj).2
  have hy : (wdst off' inb' hq).view.emb (ix2 (j 1).val (j 2).val (lt3_1 j) (lt3_2 j)) = j := by
    rw [wdst_emb q hoff']; exact ext3 hj0.symm rfl rfl
  refine (write_at hy).trans ?_
  exact congrArg (w c) (wsrc_emb t hoff _)

theorem w_start (q : Fin 2) (t : Fin 4) (hoff : off = ![0, 512 * t.val]) (hoff' : off' = ![q.val, 0, 0]) {i : DmaSem sig} (hi : i = wsem q)
    {hsrc} {hdst} {hsem} :
    WIdle m c q ⊢ iprop((WFly m c q t -∗ WP c (kk ⟨⟩) Q)
      -∗ WP c (.op (.enqueueDma (wsrc off inb) (.here (wdst off' inb' hq)) (.dma i) hsrc hdst hsem) kk) Q) := by
  subst hi
  exact copy_start (src := wsrc off inb) (dst := wdst off' inb' hq) Nw rfl (View.dmaCredit_pos _ (by decide)) (Finset.subset_univ _) (wdst_sub q hoff') (fun fd j hj => w_landing q t hoff hoff' (win m) fd j hj)

theorem w_wait (q : Fin 2) (t : Fin 4) {n : ℕ} {i : DmaSem sig} (hi : i = wsem q) {hsrc} {hdst} :
    iprop(WFly m c q t ∗ Ow m κ c n) ⊢ iprop((iprop(WHas m c q t ∗ Ow m κ c n) -∗ WP c (kk ⟨⟩) Q)
      -∗ WP c (.op (.waitDma2 i (wsrc off inb) (wdst off' inb' hq) hsrc hdst) kk) Q) := by
  subst hi
  exact copy_wait m κ (by revert q; decide) rfl

theorem w_load (q : Fin 2) (t : Fin 4) (hoff' : off' = ![q.val, 0, 0]) {hl} {kv : Vec F S1x4096x512 .f32 → Prog (TpuEff nD τ sig (Elt F) Λ₀ .tc) α} :
    WHas m c q t ⊢ iprop((WHas m c q t -∗ WP c (kv (wblk (win m) c t)) Q)
      -∗ WP c (.op (.load (Memref.whole cc0_scratch2 : Memref sig .tc .vmem S2x4096x512 .f32) (Rect.unit (s := S2x4096x512) off' S1x4096x512.size inb').toLoadRect hl) kv) Q) := by
  subst hoff'
  unfold WHas Landed
  iintro ⟨H, Hs, Hv⟩ Hk
  iapply (load_as (b := (Memref.whole cc0_scratch2 : Memref sig .tc .vmem S2x4096x512 .f32)) (wblk (win m) c t) ?_ ?_) $$ H
  · intro j hj
    obtain ⟨y, hy, rfl⟩ := Finset.mem_map.mp hj
    have := (Rect.mem_set_unit (inb := inb')).mp hy 0
    exact Finset.mem_filter.mpr ⟨Finset.mem_univ _, by
      have h1 : q.val ≤ (y 0).val := this.1
      have h2 : (y 0).val < q.val + 1 := this.2
      show (y 0).val = q.val; omega⟩
  · funext y
    exact congrArg (win m c) (ext2 ((unit_emb inb' y 1).trans (Nat.zero_add _)) (congrArg (512 * t.val + ·) ((unit_emb inb' y 2).trans (Nat.zero_add _))))
  iintro H
  iapply Hk
  isplitl [H]; · iexact H
  isplitl [Hs] <;> iassumption
end W

/-! ## Finished blocks -/

/-- A slot's contents once the block for the rows from device `o` is in it. -/
def ovC (x : Dev nD → Vec F S1024x4096 .f32) (w : Dev nD → Vec F S4096x2048 .f32) (c o : Dev nD) : Vec F S2x1024x512 .f32 := fun i =>
  outB x w c o (ix3 0 (i 1).val (i 2).val (by decide) (lt3_1 i) (lt3_2 i))

abbrev No : ℕ := (slc (Memref.whole main_v1 : Memref sig .tc .hbm S4096x512 .f32) ![0, 0] S1024x512.size (by decide)).view.dmaCredit

/-- A slot holding anything, its semaphore at zero; -/
def OSlot (c : Dev nD) (q : Fin 2) : sProp 𝕄 :=
  iprop((∃ f : Buf (Elt F) (bufOv c), (bufOv c) ↦[ovSet q]{fullShare} f) ∗ semVal ((c : Thread nD τ), .dma (osem q)) 0)
/-- holding the block; -/
def OFull (c : Dev nD) (q : Fin 2) (o : Dev nD) : sProp 𝕄 :=
  iprop(((bufOv c) ↦[ovSet q]{fullShare} (ovC (xin m) (win m) c o : Buf (Elt F) (bufOv c))) ∗ semVal ((c : Thread nD τ), .dma (osem q)) 0)
/-- the rows of the result a block goes to, holding anything, -/
def Out? (c o : Dev nD) : sProp 𝕄 := iprop(∃ f : Buf (Elt F) (bufO c), (bufO c) ↦[outSet o]{fullShare} f)
/-- and holding the block. -/
def OutD (c o : Dev nD) : sProp 𝕄 := (bufO c) ↦[outSet o]{fullShare} (outC (xin m) (win m) c : Buf (Elt F) (bufO c))
def OFly (c : Dev nD) (q : Fin 2) (o : Dev nD) : sProp 𝕄 :=
  Fly (bufO c) (outSet o) (outC (xin m) (win m) c) (bufOv c) (ovSet q) fullShare (ovC (xin m) (win m) c o) c (osem q) No

section O
variable {off : Fin 3 → ℕ} {off' : Fin 2 → ℕ} {inb : ∀ a, off a + S1x1024x512.size a ≤ S2x1024x512.size a} {inb' : ∀ a, off' a + S1024x512.size a ≤ S4096x512.size a}
  {hq : S1x1024x512.Squeezes S1024x512}

abbrev osrc (off : Fin 3 → ℕ) (inb : ∀ a, off a + S1x1024x512.size a ≤ S2x1024x512.size a) (hq : S1x1024x512.Squeezes S1024x512) : Memref sig .tc .vmem S1024x512 .f32 :=
  (slc (Memref.whole cc0_scratch5 : Memref sig .tc .vmem S2x1024x512 .f32) off S1x1024x512.size inb).squeeze S1024x512 hq
abbrev odst (off' : Fin 2 → ℕ) (inb' : ∀ a, off' a + S1024x512.size a ≤ S4096x512.size a) : Memref sig .tc .hbm S1024x512 .f32 :=
  slc (Memref.whole main_v1 : Memref sig .tc .hbm S4096x512 .f32) off' S1024x512.size inb'

theorem osrc_emb (q : Fin 2) (hoff : off = ![q.val, 0, 0]) (y : S1024x512.Idx) :
    (osrc off inb hq).view.emb y = ix3 q.val (y 0).val (y 1).val q.isLt (lt2_0 y) (lt2_1 y) := by
  subst hoff
  exact (sq_emb (Memref.whole cc0_scratch5 : Memref sig .tc .vmem S2x1024x512 .f32) ![q.val, 0, 0] inb hq y).trans
    (ext3 rfl (Nat.zero_add _) (Nat.zero_add _))
theorem odst_emb (o : Dev nD) (hoff' : off' = ![1024 * o.val, 0]) (y : S1024x512.Idx) :
    (odst off' inb').view.emb y = ix2 (1024 * o.val + (y 0).val) (y 1).val (by have := lt2_0 y; have : o.val < 4 := o.isLt; omega) (lt2_1 y) := by
  subst hoff'
  exact (slc_emb2 (Memref.whole main_v1 : Memref sig .tc .hbm S4096x512 .f32) ![1024 * o.val, 0] inb' y).trans (ext2 rfl (Nat.zero_add _))
theorem osrc_sub (q : Fin 2) (hoff : off = ![q.val, 0, 0]) : (osrc off inb hq).view.set ⊆ ovSet q :=
  set_sub fun y => by rw [osrc_emb q hoff]; exact Finset.mem_filter.mpr ⟨Finset.mem_univ _, rfl⟩
theorem odst_sub (o : Dev nD) (hoff' : off' = ![1024 * o.val, 0]) : (odst off' inb').view.set ⊆ outSet o :=
  set_sub fun y => by
    rw [odst_emb o hoff']
    refine Finset.mem_filter.mpr ⟨Finset.mem_univ _, ?_⟩
    have := lt2_0 y
    show (1024 * o.val + (y 0).val) / 1024 = o.val
    omega
theorem o_landing (q : Fin 2) (o : Dev nD) (hoff : off = ![q.val, 0, 0]) (hoff' : off' = ![1024 * o.val, 0])
    (fd : Vec F S4096x512 .f32) (j : S4096x512.Idx) (hj : j ∈ outSet o) :
    (odst off' inb').view.write (Elt F) fd ((osrc off inb hq).view.read (Elt F) (ovC (xin m) (win m) c o)) Finset.univ j = outC (xin m) (win m) c j := by
  have hj0 : (j 0).val / 1024 = o.val := (Finset.mem_filter.mp hj).2
  have hy : (odst off' inb').view.emb (ix2 ((j 0).val % 1024) (j 1).val (Nat.mod_lt _ (by decide)) (lt2_1 j)) = j := by
    rw [odst_emb o hoff']
    exact ext2 (by show 1024 * o.val + (j 0).val % 1024 = _; omega) rfl
  refine (write_at hy).trans ?_
  refine (congrArg (ovC (xin m) (win m) c o) (osrc_emb q hoff _)).trans ?_
  have ho : (⟨(j 0).val / 1024, by have := lt2_0 j; show _ < 4; omega⟩ : Dev nD) = o := Fin.ext hj0
  show _ = outB (xin m) (win m) c ⟨(j 0).val / 1024, _⟩ _
  rw [ho]; rfl

theorem o_dead (q : Fin 2) (hoff : off = ![q.val, 0, 0]) {hl} {kd : Prog (TpuEff nD τ sig (Elt F) Λ₀ .tc) α} :
    OSlot c q ⊢ iprop((OSlot c q -∗ WP c kd Q)
      -∗ WP c (.op (.load (Memref.whole cc0_scratch5 : Memref sig .tc .vmem S2x1024x512 .f32) (Rect.unit (s := S2x1024x512) off S1x1024x512.size inb).toLoadRect hl) (fun _ => kd)) Q) := by
  subst hoff
  unfold OSlot
  iintro ⟨⟨%f, H⟩, Hv⟩ Hk
  iapply (load_as (b := (Memref.whole cc0_scratch5 : Memref sig .tc .vmem S2x1024x512 .f32)) _ ?_ rfl) $$ H
  · intro j hj
    obtain ⟨y, hy, rfl⟩ := Finset.mem_map.mp hj
    have := (Rect.mem_set_unit (inb := inb)).mp hy 0
    exact Finset.mem_filter.mpr ⟨Finset.mem_univ _, by
      have h1 : q.val ≤ (y 0).val := this.1
      have h2 : (y 0).val < q.val + 1 := this.2
      show (y 0).val = q.val; omega⟩
  iintro H
  iapply Hk
  isplitl [H]; · iexists f; iexact H
  iexact Hv

abbrev oacc (off : Fin 3 → ℕ) (inb : ∀ a, off a + S1x1024x512.size a ≤ S2x1024x512.size a) :=
  (Memref.whole cc0_scratch5 : Memref sig .tc .vmem S2x1024x512 .f32).access (Rect.unit (s := S2x1024x512) off S1x1024x512.size inb)
theorem oacc_emb (q : Fin 2) (hoff : off = ![q.val, 0, 0]) (y : S1x1024x512.Idx) :
    (oacc off inb).emb y = ix3 q.val (y 1).val (y 2).val q.isLt (lt3_1 y) (lt3_2 y) := by
  subst hoff
  have h0 := unit_emb (s := S2x1024x512) inb y 0
  exact ext3 (h0.trans (by have := lt3_0 y; show q.val + (y 0).val = q.val; omega)) ((unit_emb (s := S2x1024x512) inb y 1).trans (Nat.zero_add _))
    ((unit_emb (s := S2x1024x512) inb y 2).trans (Nat.zero_add _))
theorem o_write (q : Fin 2) (o : Dev nD) (hoff : off = ![q.val, 0, 0]) (f : Vec F S2x1024x512 .f32) (j : S2x1024x512.Idx) (hj : j ∈ ovSet q) :
    (oacc off inb).write (Elt F) f (outB (xin m) (win m) c o) Finset.univ j = ovC (xin m) (win m) c o j := by
  have hj0 : (j 0).val = q.val := (Finset.mem_filter.mp hj).2
  have hy : (oacc off inb).emb (ix3 0 (j 1).val (j 2).val (by decide) (lt3_1 j) (lt3_2 j) : S1x1024x512.Idx) = j := by
    rw [oacc_emb q hoff]; exact ext3 hj0.symm rfl rfl
  exact write_at hy

theorem o_store (q : Fin 2) (o : Dev nD) (hoff : off = ![q.val, 0, 0]) {hx} {hm} {v : FVec F S1x1024x512 .f32} (hv : v = outB (xin m) (win m) c o) :
    OSlot c q ⊢ iprop((OFull m c q o -∗ WP c (kk ⟨⟩) Q)
      -∗ WP c (.op (.store (Memref.whole cc0_scratch5 : Memref sig .tc .vmem S2x1024x512 .f32) (Rect.unit (s := S2x1024x512) off S1x1024x512.size inb) v Finset.univ hx hm) kk) Q) := by
  subst hv
  unfold OSlot OFull
  iintro ⟨⟨%f, H⟩, Hv⟩ Hk
  iapply (store_as (b := (Memref.whole cc0_scratch5 : Memref sig .tc .vmem S2x1024x512 .f32)) (r := Rect.unit (s := S2x1024x512) off S1x1024x512.size inb)
    (w := outB (xin m) (win m) c o) (g := ovC (xin m) (win m) c o) (S := ovSet q)
    (set_sub fun y => by rw [oacc_emb q hoff]; exact Finset.mem_filter.mpr ⟨Finset.mem_univ _, rfl⟩) (o_write m q o hoff f)) $$ H
  iintro H
  iapply Hk
  isplitl [H]; · iexact H
  iexact Hv

theorem o_start (q : Fin 2) (o : Dev nD) (hoff : off = ![q.val, 0, 0]) (hoff' : off' = ![1024 * o.val, 0]) {i : DmaSem sig} (hi : i = osem q)
    {hsrc} {hdst} {hsem} :
    iprop(OFull m c q o ∗ Out? c o) ⊢ iprop((OFly m c q o -∗ WP c (kk ⟨⟩) Q)
      -∗ WP c (.op (.enqueueDma (osrc off inb hq) (.here (odst off' inb')) (.dma i) hsrc hdst hsem) kk) Q) := by
  subst hi
  have h := copy_start (c := c) (Q := Q) (k := kk) (i := osem q) (hsrc := hsrc) (hdst := hdst) (hsem := hsem) (q := fullShare) (src := osrc off inb hq) (dst := odst off' inb') No rfl (View.dmaCredit_pos _ (by decide)) (osrc_sub q hoff) (odst_sub o hoff')
    (fun fd j hj => o_landing m (c := c) q o hoff hoff' fd j hj)
  refine BIBase.Entails.trans ?_ h
  unfold OFull Out? Idle
  iintro ⟨⟨H, Hv⟩, Ho⟩
  isplitl [Ho]; · iexact Ho
  isplitl [H] <;> iassumption

theorem o_wait (q : Fin 2) (o : Dev nD) {n : ℕ} {i : DmaSem sig} (hi : i = osem q) {hsrc} {hdst} :
    iprop(OFly m c q o ∗ Ow m κ c n) ⊢ iprop((iprop(OSlot c q ∗ OutD m c o ∗ Ow m κ c n) -∗ WP c (kk ⟨⟩) Q)
      -∗ WP c (.op (.waitDma2 i (osrc off inb hq) (odst off' inb') hsrc hdst) kk) Q) := by
  subst hi
  unfold OFly
  iintro HF Hk
  iapply (copy_wait m κ (i := osem q) (by revert q; decide) (srcw := osrc off inb hq) (dstw := odst off' inb') (N := No) rfl) $$ HF
  unfold Landed OSlot OutD
  iintro ⟨⟨Ho, Hs, Hv⟩, HO⟩
  iapply Hk
  isplitl [Hs Hv]
  · isplitl [Hs]; · iexists _; iexact Hs
    iexact Hv
  isplitl [Ho] <;> iassumption
end O

end Cert.A2A

end
-- ==== Proof.Exchange.lean ====
/-
# The buffers the devices exchange, and the steps of the exchange

The send and receive buffers and the blocks of maxima: loads and stores of their layers, the signal, the copies to other
devices, and the waits.
-/
module

public import proofs.«01_k».proof.Proof.Slots

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)
variable {c : Dev nD} {α : Type} {Q : α → sProp (MT nD τ sig Unit (Elt F) ℕ UU ℕ)} {kk : PUnit → Prog (TpuEff nD τ sig (Elt F) Λ₀ .tc) α}
variable {kd : Prog (TpuEff nD τ sig (Elt F) Λ₀ .tc) α}

/-- A load's elements are those a store at the same rectangle has. -/
theorem load_sub {sp : Space} {s : Shape} {e : EltTy} {b : Memref sig .tc sp s e} {r : Rect s} {S : Finset b.view.ty.Idx} (h : (b.access r).set ⊆ S) :
    b.view.setOn r.toLoadRect.set ⊆ S := by
  exact (View.set_slice b.view r).symm.subset.trans h

/-! ## The send buffer -/

section Sv
variable {off : Fin 3 → ℕ} {inb : ∀ a, off a + S1x512x512.size a ≤ S3x1024x512.size a} {hq : S1x512x512.Squeezes S512x512}

abbrev svacc (off : Fin 3 → ℕ) (inb : ∀ a, off a + S1x512x512.size a ≤ S3x1024x512.size a) :=
  (Memref.whole cc0_scratch3 : Memref sig .tc .vmem S3x1024x512 .bf16).access (Rect.unit (s := S3x1024x512) off S1x512x512.size inb)
abbrev svmem (off : Fin 3 → ℕ) (inb : ∀ a, off a + S1x512x512.size a ≤ S3x1024x512.size a) (hq : S1x512x512.Squeezes S512x512) : Memref sig .tc .vmem S512x512 .bf16 :=
  (slc (Memref.whole cc0_scratch3 : Memref sig .tc .vmem S3x1024x512 .bf16) off S1x512x512.size inb).squeeze S512x512 hq

theorem svacc_emb (s : Fin 3) (h : Fin 2) (hoff : off = ![s.val, 512 * h.val, 0]) (y : S1x512x512.Idx) :
    (svacc off inb).emb y = ix3 s.val (512 * h.val + (y 1).val) (y 2).val s.isLt (by have := lt3_1 y; have := h.isLt; omega) (lt3_2 y) := by
  subst hoff
  have h0 := unit_emb (s := S3x1024x512) inb y 0
  exact ext3 (h0.trans (by have := lt3_0 y; show s.val + (y 0).val = s.val; omega)) (unit_emb (s := S3x1024x512) inb y 1)
    ((unit_emb (s := S3x1024x512) inb y 2).trans (Nat.zero_add _))
theorem svmem_emb (s : Fin 3) (h : Fin 2) (hoff : off = ![s.val, 512 * h.val, 0]) (y : S512x512.Idx) :
    (svmem off inb hq).view.emb y = ix3 s.val (512 * h.val + (y 0).val) (y 1).val s.isLt (by have := lt2_0 y; have := h.isLt; omega) (lt2_1 y) := by
  subst hoff
  exact (sq_emb (Memref.whole cc0_scratch3 : Memref sig .tc .vmem S3x1024x512 .bf16) ![s.val, 512 * h.val, 0] inb hq y).trans
    (ext3 rfl rfl (Nat.zero_add _))
theorem svmem_set (s : Fin 3) (h : Fin 2) (hoff : off = ![s.val, 512 * h.val, 0]) : (svmem off inb hq).view.set = svSet s h := by
  refine Finset.Subset.antisymm (set_sub fun y => ?_) fun j hj => ?_
  · rw [svmem_emb s h hoff]
    refine Finset.mem_filter.mpr ⟨Finset.mem_univ _, rfl, ?_⟩
    have := lt2_0 y
    show (512 * h.val + (y 0).val) / 512 = h.val
    omega
  · obtain ⟨h0, h1⟩ := (Finset.mem_filter.mp hj).2
    have := lt3_1 j
    have hy : (svmem off inb hq).view.emb (ix2 ((j 1).val % 512) (j 2).val (Nat.mod_lt _ (by decide)) (lt3_2 j)) = j := by
      rw [svmem_emb s h hoff]
      exact ext3 h0.symm (by show 512 * h.val + (j 1).val % 512 = _; omega) rfl
    rw [← hy]; exact View.emb_mem_set _ _
theorem svacc_sub (s : Fin 3) (h : Fin 2) (hoff : off = ![s.val, 512 * h.val, 0]) : (svacc off inb).set ⊆ svSet s h :=
  set_sub fun y => by
    rw [svacc_emb s h hoff]
    refine Finset.mem_filter.mpr ⟨Finset.mem_univ _, rfl, ?_⟩
    have := lt3_1 y
    show (512 * h.val + (y 1).val) / 512 = h.val
    omega

theorem sv_write (s : Fin 3) (h : Fin 2) (hoff : off = ![s.val, 512 * h.val, 0]) (f : Vec F S3x1024x512 .bf16) (j : S3x1024x512.Idx) (hj : j ∈ svSet s h) :
    (svacc off inb).write (Elt F) f (k0_pay8 (xhalf (xin m) c h) (wblk (win m) c (peer c (ahead s)))) Finset.univ j = sendC (xin m) (win m) c j := by
  obtain ⟨h0, h1⟩ := (Finset.mem_filter.mp hj).2
  have := lt3_1 j
  have hy : (svacc off inb).emb (ix3 0 ((j 1).val % 512) (j 2).val (by decide) (Nat.mod_lt _ (by decide)) (lt3_2 j) : S1x512x512.Idx) = j := by
    rw [svacc_emb s h hoff]
    exact ext3 h0.symm (by show 512 * h.val + (j 1).val % 512 = _; omega) rfl
  refine (write_at hy).trans ?_
  rw [pay8_half]
  have hs : (⟨(j 0).val, lt3_0 j⟩ : Fin 3) = s := Fin.ext h0
  have hh : (⟨(j 1).val / 512, by omega⟩ : Fin 2) = h := Fin.ext h1
  show _ = prodb (xin m) (win m) c (peer c (ahead ⟨(j 0).val, _⟩)) ⟨(j 1).val / 512, _⟩ _
  rw [hs, hh]; rfl

theorem sv_dead (s : Fin 3) (h : Fin 2) (hoff : off = ![s.val, 512 * h.val, 0]) {hl} :
    sv? c s h ⊢ iprop((sv? c s h -∗ WP c kd Q)
      -∗ WP c (.op (.load (Memref.whole cc0_scratch3 : Memref sig .tc .vmem S3x1024x512 .bf16) (Rect.unit (s := S3x1024x512) off S1x512x512.size inb).toLoadRect hl) (fun _ => kd)) Q) := by
  unfold sv?
  iintro ⟨%f, H⟩ Hk
  iapply (load_as (b := (Memref.whole cc0_scratch3 : Memref sig .tc .vmem S3x1024x512 .bf16)) _ (load_sub (r := Rect.unit (s := S3x1024x512) off S1x512x512.size inb) (svacc_sub s h hoff)) rfl) $$ H
  iintro H
  iapply Hk
  iexists f; iexact H

theorem sv_store (s : Fin 3) (h : Fin 2) (hoff : off = ![s.val, 512 * h.val, 0]) {hx} {hm} {v : FVec F S1x512x512 .bf16}
    (hv : v = k0_pay8 (xhalf (xin m) c h) (wblk (win m) c (peer c (ahead s)))) :
    sv? c s h ⊢ iprop((svD m c s h -∗ WP c (kk ⟨⟩) Q)
      -∗ WP c (.op (.store (Memref.whole cc0_scratch3 : Memref sig .tc .vmem S3x1024x512 .bf16) (Rect.unit (s := S3x1024x512) off S1x512x512.size inb) v Finset.univ hx hm) kk) Q) := by
  subst hv
  unfold sv? svD
  iintro ⟨%f, H⟩ Hk
  iapply (store_as (b := (Memref.whole cc0_scratch3 : Memref sig .tc .vmem S3x1024x512 .bf16)) (r := Rect.unit (s := S3x1024x512) off S1x512x512.size inb)
    (w := k0_pay8 (xhalf (xin m) c h) (wblk (win m) c (peer c (ahead s)))) (g := sendC (xin m) (win m) c) (S := svSet s h)
    (svacc_sub s h hoff) (sv_write m s h hoff f)) $$ H
  iexact Hk
end Sv

/-! ## The receive buffer -/

section Rv
variable {off : Fin 3 → ℕ} {inb : ∀ a, off a + S1x512x512.size a ≤ S4x1024x512.size a} {hq : S1x512x512.Squeezes S512x512}

abbrev rvacc (off : Fin 3 → ℕ) (inb : ∀ a, off a + S1x512x512.size a ≤ S4x1024x512.size a) :=
  (Memref.whole cc0_scratch4 : Memref sig .tc .vmem S4x1024x512 .bf16).access (Rect.unit (s := S4x1024x512) off S1x512x512.size inb)
abbrev rvmem (off : Fin 3 → ℕ) (inb : ∀ a, off a + S1x512x512.size a ≤ S4x1024x512.size a) (hq : S1x512x512.Squeezes S512x512) : Memref sig .tc .vmem S512x512 .bf16 :=
  (slc (Memref.whole cc0_scratch4 : Memref sig .tc .vmem S4x1024x512 .bf16) off S1x512x512.size inb).squeeze S512x512 hq

theorem rvacc_emb (o : Dev nD) (h : Fin 2) (hoff : off = ![o.val, 512 * h.val, 0]) (y : S1x512x512.Idx) :
    (rvacc off inb).emb y = ix3 o.val (512 * h.val + (y 1).val) (y 2).val o.isLt (by have := lt3_1 y; have := h.isLt; omega) (lt3_2 y) := by
  subst hoff
  have h0 := unit_emb (s := S4x1024x512) inb y 0
  exact ext3 (h0.trans (by have := lt3_0 y; show o.val + (y 0).val = o.val; omega)) (unit_emb (s := S4x1024x512) inb y 1)
    ((unit_emb (s := S4x1024x512) inb y 2).trans (Nat.zero_add _))
theorem rvmem_emb (o : Dev nD) (h : Fin 2) (hoff : off = ![o.val, 512 * h.val, 0]) (y : S512x512.Idx) :
    (rvmem off inb hq).view.emb y = ix3 o.val (512 * h.val + (y 0).val) (y 1).val o.isLt (by have := lt2_0 y; have := h.isLt; omega) (lt2_1 y) := by
  subst hoff
  exact (sq_emb (Memref.whole cc0_scratch4 : Memref sig .tc .vmem S4x1024x512 .bf16) ![o.val, 512 * h.val, 0] inb hq y).trans
    (ext3 rfl rfl (Nat.zero_add _))
theorem rvmem_set (o : Dev nD) (h : Fin 2) (hoff : off = ![o.val, 512 * h.val, 0]) : (rvmem off inb hq).view.set = rvSet o h := by
  refine Finset.Subset.antisymm (set_sub fun y => ?_) fun j hj => ?_
  · rw [rvmem_emb o h hoff]
    refine Finset.mem_filter.mpr ⟨Finset.mem_univ _, rfl, ?_⟩
    have := lt2_0 y
    show (512 * h.val + (y 0).val) / 512 = h.val
    omega
  · obtain ⟨h0, h1⟩ := (Finset.mem_filter.mp hj).2
    have := lt3_1 j
    have hy : (rvmem off inb hq).view.emb (ix2 ((j 1).val % 512) (j 2).val (Nat.mod_lt _ (by decide)) (lt3_2 j)) = j := by
      rw [rvmem_emb o h hoff]
      exact ext3 h0.symm (by show 512 * h.val + (j 1).val % 512 = _; omega) rfl
    rw [← hy]; exact View.emb_mem_set _ _
theorem rvacc_sub (o : Dev nD) (h : Fin 2) (hoff : off = ![o.val, 512 * h.val, 0]) : (rvacc off inb).set ⊆ rvSet o h :=
  set_sub fun y => by
    rw [rvacc_emb o h hoff]
    refine Finset.mem_filter.mpr ⟨Finset.mem_univ _, rfl, ?_⟩
    have := lt3_1 y
    show (512 * h.val + (y 1).val) / 512 = h.val
    omega

theorem rv_write (h : Fin 2) (hoff : off = ![c.val, 512 * h.val, 0]) (f : Vec F S4x1024x512 .bf16) (j : S4x1024x512.Idx) (hj : j ∈ rvSet c h) :
    (rvacc off inb).write (Elt F) f (k0_pay8 (xhalf (xin m) c h) (wblk (win m) c c)) Finset.univ j = recvC (xin m) (win m) c j := by
  obtain ⟨h0, h1⟩ := (Finset.mem_filter.mp hj).2
  have := lt3_1 j
  have hy : (rvacc off inb).emb (ix3 0 ((j 1).val % 512) (j 2).val (by decide) (Nat.mod_lt _ (by decide)) (lt3_2 j) : S1x512x512.Idx) = j := by
    rw [rvacc_emb c h hoff]
    exact ext3 h0.symm (by show 512 * h.val + (j 1).val % 512 = _; omega) rfl
  refine (write_at hy).trans ?_
  rw [pay8_half]
  have hs : (⟨(j 0).val, lt3_0 j⟩ : Dev nD) = c := Fin.ext h0
  have hh : (⟨(j 1).val / 512, by omega⟩ : Fin 2) = h := Fin.ext h1
  show _ = prodb (xin m) (win m) ⟨(j 0).val, _⟩ c ⟨(j 1).val / 512, _⟩ _
  rw [hs, hh]; rfl

/-- The device's own half layer, stored once the branch for device `n - 1` is past. -/
def RvOwn (c : Dev nD) (h : Fin 2) (n : ℕ) : sProp 𝕄 := if c.val < n then rvD m c c h else rv? c c h

theorem RvOwn_zero (h : Fin 2) : rv? c c h ⊢ RvOwn m c h 0 := Entails.of_eq (if_neg (Nat.not_lt_zero _)).symm
theorem RvOwn_last (h : Fin 2) : RvOwn m c h 4 ⊢ rvD m c c h := Entails.of_eq (if_pos c.isLt)

theorem rvown_step (q : ℕ) (h : Fin 2) {C : Prop} [Decidable C] (hC : C ↔ c.val = q) (hoff : off = ![q, 512 * h.val, 0])
    {hl} {hx} {hm} {v : FVec F S1x512x512 .bf16} (hv : v = k0_pay8 (xhalf (xin m) c h) (wblk (win m) c c)) :
    RvOwn m c h q ⊢ iprop((RvOwn m c h (q + 1) -∗ WP c kd Q)
      -∗ WP c (if C then .op (.load (Memref.whole cc0_scratch4 : Memref sig .tc .vmem S4x1024x512 .bf16) (Rect.unit (s := S4x1024x512) off S1x512x512.size inb).toLoadRect hl)
          (fun _ => .op (.store (Memref.whole cc0_scratch4 : Memref sig .tc .vmem S4x1024x512 .bf16) (Rect.unit (s := S4x1024x512) off S1x512x512.size inb) v Finset.univ hx hm) (fun _ => kd))
        else kd) Q) := by
  by_cases h' : C
  · have hc : c.val = q := hC.mp h'
    subst hv
    subst hc
    rw [if_pos h', RvOwn, RvOwn, if_neg (Nat.lt_irrefl _), if_pos (Nat.lt_succ_self _)]
    unfold rv? rvD
    iintro ⟨%f, H⟩ Hk
    iapply (load_as (b := (Memref.whole cc0_scratch4 : Memref sig .tc .vmem S4x1024x512 .bf16)) _ (load_sub (r := Rect.unit (s := S4x1024x512) off S1x512x512.size inb) (rvacc_sub c h hoff)) rfl) $$ H
    iintro H
    iapply (store_as (b := (Memref.whole cc0_scratch4 : Memref sig .tc .vmem S4x1024x512 .bf16)) (r := Rect.unit (s := S4x1024x512) off S1x512x512.size inb)
      (w := k0_pay8 (xhalf (xin m) c h) (wblk (win m) c c)) (g := recvC (xin m) (win m) c) (S := rvSet c h)
      (rvacc_sub c h hoff) (rv_write m h hoff f)) $$ H
    iexact Hk
  · have hc : c.val ≠ q := fun e => h' (hC.mpr e)
    rw [if_neg h', RvOwn, RvOwn]
    have : (c.val < q + 1) = (c.val < q) := propext ⟨fun h => by omega, fun h => by omega⟩
    simp only [this]
    iintro H Hk
    iapply Hk
    iexact H

/-- What device `c` got from `o`, both halves. -/
def RvAll (c o : Dev nD) : sProp 𝕄 := iprop(rvD m c o 0 ∗ rvD m c o 1)

theorem rv_load (o : Dev nD) (hoff : off = ![o.val, 0, 0]) {inb : ∀ a, off a + S1x1024x512.size a ≤ S4x1024x512.size a} {hl}
    {kv : Vec F S1x1024x512 .bf16 → Prog (TpuEff nD τ sig (Elt F) Λ₀ .tc) α} :
    RvAll m c o ⊢ iprop((RvAll m c o -∗ WP c (kv (fun j => yblk (xin m) (win m) o c (ix2 (j 1).val (j 2).val (lt3_1 j) (lt3_2 j)))) Q)
      -∗ WP c (.op (.load (Memref.whole cc0_scratch4 : Memref sig .tc .vmem S4x1024x512 .bf16) (Rect.unit (s := S4x1024x512) off S1x1024x512.size inb).toLoadRect hl) kv) Q) := by
  subst hoff
  have he : ∀ y : S1x1024x512.Idx, (Rect.unit (s := S4x1024x512) ![o.val, 0, 0] S1x1024x512.size inb).emb y = ix3 o.val (y 1).val (y 2).val o.isLt (lt3_1 y) (lt3_2 y) := fun y => by
    have h0 := unit_emb (s := S4x1024x512) inb y 0
    exact ext3 (h0.trans (by have := lt3_0 y; show o.val + (y 0).val = o.val; omega)) ((unit_emb (s := S4x1024x512) inb y 1).trans (Nat.zero_add _))
      ((unit_emb (s := S4x1024x512) inb y 2).trans (Nat.zero_add _))
  have hd : Disjoint (rvSet o 0) (rvSet o 1) := Finset.disjoint_left.mpr fun i h0 h1 => by
    have a := (Finset.mem_filter.mp h0).2.2; have b := (Finset.mem_filter.mp h1).2.2
    rw [a] at b; exact absurd b (by decide)
  have hjoin : RvAll m c o ⊣⊢ ((bufRv c) ↦[rvSet o 0 ∪ rvSet o 1]{fullShare} (recvC (xin m) (win m) c : Buf (Elt F) (bufRv c))) := by
    unfold RvAll rvD; exact (pointsTo_union hd).symm
  iintro H Hk
  ihave H := hjoin.1 $$ H
  iapply (load_as (b := (Memref.whole cc0_scratch4 : Memref sig .tc .vmem S4x1024x512 .bf16)) (fun j => yblk (xin m) (win m) o c (ix2 (j 1).val (j 2).val (lt3_1 j) (lt3_2 j))) ?_ ?_) $$ H
  · refine load_sub (r := Rect.unit (s := S4x1024x512) ![o.val, 0, 0] S1x1024x512.size inb) (set_sub fun z => ?_)
    have hz := lt3_1 z
    show (Rect.unit (s := S4x1024x512) ![o.val, 0, 0] S1x1024x512.size inb).emb z ∈ _
    rw [he]
    by_cases hh : (z 1).val < 512
    · exact Finset.mem_union_left _ (Finset.mem_filter.mpr ⟨Finset.mem_univ _, rfl, by show (z 1).val / 512 = 0; omega⟩)
    · exact Finset.mem_union_right _ (Finset.mem_filter.mpr ⟨Finset.mem_univ _, rfl, by show (z 1).val / 512 = 1; omega⟩)
  · funext y
    exact congrArg (recvC (xin m) (win m) c) (he y)
  iintro H
  iapply Hk
  iapply hjoin.2; iexact H
end Rv

/-! ## The blocks of maxima -/

section Am

/-- The block a device sends from, holding anything; -/
def As? (c : Dev nD) : sProp 𝕄 := iprop(∃ f : Buf (Elt F) (bufAs c), (bufAs c) ↦[Finset.univ]{fullShare} f)
/-- holding the maximum, whole; -/
def AsD (c : Dev nD) : sProp 𝕄 := (bufAs c) ↦[Finset.univ]{fullShare} (amaxS (xin m) (win m) c : Buf (Elt F) (bufAs c))
/-- and what is left of it once a share is set aside for each device. -/
def AsRest (c : Dev nD) : sProp 𝕄 := (bufAs c) ↦[Finset.univ]{Transfers.shareDrop fullShare 4} (amaxS (xin m) (win m) c : Buf (Elt F) (bufAs c))

theorem As_shares : AsD m c ⊣⊢ iprop(AsRest m c ∗ asD m c 0 ∗ asD m c 1 ∗ asD m c 2 ∗ asD m c 3) := by
  have h4 : (bigSep Finset.univ fun i : Fin 4 => asD m c i) ⊣⊢ iprop(asD m c 0 ∗ asD m c 1 ∗ asD m c 2 ∗ asD m c 3) := by
    rw [bigSep_univ_eq_bigSepL [(0 : Fin 4), 1, 2, 3] (by decide) (by decide) (fun i : Fin 4 => asD m c i)]; exact BiEntails.rfl
  have hs : AsD m c ⊢ iprop(AsRest m c ∗ bigSep Finset.univ fun i : Fin 4 => asD m c i) := by
    unfold AsD AsRest asD
    exact Transfers.pointsTo_toks_split fullShare 4
  have hj : iprop(AsRest m c ∗ bigSep Finset.univ fun i : Fin 4 => asD m c i) ⊢ AsD m c := by
    unfold AsD AsRest asD
    exact Transfers.pointsTo_toks_join fullShare 4
  constructor
  · iintro H
    ihave H' := hs $$ H
    icases H' with ⟨H0, H1⟩
    isplitl [H0]; · iexact H0
    iapply h4.1; iexact H1
  · iintro ⟨H0, H1⟩
    iapply hj
    isplitl [H0]; · iexact H0
    iapply h4.2; iexact H1

variable {off : Fin 3 → ℕ} {inb : ∀ a, off a + S1x8x128.size a ≤ S4x8x128.size a} {hq : S1x8x128.Squeezes S8x128}

theorem as_dead {inb : ∀ a, (![0, 0] : Fin 2 → ℕ) a + S8x128.size a ≤ S8x128.size a} {hl} :
    As? c ⊢ iprop((As? c -∗ WP c kd Q)
      -∗ WP c (.op (.load (Memref.whole cc0_scratch6 : Memref sig .tc .vmem S8x128 .f32) (Rect.unit (s := S8x128) ![0, 0] S8x128.size inb).toLoadRect hl) (fun _ => kd)) Q) := by
  unfold As?
  iintro ⟨%f, H⟩ Hk
  iapply (load_as (b := (Memref.whole cc0_scratch6 : Memref sig .tc .vmem S8x128 .f32)) _ (Finset.subset_univ _) rfl) $$ H
  iintro H
  iapply Hk
  iexists f; iexact H

theorem as_write {inb : ∀ a, (![0, 0] : Fin 2 → ℕ) a + S8x128.size a ≤ S8x128.size a} (g f : FVec F S8x128 .f32) (j : S8x128.Idx) :
    ((Memref.whole cc0_scratch6 : Memref sig .tc .vmem S8x128 .f32).access (Rect.unit (s := S8x128) ![0, 0] S8x128.size inb)).write (Elt F) f g Finset.univ j = g j := by
  have hy : ((Memref.whole cc0_scratch6 : Memref sig .tc .vmem S8x128 .f32).access (Rect.unit (s := S8x128) ![0, 0] S8x128.size inb)).emb j = j :=
    ext2 ((unit_emb (s := S8x128) inb j 0).trans (Nat.zero_add _)) ((unit_emb (s := S8x128) inb j 1).trans (Nat.zero_add _))
  exact write_at hy

theorem as_store {inb : ∀ a, (![0, 0] : Fin 2 → ℕ) a + S8x128.size a ≤ S8x128.size a} {hx} {hm} {v : FVec F S8x128 .f32} (hv : v = amaxS (xin m) (win m) c) :
    As? c ⊢ iprop((AsD m c -∗ WP c (kk ⟨⟩) Q)
      -∗ WP c (.op (.store (Memref.whole cc0_scratch6 : Memref sig .tc .vmem S8x128 .f32) (Rect.unit (s := S8x128) ![0, 0] S8x128.size inb) v Finset.univ hx hm) kk) Q) := by
  subst hv
  unfold As? AsD
  iintro ⟨%f, H⟩ Hk
  iapply (store_as (b := (Memref.whole cc0_scratch6 : Memref sig .tc .vmem S8x128 .f32)) (r := Rect.unit (s := S8x128) ![0, 0] S8x128.size inb)
    (w := amaxS (xin m) (win m) c) (g := amaxS (xin m) (win m) c) (S := Finset.univ) (Finset.subset_univ _) (fun j _ => as_write _ f j)) $$ H
  iexact Hk

abbrev aracc (off : Fin 3 → ℕ) (inb : ∀ a, off a + S1x8x128.size a ≤ S4x8x128.size a) :=
  (Memref.whole cc0_scratch7 : Memref sig .tc .vmem S4x8x128 .f32).access (Rect.unit (s := S4x8x128) off S1x8x128.size inb)
abbrev armem (off : Fin 3 → ℕ) (inb : ∀ a, off a + S1x8x128.size a ≤ S4x8x128.size a) (hq : S1x8x128.Squeezes S8x128) : Memref sig .tc .vmem S8x128 .f32 :=
  (slc (Memref.whole cc0_scratch7 : Memref sig .tc .vmem S4x8x128 .f32) off S1x8x128.size inb).squeeze S8x128 hq

theorem aracc_emb (o : Dev nD) (hoff : off = ![o.val, 0, 0]) (y : S1x8x128.Idx) :
    (aracc off inb).emb y = ix3 o.val (y 1).val (y 2).val o.isLt (lt3_1 y) (lt3_2 y) := by
  subst hoff
  have h0 := unit_emb (s := S4x8x128) inb y 0
  exact ext3 (h0.trans (by have := lt3_0 y; show o.val + (y 0).val = o.val; omega)) ((unit_emb (s := S4x8x128) inb y 1).trans (Nat.zero_add _))
    ((unit_emb (s := S4x8x128) inb y 2).trans (Nat.zero_add _))
theorem armem_emb (o : Dev nD) (hoff : off = ![o.val, 0, 0]) (y : S8x128.Idx) :
    (armem off inb hq).view.emb y = ix3 o.val (y 0).val (y 1).val o.isLt (lt2_0 y) (lt2_1 y) := by
  subst hoff
  exact (sq_emb (Memref.whole cc0_scratch7 : Memref sig .tc .vmem S4x8x128 .f32) ![o.val, 0, 0] inb hq y).trans
    (ext3 rfl (Nat.zero_add _) (Nat.zero_add _))
theorem armem_set (o : Dev nD) (hoff : off = ![o.val, 0, 0]) : (armem off inb hq).view.set = arSet o := by
  refine Finset.Subset.antisymm (set_sub fun y => ?_) fun j hj => ?_
  · rw [armem_emb o hoff]
    exact Finset.mem_filter.mpr ⟨Finset.mem_univ _, rfl⟩
  · have h0 := (Finset.mem_filter.mp hj).2
    have hy : (armem off inb hq).view.emb (ix2 (j 1).val (j 2).val (lt3_1 j) (lt3_2 j)) = j := by
      rw [armem_emb o hoff]
      exact ext3 h0.symm rfl rfl
    rw [← hy]; exact View.emb_mem_set _ _
theorem aracc_sub (o : Dev nD) (hoff : off = ![o.val, 0, 0]) : (aracc off inb).set ⊆ arSet o :=
  set_sub fun y => by
    rw [aracc_emb o hoff]
    exact Finset.mem_filter.mpr ⟨Finset.mem_univ _, rfl⟩

theorem ar_write (A : Dev nD → F .f32) (hoff : off = ![c.val, 0, 0]) (f : Vec F S4x8x128 .f32) (j : S4x8x128.Idx) (hj : j ∈ arSet c) :
    (aracc off inb).write (Elt F) f (fun _ => A c) Finset.univ j = layers A j := by
  have h0 := (Finset.mem_filter.mp hj).2
  have hy : (aracc off inb).emb (ix3 0 (j 1).val (j 2).val (by decide) (lt3_1 j) (lt3_2 j) : S1x8x128.Idx) = j := by
    rw [aracc_emb c hoff]
    exact ext3 h0.symm rfl rfl
  refine (write_at hy).trans ?_
  exact congrArg A (Fin.ext h0.symm)

/-- What device `c` holds for the exchange with `q` before it has sent its maximum; -/
def A0 (c q : Dev nD) : sProp 𝕄 :=
  iprop(asD m c q ∗ if q = c then ar? c c else iprop(dutyTok EB (cell c (.asend q)) 0 c ∗ dutyTok EB (cell q (.arecv c)) 0 c ∗ ar? q c))
/-- its own layer stored; -/
def A1 (c q : Dev nD) : sProp 𝕄 :=
  iprop(asD m c q ∗ if q = c then arD m c c else iprop(dutyTok EB (cell c (.asend q)) 0 c ∗ dutyTok EB (cell q (.arecv c)) 0 c ∗ ar? q c))
/-- the maximum sent; -/
def A2 (c q : Dev nD) : sProp 𝕄 :=
  if q = c then iprop(asD m c c ∗ arD m c c)
  else iprop(cred (tallyAt (cell c (.asend q)) () Na) ∗ cred (tallyAt (cell c (.arecv q)) () Na) ∗ atPos EB (cell c (.asend q)) 0 ∅ 0 ∗ atPos EB (cell c (.arecv q)) 0 ∅ 0)
/-- what it waits for `q`'s with, -/
def Aw (c q : Dev nD) : sProp 𝕄 :=
  if q = c then iprop(emp) else iprop(cred (tallyAt (cell c (.arecv q)) () Na) ∗ atPos EB (cell c (.asend q)) 0 ∅ 0 ∗ atPos EB (cell c (.arecv q)) 0 ∅ 0)
/-- and `q`'s there. -/
def A3 (c q : Dev nD) : sProp 𝕄 :=
  iprop(asD m c q ∗ arD m c q ∗ if q = c then iprop(emp) else iprop(atPos EB (cell c (.asend q)) 1 ∅ 0 ∗ atPos EB (cell c (.arecv q)) 1 ∅ 0))

theorem ar_own (q : Dev nD) {C : Prop} [Decidable C] (hC : C ↔ q = c) (hoff : off = ![q.val, 0, 0])
    {hl} {hx} {hm} {v : FVec F S1x8x128 .f32} (hv : v = fun _ => amax (xin m) (win m) c) :
    A0 m c q ⊢ iprop((A1 m c q -∗ WP c kd Q)
      -∗ WP c (if C then .op (.load (Memref.whole cc0_scratch7 : Memref sig .tc .vmem S4x8x128 .f32) (Rect.unit (s := S4x8x128) off S1x8x128.size inb).toLoadRect hl)
          (fun _ => .op (.store (Memref.whole cc0_scratch7 : Memref sig .tc .vmem S4x8x128 .f32) (Rect.unit (s := S4x8x128) off S1x8x128.size inb) v Finset.univ hx hm) (fun _ => kd))
        else kd) Q) := by
  unfold A0 A1
  by_cases h' : C
  · have hc : q = c := hC.mp h'
    subst hv
    subst hc
    rw [if_pos h', if_pos rfl, if_pos rfl]
    unfold ar? arD amaxR
    iintro ⟨Ha, ⟨%f, H⟩⟩ Hk
    iapply (load_as (b := (Memref.whole cc0_scratch7 : Memref sig .tc .vmem S4x8x128 .f32)) _ (load_sub (r := Rect.unit (s := S4x8x128) off S1x8x128.size inb) (aracc_sub q hoff)) rfl) $$ H
    iintro H
    iapply (store_as (b := (Memref.whole cc0_scratch7 : Memref sig .tc .vmem S4x8x128 .f32)) (r := Rect.unit (s := S4x8x128) off S1x8x128.size inb)
      (w := fun _ => amax (xin m) (win m) q) (g := layers (amax (xin m) (win m))) (S := arSet q)
      (aracc_sub q hoff) (ar_write (amax (xin m) (win m)) hoff f)) $$ H
    iintro H
    iapply Hk
    isplitl [Ha]; · iexact Ha
    iexact H
  · have hc : ¬ q = c := fun e => h' (hC.mpr e)
    rw [if_neg h', if_neg hc, if_neg hc]
    iintro H Hk
    iapply Hk
    iexact H

theorem ar_read (A : Dev nD → F .f32) (q : Dev nD) {inb : ∀ a, (![q.val, 0, 0] : Fin 3 → ℕ) a + S1x1x1.size a ≤ S4x8x128.size a}
    (he : ∀ y : S1x1x1.Idx, ((Rect.unit (s := S4x8x128) ![q.val, 0, 0] S1x1x1.size inb).emb y 0).val = q.val) :
    (Memref.whole cc0_scratch7 : Memref sig .tc .vmem S4x8x128 .f32).view.readAt (Elt F) (Rect.unit (s := S4x8x128) ![q.val, 0, 0] S1x1x1.size inb).toLoadRect (layers A)
      = fun _ => A q := by
  funext y
  exact congrArg A (Fin.ext (he y))

theorem ar_load (q : Dev nD) (hoff : off = ![q.val, 0, 0]) {inb : ∀ a, off a + S1x1x1.size a ≤ S4x8x128.size a} {hl}
    {kv : Vec F S1x1x1 .f32 → Prog (TpuEff nD τ sig (Elt F) Λ₀ .tc) α} :
    A3 m c q ⊢ iprop((A3 m c q -∗ WP c (kv (fun _ => amax (xin m) (win m) q)) Q)
      -∗ WP c (.op (.load (Memref.whole cc0_scratch7 : Memref sig .tc .vmem S4x8x128 .f32) (Rect.unit (s := S4x8x128) off S1x1x1.size inb).toLoadRect hl) kv) Q) := by
  subst hoff
  have he : ∀ y : S1x1x1.Idx, ((Rect.unit (s := S4x8x128) ![q.val, 0, 0] S1x1x1.size inb).emb y 0).val = q.val := fun y => by
    have h0 := unit_emb (s := S4x8x128) inb y 0
    exact h0.trans (by have := lt3_0 y; show q.val + (y 0).val = q.val; omega)
  unfold A3 arD amaxR
  iintro ⟨Ha, H, Hp⟩ Hk
  iapply (load_as (b := (Memref.whole cc0_scratch7 : Memref sig .tc .vmem S4x8x128 .f32)) (fun _ => amax (xin m) (win m) q) ?_ (ar_read (amax (xin m) (win m)) q he)) $$ H
  · exact load_sub (r := Rect.unit (s := S4x8x128) ![q.val, 0, 0] S1x1x1.size inb) (set_sub fun z => Finset.mem_filter.mpr ⟨Finset.mem_univ _, he z⟩)
  iintro H
  iapply Hk
  isplitl [Ha]; · iexact Ha
  isplitl [H]; · iexact H
  iexact Hp
end Am

end Cert.A2A

end
-- ==== Proof.Closed.lean ====
/-
# Closed forms

The offsets, devices, tests and payloads of the program as functions of the device that runs it.
-/
module

public import proofs.«01_k».proof.Proof.Exchange

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)
variable {c : Dev nD} {α : Type} {Q : α → sProp (MT nD τ sig Unit (Elt F) ℕ UU ℕ)} {kk : PUnit → Prog (TpuEff nD τ sig (Elt F) Λ₀ .tc) α}
variable {kd : Prog (TpuEff nD τ sig (Elt F) Λ₀ .tc) α}

/-! ## Offsets and devices -/

theorem off1_0 (c : Dev nD) : k0_off1 c 0#32 = ![0, 512 * (peer c 0).val] := by revert c; decide +kernel
theorem off1_1 (c : Dev nD) : k0_off1 c 1#32 = ![0, 512 * (peer c 1).val] := by revert c; decide +kernel
theorem off1_2 (c : Dev nD) : k0_off1 c 2#32 = ![0, 512 * (peer c 2).val] := by revert c; decide +kernel
theorem off1_3 (c : Dev nD) : k0_off1 c 3#32 = ![0, 512 * (peer c 3).val] := by revert c; decide +kernel
theorem off2_0 (c : Dev nD) : k0_off2 c 0#32 = ![2 * c.val + 0] := by revert c; decide +kernel
theorem off2_1 (c : Dev nD) : k0_off2 c 1#32 = ![2 * c.val + 1] := by revert c; decide +kernel
theorem off3 (c : Dev nD) : k0_off3 c = ![c.val, 512 * 0, 0] := by revert c; decide +kernel
theorem off4 (c : Dev nD) : k0_off4 c = ![c.val, 512 * 1, 0] := by revert c; decide +kernel
theorem off13_0 (c : Dev nD) : k0_off13 c 0#32 = ![(peer c 0).val, 0, 0] := by revert c; decide +kernel
theorem off13_1 (c : Dev nD) : k0_off13 c 1#32 = ![(peer c 1).val, 0, 0] := by revert c; decide +kernel
theorem off13_2 (c : Dev nD) : k0_off13 c 2#32 = ![(peer c 2).val, 0, 0] := by revert c; decide +kernel
theorem off13_3 (c : Dev nD) : k0_off13 c 3#32 = ![(peer c 3).val, 0, 0] := by revert c; decide +kernel
theorem off14_0 (c : Dev nD) : k0_off14 c 0#32 = ![1024 * (peer c 0).val, 0] := by revert c; decide +kernel
theorem off14_1 (c : Dev nD) : k0_off14 c 1#32 = ![1024 * (peer c 1).val, 0] := by revert c; decide +kernel
theorem off14_2 (c : Dev nD) : k0_off14 c 2#32 = ![1024 * (peer c 2).val, 0] := by revert c; decide +kernel
theorem off14_3 (c : Dev nD) : k0_off14 c 3#32 = ![1024 * (peer c 3).val, 0] := by revert c; decide +kernel
theorem off15_10 (c : Dev nD) : k0_off15 c 1#32 0#32 = ![2 * (peer c 1).val + (0 : Fin 2).val] := by revert c; decide +kernel
theorem off15_11 (c : Dev nD) : k0_off15 c 1#32 1#32 = ![2 * (peer c 1).val + (1 : Fin 2).val] := by revert c; decide +kernel
theorem off15_20 (c : Dev nD) : k0_off15 c 2#32 0#32 = ![2 * (peer c 2).val + (0 : Fin 2).val] := by revert c; decide +kernel
theorem off15_21 (c : Dev nD) : k0_off15 c 2#32 1#32 = ![2 * (peer c 2).val + (1 : Fin 2).val] := by revert c; decide +kernel
theorem off15_30 (c : Dev nD) : k0_off15 c 3#32 0#32 = ![2 * (peer c 3).val + (0 : Fin 2).val] := by revert c; decide +kernel
theorem off15_31 (c : Dev nD) : k0_off15 c 3#32 1#32 = ![2 * (peer c 3).val + (1 : Fin 2).val] := by revert c; decide +kernel

theorem dev5 (c : Dev nD) : (⟨k0_dev5 c, k0_dev5_lt c⟩ : Dev nD) = peer c (ahead 0) := by revert c; decide +kernel
theorem dev6 (c : Dev nD) : (⟨k0_dev6 c, k0_dev6_lt c⟩ : Dev nD) = peer c (ahead 0) := by revert c; decide +kernel
theorem dev7 (c : Dev nD) : (⟨k0_dev7 c, k0_dev7_lt c⟩ : Dev nD) = peer c (ahead 1) := by revert c; decide +kernel
theorem dev8 (c : Dev nD) : (⟨k0_dev8 c, k0_dev8_lt c⟩ : Dev nD) = peer c (ahead 1) := by revert c; decide +kernel
theorem dev9 (c : Dev nD) : (⟨k0_dev9 c, k0_dev9_lt c⟩ : Dev nD) = peer c (ahead 2) := by revert c; decide +kernel
theorem dev10 (c : Dev nD) : (⟨k0_dev10 c, k0_dev10_lt c⟩ : Dev nD) = peer c (ahead 2) := by revert c; decide +kernel

theorem peer_zero (c : Dev nD) : peer c 0 = c := by revert c; decide
theorem peer_ne1 (c : Dev nD) : peer c 1 ≠ c := by revert c; decide
theorem peer_ne2 (c : Dev nD) : peer c 2 ≠ c := by revert c; decide
theorem peer_ne3 (c : Dev nD) : peer c 3 ≠ c := by revert c; decide

/-! ## Conditions -/

/-- The device's number as the program computes it. -/
abbrev me (c : Dev nD) : BitVec 32 := Scalar.remsi (Scalar.divsi (Dev.word c) 1#32) 4#32

/-- The program's test that a word is `q`, and that it is not. -/
abbrev isq (v q : BitVec 32) : Prop := Scalar.cmpi .ne (Scalar.extui (Scalar.cmpi .eq v q) : BitVec 32) 0#32 = 1#1
abbrev noq (v q : BitVec 32) : Prop := Scalar.cmpi .ne (Scalar.extui (Scalar.cmpi .ne v q) : BitVec 32) 0#32 = 1#1

theorem cond1 (c : Dev nD) : k0_cond1 c = 1#1 ↔ c ≠ 0 := by revert c; decide +kernel
theorem cond2 (c : Dev nD) : k0_cond2 c = 1#1 ↔ c ≠ 1 := by revert c; decide +kernel
theorem cond3 (c : Dev nD) : k0_cond3 c = 1#1 ↔ c ≠ 2 := by revert c; decide +kernel
theorem cond4 (c : Dev nD) : k0_cond4 c = 1#1 ↔ c ≠ 3 := by revert c; decide +kernel
theorem cond14 (c : Dev nD) : k0_cond14 c = 1#1 ↔ (0 : Dev nD) ≠ c := by revert c; decide +kernel
theorem cond16 (c : Dev nD) : k0_cond16 c = 1#1 ↔ (1 : Dev nD) ≠ c := by revert c; decide +kernel
theorem cond18 (c : Dev nD) : k0_cond18 c = 1#1 ↔ (2 : Dev nD) ≠ c := by revert c; decide +kernel
theorem cond20 (c : Dev nD) : k0_cond20 c = 1#1 ↔ (3 : Dev nD) ≠ c := by revert c; decide +kernel
theorem is0 (c : Dev nD) : isq (me c) 0#32 ↔ c.val = 0 := by revert c; decide +kernel
theorem is1 (c : Dev nD) : isq (me c) 1#32 ↔ c.val = 1 := by revert c; decide +kernel
theorem is2 (c : Dev nD) : isq (me c) 2#32 ↔ c.val = 2 := by revert c; decide +kernel
theorem is3 (c : Dev nD) : isq (me c) 3#32 ↔ c.val = 3 := by revert c; decide +kernel
theorem eq0 (c : Dev nD) : isq (me c) 0#32 ↔ 0 = c := by revert c; decide +kernel
theorem eq1 (c : Dev nD) : isq (me c) 1#32 ↔ 1 = c := by revert c; decide +kernel
theorem eq2 (c : Dev nD) : isq (me c) 2#32 ↔ 2 = c := by revert c; decide +kernel
theorem eq3 (c : Dev nD) : isq (me c) 3#32 ↔ 3 = c := by revert c; decide +kernel
theorem no0 (c : Dev nD) : noq (me c) 0#32 ↔ 0 ≠ c := by revert c; decide +kernel
theorem no1 (c : Dev nD) : noq (me c) 1#32 ↔ 1 ≠ c := by revert c; decide +kernel
theorem no2 (c : Dev nD) : noq (me c) 2#32 ↔ 2 ≠ c := by revert c; decide +kernel
theorem no3 (c : Dev nD) : noq (me c) 3#32 ↔ 3 ≠ c := by revert c; decide +kernel

/-! ## Payloads that are the same function -/

section
variable (v : Vec F S1x128x4096 .f32) (a : Vec F S512x4096 .bf16) (b : Vec F S1x4096x512 .f32)
theorem pay2_eq : k0_pay2 v = k0_pay1 v := rfl
theorem pay3_eq : k0_pay3 v = k0_pay1 v := rfl
theorem pay4_eq : k0_pay4 v = k0_pay1 v := rfl
theorem pay9_eq : k0_pay9 v = k0_pay1 v := rfl
theorem pay10_eq : k0_pay10 v = k0_pay1 v := rfl
theorem pay11_eq : k0_pay11 v = k0_pay1 v := rfl
theorem pay12_eq : k0_pay12 v = k0_pay1 v := rfl
theorem pay15_eq : k0_pay15 a b = k0_pay8 a b := rfl
theorem pay18_eq : k0_pay18 a b = k0_pay8 a b := rfl
theorem pay22_eq : k0_pay22 a (k0_pay19 b) (constant S512x512 .f32 0x00000000#32) = k0_pay8 a b := rfl
theorem pay24_eq : k0_pay24 a b = k0_pay8 a b := rfl
theorem pay28_eq : k0_pay28 (k0_pay27 a b) = k0_pay8 a b := rfl
theorem pay32_eq : k0_pay32 a b = k0_pay8 a b := rfl
theorem pay33_eq : k0_pay33 (k0_pay31 a b) = k0_pay8 a b := rfl
theorem pay34_eq : k0_pay34 (k0_pay31 a b) = k0_pay8 a b := rfl
theorem pay35_eq : k0_pay35 (k0_pay31 a b) = k0_pay8 a b := rfl
theorem pay38_eq : k0_pay38 a b = k0_pay8 a b := rfl
theorem pay39_eq : k0_pay39 a b = k0_pay8 a b := rfl
theorem pay40_eq : k0_pay40 a b = k0_pay8 a b := rfl
theorem pay41_eq : k0_pay41 a b = k0_pay8 a b := rfl
theorem pay46_eq (v : F .f32) : k0_pay46 v = k0_pay45 v := rfl
theorem pay47_eq (v : F .f32) : k0_pay47 v = k0_pay45 v := rfl
theorem pay48_eq (v : F .f32) : k0_pay48 v = k0_pay45 v := rfl
end

section
variable (s i : F .f32) (y : Vec F S1x1024x512 .bf16)
theorem pay54_eq : k0_pay54 (k0_pay53 s i y) = k0_pay52 s i y := rfl
theorem pay56_eq : k0_pay56 s (k0_pay55 i y) (Scalar.ofBits .f32 0x43E00000#32) = k0_pay52 s i y := rfl
theorem pay57_eq : k0_pay57 s i y = k0_pay52 s i y := rfl
end

end Cert.A2A

end
-- ==== Proof.Steps.lean ====
/-
# The steps of the protocol

The signal, the copies to another device, and the waits for what another device pays, each as a lemma about one
operation of the program: what the device must hold before it and what it holds after.
-/
module

public import proofs.«01_k».proof.Proof.Exchange

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)
variable {c : Dev nD} {α : Type} {Q : α → sProp (MT nD τ sig Unit (Elt F) ℕ UU ℕ)} {kk : PUnit → Prog (TpuEff nD τ sig (Elt F) Λ₀ .tc) α}
variable {kd : Prog (TpuEff nD τ sig (Elt F) Λ₀ .tc) α}

/-! ## The semaphores of the cells -/

theorem send_sem (s : Fin 3) (h : Fin 2) {off : Fin 1 → ℕ} (hoff : off = ![2 * s.val + h.val]) {inb : ∀ a, off a + S1.size a ≤ S6.size a} {hq : S1.Squeezes S_} :
    SemLoc.dma ((SemArray.slice cc0_scratch11 (Rect.unit (s := S6) off S1.size inb)).squeeze S_ hq).sem = enc (.send s h) := by
  subst hoff; revert hq; revert s h; decide
theorem recv_sem (o : Dev nD) (h : Fin 2) {off : Fin 1 → ℕ} (hoff : off = ![2 * o.val + h.val]) {inb : ∀ a, off a + S1.size a ≤ S8.size a} {hq : S1.Squeezes S_} :
    SemLoc.dma ((SemArray.slice cc0_scratch12 (Rect.unit (s := S8) off S1.size inb)).squeeze S_ hq).sem = enc (.recv o h) := by
  subst hoff; revert hq; revert o h; decide
theorem asend_sem (p : Dev nD) {off : Fin 1 → ℕ} (hoff : off = ![p.val]) {inb : ∀ a, off a + S1.size a ≤ S4.size a} {hq : S1.Squeezes S_} :
    SemLoc.dma ((SemArray.slice cc0_scratch13 (Rect.unit (s := S4) off S1.size inb)).squeeze S_ hq).sem = enc (.asend p) := by
  subst hoff; revert hq; revert p; decide
theorem arecv_sem (o : Dev nD) {off : Fin 1 → ℕ} (hoff : off = ![o.val]) {inb : ∀ a, off a + S1.size a ≤ S4.size a} {hq : S1.Squeezes S_} :
    SemLoc.dma ((SemArray.slice cc0_scratch14 (Rect.unit (s := S4) off S1.size inb)).squeeze S_ hq).sem = enc (.arecv o) := by
  subst hoff; revert hq; revert o; decide

/-! ## The signals -/

/-- What a signal to `q` takes: the right to give it, and layer `q` of the device's receive buffers. -/
def SigPre (c q : Dev nD) : sProp 𝕄 :=
  if q = c then iprop(emp) else iprop(dutyTok EB (cell q .bar) 0 c ∗ rv? c q 0 ∗ rv? c q 1 ∗ ar? c q)

theorem sig_step (q : Dev nD) (n : ℕ) (hO : owed c n = owed c (n + 1) + tallyAt (cell q .bar) () (if c = q then 0 else 1))
    {C : Prop} [Decidable C] (hC : C ↔ c ≠ q) {dev : C → Dev nD} (hdev : ∀ h, dev h = q) {sm : Sem sig} (hs : sm = barrier0) :
    iprop(SigPre c q ∗ Ow m κ c n) ⊢ iprop((Ow m κ c (n + 1) -∗ WP c kd Q)
      -∗ WP c (if h : C then .op (.semSignal ((dev h : Dev nD), Proc.tc) sm (1#32).toInt) (fun _ => kd) else kd) Q) := by
  subst hs
  by_cases h : C
  · have hcq : c ≠ q := hC.mp h
    rw [dif_pos h, hdev h, SigPre, if_neg (Ne.symm hcq)]
    rw [if_neg hcq] at hO
    unfold Ow
    iintro ⟨⟨Ht, H0, H1, Ha⟩, #Hrec, #Hlev, %W, HO⟩ Hk
    iapply (Rounds.wp_signal 𝒱₀ EB (Rd m) (c : Thread nD τ) none (dst := (q : Thread nD τ)) (κ := κ (q, .bar)) (d := c) (r := 0)
      (by rw [show ((q : Thread nD τ), SemLoc.reg barrier0) = cell q .bar from rfl, duties_eq]; exact Finset.mem_erase.mpr ⟨hcq, Finset.mem_univ _⟩)
      ((amount_eq m q .bar c).trans (by decide)) () (owed c (n + 1)) hO) $$ [HO Ht H0 H1 Ha]
    · isplitr; · iapply (records_inv m κ q .bar); iexact Hrec
      isplitl [HO]; · iexact HO
      isplitl [Ht]; · iexact Ht
      isplitl [H0 H1 Ha]
      · iapply (Entails.of_eq (show iprop(rv? c q 0 ∗ rv? c q 1 ∗ ar? c q) = (Rd m).payload ((q : Thread nD τ), SemLoc.reg barrier0) 0 c from (payload_eq m q .bar c).symm))
        isplitl [H0]; · iexact H0
        isplitl [H1] <;> iassumption
      · iapply (records_reached m κ q .bar); iexact Hrec
    iintro HO
    iapply Hk
    isplitr; · iexact Hrec
    isplitr; · iexact Hlev
    iexists W; iexact HO
  · have hcq : c = q := not_not.mp fun e => h (hC.mpr e)
    rw [dif_neg h]
    rw [if_pos hcq, tallyAt_zero, add_zero] at hO
    unfold Ow
    rw [hO]
    iintro ⟨-, H⟩ Hk
    iapply Hk; iexact H

/-! ## The waits -/

/-- The wait at the barrier: every other device's layers for this one. -/
theorem bar_wait {sm : Sem sig} (hs : sm = barrier0) :
    iprop(atPos EB (cell c .bar) 0 ∅ 0 ∗ cred (tallyAt (cell c .bar) () 3) ∗ Ow m κ c 4)
      ⊢ iprop((iprop((bigSep (Finset.univ.erase c) fun p => iprop(rv? p c 0 ∗ rv? p c 1 ∗ ar? p c)) ∗ atPos EB (cell c .bar) 1 ∅ 0 ∗ Ow m κ c 4) -∗ WP c (kk ⟨⟩) Q)
        -∗ WP c (.op (.semWait sm (3#32).toInt) kk) Q) := by
  subst hs
  unfold Ow
  iintro ⟨Hat, Hc, #Hrec, #Hlev, %W, HO⟩ Hk
  iapply (Rounds.wp_wait_rest_token 𝒱₀ EB (Rd m) (c : Thread nD τ) none (κ := κ (c, .bar))
      (wpE_semWait_eq 𝒱₀ (c : Thread nD τ) none Set.univ) (Set.mem_univ _) () (O := owed c 4) (W := W) (R := 0) (m := 0) (T := ∅)
      ((expect_eq m c .bar).trans (by
        show (Finset.univ.erase c).card * 1 = 0 + 3
        rw [Finset.card_erase_of_mem (Finset.mem_univ _)]; decide)).symm) $$ [Hat Hc HO]
  · isplitr; · iapply (records_inv m κ c .bar); iexact Hrec
    isplitl [Hc]; · iexact Hc
    isplitl [HO]; · iexact HO
    isplitr; · iapply (mayWait_bar c); iexact Hlev
    iexact Hat
  iintro ⟨HO, Hat, -, Hp⟩
  ihave Hp := (Entails.of_eq (show (bigSep ((Rd m).duties ((c : Thread nD τ), SemLoc.reg barrier0) 0 \ ∅) fun p => (Rd m).payload ((c : Thread nD τ), SemLoc.reg barrier0) 0 p) = (bigSep (Finset.univ.erase c) fun p => iprop(rv? p c 0 ∗ rv? p c 1 ∗ ar? p c)) from rest_eq m c .bar)) $$ Hp
  iapply Hk
  isplitl [Hp]; · iexact Hp
  isplitl [Hat]; · iexact Hat
  isplitr; · iexact Hrec
  isplitr; · iexact Hlev
  iexists (insert (SemLoc.reg barrier0, ()) W); iexact HO

/-- A wait at a cell of one payer, once nothing is owed. -/
theorem wait_cell (k : CK) (p : Dev nD) (hp : payers c k = {p}) {i : DmaSem sig} (hi : SemLoc.dma i = enc k)
    {sp₁ sp₂ : Space} {s₁ s₂ : Shape} {e₁ e₂ : EltTy} {srcw : Memref sig .tc sp₁ s₁ e₁} {dstw : Memref sig .tc sp₂ s₂ e₂}
    (hN : dstw.view.dmaCredit = amt k) {hsrc : srcw.view.WordExact} {hdst : dstw.view.WordExact} :
    iprop(atPos EB (cell c k) 0 ∅ 0 ∗ cred (tallyAt (cell c k) () (amt k)) ∗ Ow m κ c 14)
      ⊢ iprop((iprop(pay m c p k ∗ atPos EB (cell c k) 1 ∅ 0 ∗ Ow m κ c 14) -∗ WP c (kk ⟨⟩) Q)
        -∗ WP c (.op (.waitDma2 i srcw dstw hsrc hdst) kk) Q) := by
  unfold Ow
  rw [owed_end]
  have hcell : cell c k = ((c : Thread nD τ), SemLoc.dma i) := by rw [hi]
  have hx := (expect_eq m c k).trans (by rw [hp, Finset.card_singleton, one_mul, ← hN, ← Nat.zero_add dstw.view.dmaCredit])
  have hr := (rest_eq m c k).trans (by rw [hp, bigSep_singleton])
  have hinv := records_inv m κ c k
  rw [← hN]
  rw [hcell] at hx hr hinv ⊢
  iintro ⟨Hat, Hc, #Hrec, #Hlev, %W, HO⟩ Hk
  iapply (Rounds.wp_wait_rest_token 𝒱₀ EB (Rd m) (c : Thread nD τ) none (κ := κ (c, k))
      (wpE_waitDma2_eq 𝒱₀ (c : Thread nD τ) none Set.univ) (Set.mem_univ _) () (O := 0) (W := W) (R := 0) (m := 0) (T := ∅) hx.symm) $$ [Hat Hc HO]
  · isplitr; · iapply hinv; iexact Hrec
    isplitl [Hc]; · iexact Hc
    isplitl [HO]; · iexact HO
    isplitr; · rw [MayWait_zero]; iempintro
    iexact Hat
  iintro ⟨HO, Hat, -, Hp⟩
  ihave Hp := (Entails.of_eq hr) $$ Hp
  iapply Hk
  isplitl [Hp]; · iexact Hp
  isplitl [Hat]; · iexact Hat
  isplitr; · iexact Hrec
  isplitr; · iexact Hlev
  iexists (insert (SemLoc.dma i, ()) W); iexact HO

/-- What device `c` waits for half `h` of the block from `o` with; -/
def RvWait (c o : Dev nD) (h : Fin 2) : sProp 𝕄 := iprop(atPos EB (cell c (.recv o h)) 0 ∅ 0 ∗ cred (tallyAt (cell c (.recv o h)) () Nr))
/-- and the half there. -/
def RvGot (c o : Dev nD) (h : Fin 2) : sProp 𝕄 := iprop(rvD m c o h ∗ atPos EB (cell c (.recv o h)) 1 ∅ 0)
/-- The send side of a half-block copy in flight; -/
def SvFly (c : Dev nD) (s : Fin 3) (h : Fin 2) : sProp 𝕄 := iprop(atPos EB (cell c (.send s h)) 0 ∅ 0 ∗ cred (tallyAt (cell c (.send s h)) () Nr))
/-- and done. -/
def SvDone (c : Dev nD) (s : Fin 3) (h : Fin 2) : sProp 𝕄 := iprop(svD m c s h ∗ atPos EB (cell c (.send s h)) 1 ∅ 0)

section Waits
variable {i : DmaSem sig} {sp₁ sp₂ : Space} {s₁ s₂ : Shape} {e₁ e₂ : EltTy} {srcw : Memref sig .tc sp₁ s₁ e₁} {dstw : Memref sig .tc sp₂ s₂ e₂}
  {hsrc : srcw.view.WordExact} {hdst : dstw.view.WordExact}

theorem rv_wait (o : Dev nD) (h : Fin 2) (ho : o ≠ c) (hi : SemLoc.dma i = enc (.recv o h)) (hN : dstw.view.dmaCredit = Nr) :
    iprop(RvWait c o h ∗ Ow m κ c 14) ⊢ iprop((iprop(RvGot m c o h ∗ Ow m κ c 14) -∗ WP c (kk ⟨⟩) Q)
        -∗ WP c (.op (.waitDma2 i srcw dstw hsrc hdst) kk) Q) := by
  unfold RvWait RvGot
  iintro ⟨⟨Hat, Hc⟩, HO⟩ Hk
  iapply (wait_cell m κ (.recv o h) o (if_neg ho) hi (srcw := srcw) (dstw := dstw) hN) $$ [Hat Hc HO]
  · isplitl [Hat]; · iexact Hat
    isplitl [Hc]; · iexact Hc
    iexact HO
  iintro ⟨Hp, Hat, HO⟩
  ihave Hp := (Entails.of_eq (show pay m c o (.recv o h) = rvD m c o h from rfl)) $$ Hp
  iapply Hk
  isplitl [Hp Hat]
  · isplitl [Hp]; · iexact Hp
    iexact Hat
  iexact HO

theorem sv_wait (s : Fin 3) (h : Fin 2) (hi : SemLoc.dma i = enc (.send s h)) (hN : dstw.view.dmaCredit = Nr) :
    iprop(SvFly c s h ∗ Ow m κ c 14) ⊢ iprop((iprop(SvDone m c s h ∗ Ow m κ c 14) -∗ WP c (kk ⟨⟩) Q)
        -∗ WP c (.op (.waitDma2 i srcw dstw hsrc hdst) kk) Q) := by
  unfold SvFly SvDone
  iintro ⟨⟨Hat, Hc⟩, HO⟩ Hk
  iapply (wait_cell m κ (.send s h) c rfl hi (srcw := srcw) (dstw := dstw) hN) $$ [Hat Hc HO]
  · isplitl [Hat]; · iexact Hat
    isplitl [Hc]; · iexact Hc
    iexact HO
  iintro ⟨Hp, Hat, HO⟩
  ihave Hp := (Entails.of_eq (show pay m c c (.send s h) = svD m c s h from rfl)) $$ Hp
  iapply Hk
  isplitl [Hp Hat]
  · isplitl [Hp]; · iexact Hp
    iexact Hat
  iexact HO
end Waits

/-- The two waits of the exchange of maxima with `q`. -/
theorem ar_wait (q : Dev nD) {C : Prop} [Decidable C] (hC : C ↔ q ≠ c) {i i' : DmaSem sig} (hi : SemLoc.dma i = enc (.asend q)) (hi' : SemLoc.dma i' = enc (.arecv q))
    {sp₁ sp₂ : Space} {s₁ s₂ : Shape} {e₁ e₂ : EltTy} {srcw : Memref sig .tc sp₁ s₁ e₁} {dstw : Memref sig .tc sp₂ s₂ e₂}
    {hsrc : srcw.view.WordExact} {hdst : dstw.view.WordExact}
    {sp₃ sp₄ : Space} {s₃ s₄ : Shape} {e₃ e₄ : EltTy} {srcv : Memref sig .tc sp₃ s₃ e₃} {dstv : Memref sig .tc sp₄ s₄ e₄}
    {hsrc' : srcv.view.WordExact} {hdst' : dstv.view.WordExact} (hN : dstw.view.dmaCredit = Na) (hN' : dstv.view.dmaCredit = Na) :
    iprop(A2 m c q ∗ Ow m κ c 14) ⊢ iprop((iprop(A3 m c q ∗ Ow m κ c 14) -∗ WP c kd Q)
      -∗ WP c (if C then .op (.waitDma2 i srcw dstw hsrc hdst) (fun _ => .op (.waitDma2 i' srcv dstv hsrc' hdst') (fun _ => kd)) else kd) Q) := by
  unfold A2 A3
  by_cases h : C
  · have hq : q ≠ c := hC.mp h
    rw [if_pos h, if_neg hq, if_neg hq]
    iintro ⟨⟨Hc, Hc', Hat, Hat'⟩, HO⟩ Hk
    iapply (wait_cell m κ (.asend q) c (if_neg hq) hi (srcw := srcw) (dstw := dstw) hN) $$ [Hat Hc HO]
    · isplitl [Hat]; · iexact Hat
      isplitl [Hc]; · iexact Hc
      iexact HO
    iintro ⟨Hp, Hat, HO⟩
    ihave Hp := (Entails.of_eq (show pay m c c (.asend q) = asD m c q from rfl)) $$ Hp
    iapply (wait_cell m κ (.arecv q) q (if_neg hq) hi' (srcw := srcv) (dstw := dstv) hN') $$ [Hat' Hc' HO]
    · isplitl [Hat']; · iexact Hat'
      isplitl [Hc']; · iexact Hc'
      iexact HO
    iintro ⟨Hp', Hat', HO⟩
    ihave Hp' := (Entails.of_eq (show pay m c q (.arecv q) = arD m c q from rfl)) $$ Hp'
    iapply Hk
    isplitr [HO]
    · isplitl [Hp]; · iexact Hp
      isplitl [Hp']; · iexact Hp'
      isplitl [Hat]; · iexact Hat
      iexact Hat'
    iexact HO
  · have hq : q = c := not_not.mp fun e => h (hC.mpr e)
    subst hq
    rw [if_neg h, if_pos rfl, if_pos rfl]
    iintro ⟨⟨Ha, Hr⟩, HO⟩ Hk
    iapply Hk
    isplitr [HO]
    · isplitl [Ha]; · iexact Ha
      isplitl [Hr]; · iexact Hr
      iempintro
    iexact HO

/-! ## The copies to other devices -/

/-- A copy to device `p`, generically: the source elements go into one cell's payload, the landed elements into another's. -/
theorem send_gen {kS kR : CK} {p : Dev nD} (hdS : payers c kS = {c}) (hdR : payers p kR = {c}) (N : ℕ) (haS : amt kS = N) (haR : amt kR = N)
    {n : ℕ} (hO : owed c n = owed c (n + 1) + tallyAt (cell p kR) () N)
    {sp sp' : Space} {s : Shape} {e : EltTy} {src : Memref sig .tc sp s e} {dst : Memref sig (Dev.tc p : Thread nD τ).2.kind sp' s e}
    {sS sR : DmaSem sig} (hS : SemLoc.dma sS = enc kS) (hR : SemLoc.dma sR = enc kR)
    {hsc : dst.view.ref.isScScratch = false} {hsrc : src.view.WordExact} {hdst : dst.view.WordExact}
    {hsem : DmaTarget.Typed sp (.dma sR) (.remote (Dev.tc p : Thread nD τ) dst (.dma sS) hsc)}
    {q : PosShare TreeShare} {fs : Buf (Elt F) (src.view.loc (c : Thread nD τ))} {fd : Buf (Elt F) (dst.view.loc (Dev.tc p : Thread nD τ))}
    (hN : dst.view.amount (.dma sR) = N)
    (hpay₁ : (src.view.loc (c : Thread nD τ) ↦[src.view.set]{q} fs) ⊢ pay m c c kS)
    (hpay₂ : (dst.view.loc (Dev.tc p : Thread nD τ) ↦[dst.view.set]{fullShare} (dst.view.write (Elt F) fd (src.view.read (Elt F) fs) Finset.univ)) ⊢ pay m p c kR) :
    iprop((src.view.loc (c : Thread nD τ) ↦[src.view.set]{q} fs) ∗ (dst.view.loc (Dev.tc p : Thread nD τ) ↦[dst.view.set]{fullShare} fd)
        ∗ dutyTok EB (cell c kS) 0 c ∗ dutyTok EB (cell p kR) 0 c ∗ Ow m κ c n)
      ⊢ iprop((iprop(cred (tallyAt (cell c kS) () N) ∗ Ow m κ c (n + 1)) -∗ WP c (kk ⟨⟩) Q)
        -∗ WP c (.op (.enqueueDma src (.remote (Dev.tc p : Thread nD τ) dst (.dma sS) hsc) (.dma sR) hsrc hdst hsem) kk) Q) := by
  have hS' : cell c kS = ((c : Thread nD τ), SemLoc.dma sS) := by rw [hS]
  have hR' : cell p kR = ((p : Thread nD τ), SemLoc.dma sR) := by rw [hR]
  have dS : c ∈ (Rd m).duties (cell c kS) 0 := by rw [duties_eq, hdS]; exact Finset.mem_singleton_self _
  have dR : c ∈ (Rd m).duties (cell p kR) 0 := by rw [duties_eq, hdR]; exact Finset.mem_singleton_self _
  have aS := (amount_eq m c kS c).trans haS
  have aR := (amount_eq m p kR c).trans haR
  have pS := hpay₁.trans (Entails.of_eq (payload_eq m c kS c).symm)
  have pR := hpay₂.trans (Entails.of_eq (payload_eq m p kR c).symm)
  have iS := records_inv m κ c kS
  have iR := records_inv m κ p kR
  have rS := records_reached m κ c kS
  have rR := records_reached m κ p kR
  rw [hS'] at dS aS pS iS rS
  rw [hR'] at dR aR pR iR rR hO
  unfold Ow
  rw [hS', hR']
  iintro ⟨Hs, Hd, Ht, Ht', #Hrec, #Hlev, %W, HO⟩ Hk
  iapply (Rounds.wp_send_pointsTo 𝒱₀ EB (Rd m) (c : Thread nD τ) none (src := src) (dst := dst) (κ₁ := κ (c, kS)) (κ₂ := κ (p, kR))
    (r₁ := 0) (r₂ := 0) (d₁ := c) (d₂ := c) (fd := fd) dS dR () () N hN aS aR (owed c (n + 1)) hO (W := W) pS pR) $$ [Hs Hd Ht Ht' HO]
  · isplitr; · iapply iS; iexact Hrec
    isplitr; · iapply iR; iexact Hrec
    isplitl [Hs]; · iexact Hs
    isplitl [Hd]; · iexact Hd
    isplitl [HO]; · iexact HO
    isplitl [Ht]; · iexact Ht
    isplitr; · iapply rS; iexact Hrec
    isplitl [Ht']; · iexact Ht'
    iapply rR; iexact Hrec
  iintro ⟨Hc, HO⟩
  iapply Hk
  isplitl [Hc]; · iexact Hc
  isplitr; · iexact Hrec
  isplitr; · iexact Hlev
  iexists W; iexact HO

section Send
variable {off off' : Fin 3 → ℕ} {inb : ∀ a, off a + S1x512x512.size a ≤ S3x1024x512.size a} {inb' : ∀ a, off' a + S1x512x512.size a ≤ S4x1024x512.size a}
  {hq hq' : S1x512x512.Squeezes S512x512}

/-- A half block lands as the receive buffer's contents. -/
theorem sv_landing (s : Fin 3) (h : Fin 2) (hoff : off = ![s.val, 512 * h.val, 0]) (hoff' : off' = ![c.val, 512 * h.val, 0]) (x : Dev nD → Vec F S1024x4096 .f32)
    (w : Dev nD → Vec F S4096x2048 .f32) (fd : Vec F S4x1024x512 .bf16) (j : S4x1024x512.Idx) (hj : j ∈ rvSet c h) :
    (rvmem off' inb' hq').view.write (Elt F) fd ((svmem off inb hq).view.read (Elt F) (sendC x w c)) Finset.univ j = recvC x w (peer c (ahead s)) j := by
  obtain ⟨h0, h1⟩ := (Finset.mem_filter.mp hj).2
  have := lt3_1 j
  have hy : (rvmem off' inb' hq').view.emb (ix2 ((j 1).val % 512) (j 2).val (Nat.mod_lt _ (by decide)) (lt3_2 j)) = j := by
    rw [rvmem_emb c h hoff']
    exact ext3 h0.symm (by show 512 * h.val + (j 1).val % 512 = _; omega) rfl
  refine (write_at hy).trans ?_
  have hs : (⟨(j 0).val, lt3_0 j⟩ : Dev nD) = c := Fin.ext h0
  refine (congrArg (sendC x w c) (svmem_emb s h hoff _)).trans ?_
  show yblk x w c (peer c (ahead s)) _ = yblk x w ⟨(j 0).val, _⟩ (peer c (ahead s)) _
  rw [hs]
  exact congrArg (yblk x w c (peer c (ahead s))) (ext2 (by show 512 * h.val + (j 1).val % 512 = (j 1).val; omega) rfl)

/-- What the copy of half `h` of slot `s` takes, beside the filled half: the peer's layer and the two duties. -/
def SvPre (c : Dev nD) (s : Fin 3) (h : Fin 2) : sProp 𝕄 :=
  iprop(rv? (peer c (ahead s)) c h ∗ dutyTok EB (cell c (.send s h)) 0 c ∗ dutyTok EB (cell (peer c (ahead s)) (.recv c h)) 0 c ∗ atPos EB (cell c (.send s h)) 0 ∅ 0)

theorem peer_ne (s : Fin 3) : c ≠ peer c (ahead s) := by revert c s; decide

theorem sv_pay₁ (s : Fin 3) (h : Fin 2) (hoff : off = ![s.val, 512 * h.val, 0]) :
    ((svmem off inb hq).view.loc (c : Thread nD τ) ↦[(svmem off inb hq).view.set]{fullShare} (sendC (xin m) (win m) c : Buf (Elt F) (bufSv c))) ⊢ svD m c s h := by
  rw [svmem_set s h hoff]; exact Entails.refl _
theorem sv_pay₂ (s : Fin 3) (h : Fin 2) (hoff : off = ![s.val, 512 * h.val, 0]) (hoff' : off' = ![c.val, 512 * h.val, 0]) (fd : Vec F S4x1024x512 .bf16) :
    ((rvmem off' inb' hq').view.loc (peer c (ahead s) : Thread nD τ) ↦[(rvmem off' inb' hq').view.set]{fullShare}
      ((rvmem off' inb' hq').view.write (Elt F) fd ((svmem off inb hq).view.read (Elt F) (sendC (xin m) (win m) c)) Finset.univ))
      ⊢ rvD m (peer c (ahead s)) c h := by
  rw [rvmem_set c h hoff']
  exact Entails.of_eq (pointsTo_congr fun j hj => sv_landing s h hoff hoff' (xin m) (win m) fd j hj)

theorem send_step (s : Fin 3) (h : Fin 2) (n : ℕ) (hO : owed c n = owed c (n + 1) + tallyAt (cell (peer c (ahead s)) (.recv c h)) () Nr)
    (hoff : off = ![s.val, 512 * h.val, 0]) (hoff' : off' = ![c.val, 512 * h.val, 0]) {p : Dev nD} (hp : p = peer c (ahead s))
    {sS sR : DmaSem sig} (hS : SemLoc.dma sS = enc (.send s h)) (hR : SemLoc.dma sR = enc (.recv c h))
    {hsc : (rvmem off' inb' hq' : Memref sig (Dev.tc p : Thread nD τ).2.kind .vmem S512x512 .bf16).view.ref.isScScratch = false}
    {hsrc : (svmem off inb hq).view.WordExact} {hdst : (rvmem off' inb' hq').view.WordExact}
    {hsem : DmaTarget.Typed .vmem (.dma sR) (.remote (Dev.tc p : Thread nD τ) (rvmem off' inb' hq') (.dma sS) hsc)} :
    iprop(svD m c s h ∗ SvPre c s h ∗ Ow m κ c n) ⊢ iprop((iprop(SvFly c s h ∗ Ow m κ c (n + 1)) -∗ WP c (kk ⟨⟩) Q)
      -∗ WP c (.op (.enqueueDma (svmem off inb hq) (.remote (Dev.tc p : Thread nD τ) (rvmem off' inb' hq') (.dma sS) hsc) (.dma sR) hsrc hdst hsem) kk) Q) := by
  subst hp
  unfold SvPre SvFly rv? svD
  iintro ⟨Hs, ⟨⟨%fd, Hd⟩, Ht, Ht', Hat⟩, HO⟩ Hk
  iapply (send_gen m κ (kS := .send s h) (kR := .recv c h) (p := peer c (ahead s)) rfl (if_neg (peer_ne s)) Nr rfl rfl hO
    (src := svmem off inb hq) (dst := rvmem off' inb' hq') hS hR (q := fullShare) (fs := (sendC (xin m) (win m) c : Buf (Elt F) (bufSv c))) (fd := fd) rfl
    (sv_pay₁ m s h hoff) (sv_pay₂ m s h hoff hoff' fd)) $$ [Hs Hd Ht Ht' HO]
  · rw [svmem_set s h hoff, rvmem_set c h hoff']
    isplitl [Hs]; · iexact Hs
    isplitl [Hd]; · iexact Hd
    isplitl [Ht]; · iexact Ht
    isplitl [Ht']; · iexact Ht'
    iexact HO
  iintro ⟨Hc, HO⟩
  iapply Hk
  isplitl [Hc Hat]
  · isplitl [Hat]; · iexact Hat
    iexact Hc
  iexact HO
end Send

section SendA
variable {off' : Fin 3 → ℕ} {C : Prop} [Decidable C] {inb' : C → ∀ a, off' a + S1x8x128.size a ≤ S4x8x128.size a} {hq' : S1x8x128.Squeezes S8x128}

theorem as_landing {inb' : ∀ a, off' a + S1x8x128.size a ≤ S4x8x128.size a} (hoff' : off' = ![c.val, 0, 0]) (A : Dev nD → F .f32) (fd : Vec F S4x8x128 .f32)
    (j : S4x8x128.Idx) (hj : j ∈ arSet c) :
    (armem off' inb' hq').view.write (Elt F) fd ((Memref.whole cc0_scratch6 : Memref sig .tc .vmem S8x128 .f32).view.read (Elt F) (fun _ => A c)) Finset.univ j = layers A j := by
  have h0 := (Finset.mem_filter.mp hj).2
  have hy : (armem off' inb' hq').view.emb (ix2 (j 1).val (j 2).val (lt3_1 j) (lt3_2 j)) = j := by
    rw [armem_emb c hoff']
    exact ext3 h0.symm rfl rfl
  exact (write_at hy).trans (congrArg A (Fin.ext h0.symm))

theorem as_set : (Memref.whole cc0_scratch6 : Memref sig .tc .vmem S8x128 .f32).view.set = Finset.univ := Finset.map_refl
theorem as_pay₁ (p : Dev nD) :
    ((Memref.whole cc0_scratch6 : Memref sig .tc .vmem S8x128 .f32).view.loc (c : Thread nD τ)
      ↦[(Memref.whole cc0_scratch6 : Memref sig .tc .vmem S8x128 .f32).view.set]{Transfers.shareTok fullShare 4 p} (amaxS (xin m) (win m) c : Buf (Elt F) (bufAs c)))
      ⊢ asD m c p := by
  rw [as_set]; exact Entails.refl _
theorem as_pay₂ {inb' : ∀ a, off' a + S1x8x128.size a ≤ S4x8x128.size a} {p : Dev nD} (hoff' : off' = ![c.val, 0, 0]) (fd : Vec F S4x8x128 .f32) :
    ((armem off' inb' hq').view.loc (p : Thread nD τ) ↦[(armem off' inb' hq').view.set]{fullShare}
      ((armem off' inb' hq').view.write (Elt F) fd ((Memref.whole cc0_scratch6 : Memref sig .tc .vmem S8x128 .f32).view.read (Elt F) (amaxS (xin m) (win m) c)) Finset.univ))
      ⊢ arD m p c := by
  rw [armem_set c hoff']
  unfold arD amaxR
  exact Entails.of_eq (pointsTo_congr fun j hj => as_landing hoff' (amax (xin m) (win m)) fd j hj)

/-- The copy of the maximum to `q`. -/
theorem asend_step (q : Dev nD) (n : ℕ) (hO : owed c n = owed c (n + 1) + tallyAt (cell q (.arecv c)) () (if c = q then 0 else Na))
    (hC : C ↔ q ≠ c) (hoff' : off' = ![c.val, 0, 0]) {p : C → Dev nD} (hp : ∀ h, p h = q)
    {sS : DmaSem sig} {sR : C → DmaSem sig} (hS : SemLoc.dma sS = enc (.asend q)) (hR : ∀ h, SemLoc.dma (sR h) = enc (.arecv c))
    {hsc : ∀ h, (armem off' (inb' h) hq' : Memref sig (Dev.tc (p h) : Thread nD τ).2.kind .vmem S8x128 .f32).view.ref.isScScratch = false}
    {hsrc : C → (Memref.whole cc0_scratch6 : Memref sig .tc .vmem S8x128 .f32).view.WordExact} {hdst : ∀ h, (armem off' (inb' h) hq').view.WordExact}
    {hsem : ∀ h, DmaTarget.Typed .vmem (.dma (sR h)) (.remote (Dev.tc (p h) : Thread nD τ) (armem off' (inb' h) hq') (.dma sS) (hsc h))} :
    iprop(A1 m c q ∗ Aw c q ∗ Ow m κ c n) ⊢ iprop((iprop(A2 m c q ∗ Ow m κ c (n + 1)) -∗ WP c kd Q)
      -∗ WP c (if h : C then .op (.enqueueDma (Memref.whole cc0_scratch6 : Memref sig .tc .vmem S8x128 .f32)
            (.remote (Dev.tc (p h) : Thread nD τ) (armem off' (inb' h) hq') (.dma sS) (hsc h)) (.dma (sR h)) (hsrc h) (hdst h) (hsem h)) (fun _ => kd) else kd) Q) := by
  by_cases h : C
  · have hqc : q ≠ c := hC.mp h
    obtain rfl := (hp h)
    rw [dif_pos h]
    unfold A1 Aw A2
    rw [if_neg hqc, if_neg hqc, if_neg hqc]
    rw [if_neg (Ne.symm hqc)] at hO
    unfold ar? asD
    iintro ⟨⟨Hs, Ht, Ht', ⟨%fd, Hd⟩⟩, ⟨Hc', Hat, Hat'⟩, HO⟩ Hk
    iapply (send_gen m κ (kS := .asend (p h)) (kR := .arecv c) (p := p h) (if_neg hqc) (if_neg (Ne.symm hqc)) Na rfl rfl hO
      (src := (Memref.whole cc0_scratch6 : Memref sig .tc .vmem S8x128 .f32)) (dst := armem off' (inb' h) hq') hS (hR h)
      (q := Transfers.shareTok fullShare 4 (p h)) (fs := (amaxS (xin m) (win m) c : Buf (Elt F) (bufAs c))) (fd := fd) rfl
      (as_pay₁ m (p h)) (as_pay₂ m hoff' fd)) $$ [Hs Hd Ht Ht' HO]
    · rw [as_set, armem_set c hoff']
      isplitl [Hs]; · iexact Hs
      isplitl [Hd]; · iexact Hd
      isplitl [Ht]; · iexact Ht
      isplitl [Ht']; · iexact Ht'
      iexact HO
    iintro ⟨Hc, HO⟩
    iapply Hk
    isplitl [Hc Hc' Hat Hat']
    · isplitl [Hc]; · iexact Hc
      isplitl [Hc']; · iexact Hc'
      isplitl [Hat] <;> iassumption
    iexact HO
  · have hqc : q = c := not_not.mp fun e => h (hC.mpr e)
    subst hqc
    rw [dif_neg h]
    unfold A1 Aw A2
    rw [if_pos rfl, if_pos rfl, if_pos rfl]
    rw [if_pos rfl, tallyAt_zero, add_zero] at hO
    unfold Ow
    rw [hO]
    iintro ⟨⟨Ha, Hr⟩, -, HO⟩ Hk
    iapply Hk
    isplitl [Ha Hr]
    · isplitl [Ha] <;> iassumption
    iexact HO
end SendA

end Cert.A2A

end
-- ==== Proof.PartsA.lean ====
/-
# The first half of the body

From the request of the first block of `w` to the fifth product sent.
-/
module

public import proofs.«01_k».proof.Proof.Closed
public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)
variable {c : Dev nD} {α : Type} {Q : α → sProp (MT nD τ sig Unit (Elt F) ℕ UU ℕ)} {kk : PUnit → Prog (TpuEff nD τ sig (Elt F) Λ₀ .tc) α}
variable {kd : Prog (TpuEff nD τ sig (Elt F) Λ₀ .tc) α}

/-- A part of the body, at the buffers and semaphores the body has. -/
abbrev onBufs {β : Sort*} (f : (arg0 : Memref sig .tc .hbm S1024x4096 .f32) → (harg0 : arg0.IsWhole) → (arg1 : Memref sig .tc .hbm S4096x2048 .f32) → (harg1 : arg1.IsWhole) → (arg2 : Memref sig .tc .hbm S4096x512 .f32) → (harg2 : arg2.IsWhole) → (arg3 : Memref sig .tc .vmem S2x128x4096 .f32) → (harg3 : arg3.IsWhole) → (arg4 : Memref sig .tc .vmem S1024x4096 .bf16) → (harg4 : arg4.IsWhole) → (arg5 : Memref sig .tc .vmem S2x4096x512 .f32) → (harg5 : arg5.IsWhole) → (arg6 : Memref sig .tc .vmem S3x1024x512 .bf16) → (harg6 : arg6.IsWhole) → (arg7 : Memref sig .tc .vmem S4x1024x512 .bf16) → (harg7 : arg7.IsWhole) → (arg8 : Memref sig .tc .vmem S2x1024x512 .f32) → (harg8 : arg8.IsWhole) → (arg9 : Memref sig .tc .vmem S8x128 .f32) → (harg9 : arg9.IsWhole) → (arg10 : Memref sig .tc .vmem S4x8x128 .f32) → (harg10 : arg10.IsWhole) → (arg11 : DmaSems sig S2) → (arg12 : DmaSems sig S2) → (arg13 : DmaSems sig S2) → (arg14 : DmaSems sig S6) → (arg15 : DmaSems sig S8) → (arg16 : DmaSems sig S4) → (arg17 : DmaSems sig S4) → β) : β :=
  f (Memref.whole main_arg0) (Memref.isWhole_whole _) (Memref.whole main_arg1) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13 cc0_scratch14

/-- A part that returns. -/
theorem done (a : α) (K : α → sProp (MT nD τ sig Unit (Elt F) ℕ UU ℕ)) : K a ⊢ WP c (.ret a) K := by
  show _ ⊢ wp _ _ _ _ _; rw [wp_ret]; exact fupd_intro

/-- A strip of `x` is taken from its slot, rounded, and put in the copy of `x` kept at hand. -/
theorem x_take (q : Fin 2) (k : Fin 8) {n : ℕ} {i : DmaSem sig} (hi : i = xsem q)
    {offw : Fin 2 → ℕ} {inbw : ∀ a, offw a + S128x4096.size a ≤ S1024x4096.size a} {offw' : Fin 3 → ℕ} {inbw' : ∀ a, offw' a + S1x128x4096.size a ≤ S2x128x4096.size a}
    {hq : S1x128x4096.Squeezes S128x4096} {hsrc} {hdst}
    {off' : Fin 3 → ℕ} (hoff' : off' = ![q.val, 0, 0]) {inb' : ∀ a, off' a + S1x128x4096.size a ≤ S2x128x4096.size a} {hl}
    {off : Fin 2 → ℕ} (hoff : off = ![128 * k.val, 0]) {inb : ∀ a, off a + S128x4096.size a ≤ S1024x4096.size a} {hl'} {hx} {hm}
    {pay : Vec F S1x128x4096 .f32 → FVec F S128x4096 .bf16} (hpay : ∀ v, pay v = k0_pay1 v) :
    iprop(XFly m c q k ∗ XB m c k.val ∗ Ow m κ c n) ⊢ iprop((iprop(XIdle m c q ∗ XB m c (k.val + 1) ∗ Ow m κ c n) -∗ WP c (kk ⟨⟩) Q)
      -∗ WP c (.op (.waitDma2 i (xsrc offw inbw) (xdst offw' inbw' hq) hsrc hdst) fun _ =>
        .op (.load (Memref.whole cc0_scratch0 : Memref sig .tc .vmem S2x128x4096 .f32) (Rect.unit (s := S2x128x4096) off' S1x128x4096.size inb').toLoadRect hl) fun v =>
        .op (.load (Memref.whole cc0_scratch1 : Memref sig .tc .vmem S1024x4096 .bf16) (Rect.unit (s := S1024x4096) off S128x4096.size inb).toLoadRect hl') fun _ =>
        .op (.store (Memref.whole cc0_scratch1 : Memref sig .tc .vmem S1024x4096 .bf16) (Rect.unit (s := S1024x4096) off S128x4096.size inb) (pay v) Finset.univ hx hm) kk) Q) := by
  iintro ⟨HX, HB, HO⟩ Hk
  iapply (x_wait m κ q k hi) $$ [HX HO]
  · isplitl [HX] <;> iassumption
  iintro ⟨HX, HO⟩
  iapply (x_load m q k hoff') $$ HX
  iintro HX
  iapply (xb_dead m k.val) $$ HB
  iintro HB
  iapply (xb_store m k hoff (hpay _)) $$ HB
  iintro HB
  iapply Hk
  isplitl [HX]; · iapply (XHas_idle m q k); iexact HX
  isplitl [HB] <;> iassumption

/-- The first block of `w` is asked for. -/
theorem part2 (d₀ d₁ d₂ d₃ : BitVec 32) (K : (Σ' (_ : BitVec 32) (_ : BitVec 32), BitVec 32) → sProp (MT nD τ sig Unit (Elt F) ℕ UU ℕ)) :
    iprop(WIdle m c 0)
      ⊢ iprop((∀ a b e, iprop(WFly m c 0 (peer c 2)) -∗ K ⟨a, b, e⟩) -∗ WP c (onBufs k0_part2 c d₀ d₁ d₂ d₃) K) := by
  unfold onBufs; rw [k0_part2_eq_skeleton]; unfold k0_part2_skel
  simp only [Prog.lift, Prog.bind_op, Prog.bind_ret, Prog.pure_eq_ret]
  iintro W0 Hk
  iapply (w_start m 0 (peer c 2) (off1_2 c) rfl rfl) $$ W0
  iintro W0
  iapply (done _ _)
  iapply Hk $$ %_ %_ %_ [W0]
  iexact W0

/-- Strips 0, 1, 2 of `x` are asked for, strip 0 taken. -/
theorem part3 (K : PUnit → sProp (MT nD τ sig Unit (Elt F) ℕ UU ℕ)) :
    iprop(XIdle m c 0 ∗ XIdle m c 1 ∗ XB m c 0 ∗ Ow m κ c 4)
      ⊢ iprop((iprop(XFly m c 0 2 ∗ XFly m c 1 1 ∗ XB m c 1 ∗ Ow m κ c 4) -∗ K ⟨⟩) -∗ WP c (onBufs k0_part3) K) := by
  unfold onBufs; rw [k0_part3_eq_skeleton]; unfold k0_part3_skel
  simp only [Prog.lift, Prog.bind_op, Prog.bind_ret, Prog.pure_eq_ret]
  iintro ⟨X0, X1, HB, HO⟩ Hk
  iapply (x_start m 0 0 rfl rfl rfl) $$ X0
  iintro X0
  iapply (x_start m 1 1 rfl rfl rfl) $$ X1
  iintro X1
  iapply (x_take m κ 0 0 rfl rfl rfl (fun _ => rfl)) $$ [X0 HB HO]
  · isplitl [X0]; · iexact X0
    isplitl [HB]; · iexact HB
    iexact HO
  iintro ⟨X0, HB, HO⟩
  iapply (x_start m 0 2 rfl rfl rfl) $$ X0
  iintro X0
  iapply (done _ _)
  iapply Hk
  isplitl [X0]; · iexact X0
  isplitl [X1]; · iexact X1
  isplitl [HB]; · iexact HB
  iexact HO

/-- Strips 1, 2 are taken, strip 3 asked for. -/
theorem part4 (K : PUnit → sProp (MT nD τ sig Unit (Elt F) ℕ UU ℕ)) :
    iprop(XFly m c 0 2 ∗ XFly m c 1 1 ∗ XB m c 1 ∗ Ow m κ c 4)
      ⊢ iprop((iprop(XIdle m c 0 ∗ XFly m c 1 3 ∗ XB m c 3 ∗ Ow m κ c 4) -∗ K ⟨⟩) -∗ WP c (onBufs k0_part4) K) := by
  unfold onBufs; rw [k0_part4_eq_skeleton]; unfold k0_part4_skel
  simp only [Prog.lift, Prog.bind_op, Prog.bind_ret, Prog.pure_eq_ret]
  iintro ⟨X0, X1, HB, HO⟩ Hk
  iapply (x_take m κ 1 1 rfl rfl rfl (fun _ => rfl)) $$ [X1 HB HO]
  · isplitl [X1]; · iexact X1
    isplitl [HB]; · iexact HB
    iexact HO
  iintro ⟨X1, HB, HO⟩
  iapply (x_start m 1 3 rfl rfl rfl) $$ X1
  iintro X1
  iapply (x_take m κ 0 2 rfl rfl rfl (fun _ => rfl)) $$ [X0 HB HO]
  · isplitl [X0]; · iexact X0
    isplitl [HB]; · iexact HB
    iexact HO
  iintro ⟨X0, HB, HO⟩
  iapply (done _ _)
  iapply Hk
  isplitl [X0]; · iexact X0
  isplitl [X1]; · iexact X1
  isplitl [HB]; · iexact HB
  iexact HO

/-- Strip 3 is taken, strips 4, 5 asked for. -/
theorem part5 (d : BitVec 32) (K : FVec F S512x512 .f32 → sProp (MT nD τ sig Unit (Elt F) ℕ UU ℕ)) :
    iprop(XIdle m c 0 ∗ XFly m c 1 3 ∗ XB m c 3 ∗ Ow m κ c 4)
      ⊢ iprop((iprop(XFly m c 0 4 ∗ XFly m c 1 5 ∗ XB m c 4 ∗ Ow m κ c 4) -∗ K (k0_pay5 (F := F))) -∗ WP c (onBufs k0_part5 d) K) := by
  unfold onBufs; rw [k0_part5_eq_skeleton]; unfold k0_part5_skel
  simp only [Prog.lift, Prog.bind_op, Prog.bind_ret, Prog.pure_eq_ret]
  iintro ⟨X0, X1, HB, HO⟩ Hk
  iapply (x_start m 0 4 rfl rfl rfl) $$ X0
  iintro X0
  iapply (x_take m κ 1 3 rfl rfl rfl (fun _ => rfl)) $$ [X1 HB HO]
  · isplitl [X1]; · iexact X1
    isplitl [HB]; · iexact HB
    iexact HO
  iintro ⟨X1, HB, HO⟩
  iapply (x_start m 1 5 rfl rfl rfl) $$ X1
  iintro X1
  iapply (done _ _)
  iapply Hk
  isplitl [X0]; · iexact X0
  isplitl [X1]; · iexact X1
  isplitl [HB]; · iexact HB
  iexact HO

/-- The first product is made and sent. -/
theorem part6 (d₀ d₁ : BitVec 32) (v : FVec F S512x512 .f32) (K : FVec F S512x512 .f32 → sProp (MT nD τ sig Unit (Elt F) ℕ UU ℕ)) :
    iprop(WFly m c 0 (peer c 2) ∗ WIdle m c 1 ∗ XB m c 4 ∗ sv? c 0 0 ∗ SvPre c 0 0 ∗ Ow m κ c 4)
      ⊢ iprop((iprop(WHas m c 0 (peer c 2) ∗ WFly m c 1 (peer c 1) ∗ XB m c 4 ∗ SvFly c 0 0 ∗ Ow m κ c 5) -∗ K (k0_pay7 v (xhalf (xin m) c 0) (wblk (win m) c (peer c 2)))) -∗ WP c (onBufs k0_part6 c d₀ d₁ v) K) := by
  unfold onBufs; rw [k0_part6_eq_skeleton]; unfold k0_part6_skel
  simp only [Prog.lift, Prog.bind_op, Prog.bind_ret, Prog.pure_eq_ret]
  iintro ⟨W0, W1, HB, S00, HP, HO⟩ Hk
  iapply (w_start m 1 (peer c 1) (off1_1 c) rfl rfl) $$ W1
  iintro W1
  iapply (w_wait m κ 0 (peer c 2) rfl) $$ [W0 HO]
  · isplitl [W0]; · iexact W0
    iexact HO
  iintro ⟨W0, HO⟩
  iapply (xb_load m 4 0 (by decide) rfl) $$ HB
  iintro HB
  iapply (w_load m 0 (peer c 2) rfl) $$ W0
  iintro W0
  iapply (sv_dead 0 0 rfl) $$ S00
  iintro S00
  iapply (sv_store m 0 0 rfl (rfl)) $$ S00
  iintro S00
  iapply (send_step m κ 0 0 4 rfl rfl (off3 c) (dev5 c) (send_sem 0 0 rfl) (recv_sem c 0 (off2_0 c))) $$ [S00 HP HO]
  · isplitl [S00]; · iexact S00
    isplitl [HP]; · iexact HP
    iexact HO
  iintro ⟨S00, HO⟩
  iapply (done _ _)
  iapply Hk
  isplitl [W0]; · iexact W0
  isplitl [W1]; · iexact W1
  isplitl [HB]; · iexact HB
  isplitl [S00]; · iexact S00
  iexact HO

/-- Strips 4, 5 are taken, strip 6 asked for. -/
theorem part7 (K : PUnit → sProp (MT nD τ sig Unit (Elt F) ℕ UU ℕ)) :
    iprop(XFly m c 0 4 ∗ XFly m c 1 5 ∗ XB m c 4 ∗ Ow m κ c 5)
      ⊢ iprop((iprop(XFly m c 0 6 ∗ XIdle m c 1 ∗ XB m c 6 ∗ Ow m κ c 5) -∗ K ⟨⟩) -∗ WP c (onBufs k0_part7) K) := by
  unfold onBufs; rw [k0_part7_eq_skeleton]; unfold k0_part7_skel
  simp only [Prog.lift, Prog.bind_op, Prog.bind_ret, Prog.pure_eq_ret]
  iintro ⟨X0, X1, HB, HO⟩ Hk
  iapply (x_take m κ 0 4 rfl rfl rfl (fun _ => rfl)) $$ [X0 HB HO]
  · isplitl [X0]; · iexact X0
    isplitl [HB]; · iexact HB
    iexact HO
  iintro ⟨X0, HB, HO⟩
  iapply (x_start m 0 6 rfl rfl rfl) $$ X0
  iintro X0
  iapply (x_take m κ 1 5 rfl rfl rfl (fun _ => rfl)) $$ [X1 HB HO]
  · isplitl [X1]; · iexact X1
    isplitl [HB]; · iexact HB
    iexact HO
  iintro ⟨X1, HB, HO⟩
  iapply (done _ _)
  iapply Hk
  isplitl [X0]; · iexact X0
  isplitl [X1]; · iexact X1
  isplitl [HB]; · iexact HB
  iexact HO

/-- The last strips are taken. -/
theorem part8 (K : PUnit → sProp (MT nD τ sig Unit (Elt F) ℕ UU ℕ)) :
    iprop(XFly m c 0 6 ∗ XIdle m c 1 ∗ XB m c 6 ∗ Ow m κ c 5)
      ⊢ iprop((iprop(XIdle m c 0 ∗ XIdle m c 1 ∗ XB m c 8 ∗ Ow m κ c 5) -∗ K ⟨⟩) -∗ WP c (onBufs k0_part8) K) := by
  unfold onBufs; rw [k0_part8_eq_skeleton]; unfold k0_part8_skel
  simp only [Prog.lift, Prog.bind_op, Prog.bind_ret, Prog.pure_eq_ret]
  iintro ⟨X0, X1, HB, HO⟩ Hk
  iapply (x_start m 1 7 rfl rfl rfl) $$ X1
  iintro X1
  iapply (x_take m κ 0 6 rfl rfl rfl (fun _ => rfl)) $$ [X0 HB HO]
  · isplitl [X0]; · iexact X0
    isplitl [HB]; · iexact HB
    iexact HO
  iintro ⟨X0, HB, HO⟩
  iapply (x_take m κ 1 7 rfl rfl rfl (fun _ => rfl)) $$ [X1 HB HO]
  · isplitl [X1]; · iexact X1
    isplitl [HB]; · iexact HB
    iexact HO
  iintro ⟨X1, HB, HO⟩
  iapply (done _ _)
  iapply Hk
  isplitl [X0]; · iexact X0
  isplitl [X1]; · iexact X1
  isplitl [HB]; · iexact HB
  iexact HO

/-- The second product is made and sent. -/
theorem part9 (d₀ d₁ d₂ d₃ : BitVec 32) (v : FVec F S512x512 .f32) (K : FVec F S512x512 .f32 → sProp (MT nD τ sig Unit (Elt F) ℕ UU ℕ)) :
    iprop(WHas m c 0 (peer c 2) ∗ XB m c 8 ∗ sv? c 0 1 ∗ SvPre c 0 1 ∗ Ow m κ c 5)
      ⊢ iprop((iprop(WFly m c 0 (peer c 3) ∗ XB m c 8 ∗ SvFly c 0 1 ∗ Ow m κ c 6) -∗ K (k0_pay14 v (xhalf (xin m) c 1) (wblk (win m) c (peer c 2)))) -∗ WP c (onBufs k0_part9 c d₀ d₁ d₂ d₃ v) K) := by
  unfold onBufs; rw [k0_part9_eq_skeleton]; unfold k0_part9_skel
  simp only [Prog.lift, Prog.bind_op, Prog.bind_ret, Prog.pure_eq_ret]
  iintro ⟨W0, HB, S01, HP, HO⟩ Hk
  iapply (xb_load m 8 1 (by decide) rfl) $$ HB
  iintro HB
  iapply (w_load m 0 (peer c 2) rfl) $$ W0
  iintro W0
  iapply (sv_dead 0 1 rfl) $$ S01
  iintro S01
  iapply (sv_store m 0 1 rfl (pay15_eq _ _)) $$ S01
  iintro S01
  iapply (send_step m κ 0 1 5 rfl rfl (off4 c) (dev6 c) (send_sem 0 1 rfl) (recv_sem c 1 (off2_1 c))) $$ [S01 HP HO]
  · isplitl [S01]; · iexact S01
    isplitl [HP]; · iexact HP
    iexact HO
  iintro ⟨S01, HO⟩
  iapply ((WHas_idle m 0 (peer c 2)).trans (w_start m 0 (peer c 3) (off1_3 c) rfl rfl)) $$ W0
  iintro W0
  iapply (done _ _)
  iapply Hk
  isplitl [W0]; · iexact W0
  isplitl [HB]; · iexact HB
  isplitl [S01]; · iexact S01
  iexact HO

/-- The third product is made and sent. -/
theorem part10 (d₀ d₁ : BitVec 32) (v : FVec F S512x512 .f32) (K : (Σ' (_ : FVec F S512x512 .f32) (_ : Vec F S512x4096 .bf16) (_ : FVec F S4096x512 .bf16), FVec F S512x512 .f32) → sProp (MT nD τ sig Unit (Elt F) ℕ UU ℕ)) :
    iprop(WFly m c 1 (peer c 1) ∗ XB m c 8 ∗ sv? c 1 0 ∗ SvPre c 1 0 ∗ Ow m κ c 6)
      ⊢ iprop((iprop(WHas m c 1 (peer c 1) ∗ XB m c 8 ∗ SvFly c 1 0 ∗ Ow m κ c 7) -∗ K ⟨k0_pay17 v (xhalf (xin m) c 0) (wblk (win m) c (peer c 1)), (xhalf (xin m) c 1), k0_pay19 (wblk (win m) c (peer c 1)), constant S512x512 .f32 0x00000000#32⟩) -∗ WP c (onBufs k0_part10 c d₀ d₁ v) K) := by
  unfold onBufs; rw [k0_part10_eq_skeleton]; unfold k0_part10_skel
  simp only [Prog.lift, Prog.bind_op, Prog.bind_ret, Prog.pure_eq_ret]
  iintro ⟨W1, HB, S10, HP, HO⟩ Hk
  iapply (w_wait m κ 1 (peer c 1) rfl) $$ [W1 HO]
  · isplitl [W1]; · iexact W1
    iexact HO
  iintro ⟨W1, HO⟩
  iapply (xb_load m 8 0 (by decide) rfl) $$ HB
  iintro HB
  iapply (w_load m 1 (peer c 1) rfl) $$ W1
  iintro W1
  iapply (sv_dead 1 0 rfl) $$ S10
  iintro S10
  iapply (sv_store m 1 0 rfl (pay18_eq _ _)) $$ S10
  iintro S10
  iapply (send_step m κ 1 0 6 rfl rfl (off3 c) (dev7 c) (send_sem 1 0 rfl) (recv_sem c 0 (off2_0 c))) $$ [S10 HP HO]
  · isplitl [S10]; · iexact S10
    isplitl [HP]; · iexact HP
    iexact HO
  iintro ⟨S10, HO⟩
  iapply (xb_load m 8 1 (by decide) rfl) $$ HB
  iintro HB
  iapply (w_load m 1 (peer c 1) rfl) $$ W1
  iintro W1
  iapply (done _ _)
  iapply Hk
  isplitl [W1]; · iexact W1
  isplitl [HB]; · iexact HB
  isplitl [S10]; · iexact S10
  iexact HO

/-- The fourth product is sent. -/
theorem part11 (d₀ d₁ d₂ d₃ : BitVec 32) (v : FVec F S512x512 .f32) (K : FVec F S512x512 .f32 → sProp (MT nD τ sig Unit (Elt F) ℕ UU ℕ)) :
    iprop(WFly m c 0 (peer c 3) ∗ WHas m c 1 (peer c 1) ∗ sv? c 1 1 ∗ SvPre c 1 1 ∗ Ow m κ c 7)
      ⊢ iprop((iprop(WHas m c 0 (peer c 3) ∗ WFly m c 1 (peer c 0) ∗ SvFly c 1 1 ∗ Ow m κ c 8) -∗ K (k0_pay21 v (xhalf (xin m) c 1) (k0_pay19 (wblk (win m) c (peer c 1))) (constant S512x512 .f32 0x00000000#32))) -∗ WP c (onBufs k0_part11 c d₀ d₁ d₂ d₃ v (xhalf (xin m) c 1) (k0_pay19 (wblk (win m) c (peer c 1))) (constant S512x512 .f32 0x00000000#32)) K) := by
  unfold onBufs; rw [k0_part11_eq_skeleton]; unfold k0_part11_skel
  simp only [Prog.lift, Prog.bind_op, Prog.bind_ret, Prog.pure_eq_ret]
  iintro ⟨W0, W1, S11, HP, HO⟩ Hk
  iapply (sv_dead 1 1 rfl) $$ S11
  iintro S11
  iapply (sv_store m 1 1 rfl (pay22_eq _ _)) $$ S11
  iintro S11
  iapply (send_step m κ 1 1 7 rfl rfl (off4 c) (dev8 c) (send_sem 1 1 rfl) (recv_sem c 1 (off2_1 c))) $$ [S11 HP HO]
  · isplitl [S11]; · iexact S11
    isplitl [HP]; · iexact HP
    iexact HO
  iintro ⟨S11, HO⟩
  iapply ((WHas_idle m 1 (peer c 1)).trans (w_start m 1 (peer c 0) (off1_0 c) rfl rfl)) $$ W1
  iintro W1
  iapply (w_wait m κ 0 (peer c 3) rfl) $$ [W0 HO]
  · isplitl [W0]; · iexact W0
    iexact HO
  iintro ⟨W0, HO⟩
  iapply (done _ _)
  iapply Hk
  isplitl [W0]; · iexact W0
  isplitl [W1]; · iexact W1
  isplitl [S11]; · iexact S11
  iexact HO

/-- The fifth product is made and sent, the sixth made. -/
theorem part12 (d₀ d₁ : BitVec 32) (v : FVec F S512x512 .f32) (K : (Σ' (_ : FVec F S512x512 .f32), FVec F S512x512 .bf16) → sProp (MT nD τ sig Unit (Elt F) ℕ UU ℕ)) :
    iprop(WHas m c 0 (peer c 3) ∗ XB m c 8 ∗ sv? c 2 0 ∗ SvPre c 2 0 ∗ sv? c 2 1 ∗ Ow m κ c 8)
      ⊢ iprop((iprop(WHas m c 0 (peer c 3) ∗ XB m c 8 ∗ SvFly c 2 0 ∗ sv? c 2 1 ∗ Ow m κ c 9) -∗ K ⟨k0_pay26 v (xhalf (xin m) c 0) (wblk (win m) c (peer c 3)) (xhalf (xin m) c 1) (wblk (win m) c (peer c 3)), k0_pay27 (xhalf (xin m) c 1) (wblk (win m) c (peer c 3))⟩) -∗ WP c (onBufs k0_part12 c d₀ d₁ v) K) := by
  unfold onBufs; rw [k0_part12_eq_skeleton]; unfold k0_part12_skel
  simp only [Prog.lift, Prog.bind_op, Prog.bind_ret, Prog.pure_eq_ret]
  iintro ⟨W0, HB, S20, HP, S21, HO⟩ Hk
  iapply (xb_load m 8 0 (by decide) rfl) $$ HB
  iintro HB
  iapply (w_load m 0 (peer c 3) rfl) $$ W0
  iintro W0
  iapply (sv_dead 2 0 rfl) $$ S20
  iintro S20
  iapply (sv_store m 2 0 rfl (pay24_eq _ _)) $$ S20
  iintro S20
  iapply (send_step m κ 2 0 8 rfl rfl (off3 c) (dev9 c) (send_sem 2 0 rfl) (recv_sem c 0 (off2_0 c))) $$ [S20 HP HO]
  · isplitl [S20]; · iexact S20
    isplitl [HP]; · iexact HP
    iexact HO
  iintro ⟨S20, HO⟩
  iapply (xb_load m 8 1 (by decide) rfl) $$ HB
  iintro HB
  iapply (w_load m 0 (peer c 3) rfl) $$ W0
  iintro W0
  iapply (sv_dead 2 1 rfl) $$ S21
  iintro S21
  iapply (done _ _)
  iapply Hk
  isplitl [W0]; · iexact W0
  isplitl [HB]; · iexact HB
  isplitl [S20]; · iexact S20
  isplitl [S21]; · iexact S21
  iexact HO

end Cert.A2A

end
-- ==== Proof.PartsB.lean ====
/-
# The second half of the body, and its start

The devices meet; then, the products sent, the device's own products, the exchange of maxima, and the result.
-/
module

public import proofs.«01_k».proof.Proof.PartsA

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)
variable {c : Dev nD} {α : Type} {Q : α → sProp (MT nD τ sig Unit (Elt F) ℕ UU ℕ)} {kk : PUnit → Prog (TpuEff nD τ sig (Elt F) Λ₀ .tc) α}
variable {kd : Prog (TpuEff nD τ sig (Elt F) Λ₀ .tc) α}

/-- What the step to device `q` of the exchange of maxima starts with, but for the share of the maximum. -/
def Ap (c q : Dev nD) : sProp 𝕄 :=
  if q = c then ar? c c else iprop(dutyTok EB (cell c (.asend q)) 0 c ∗ dutyTok EB (cell q (.arecv c)) 0 c ∗ ar? q c)

theorem A0_intro (q : Dev nD) : iprop(asD m c q ∗ Ap c q) ⊢ A0 m c q := by unfold A0 Ap; exact Entails.rfl

/-- Layer `o` of the receive buffer, filled by device `o`. -/
def RvIn (c o : Dev nD) : sProp 𝕄 :=
  iprop(RvAll m c o ∗ atPos EB (cell c (.recv o 0)) 1 ∅ 0 ∗ atPos EB (cell c (.recv o 1)) 1 ∅ 0)

theorem RvIn_intro (o : Dev nD) : iprop(RvGot m c o 0 ∗ RvGot m c o 1) ⊢ RvIn m c o := by
  unfold RvGot RvIn RvAll
  iintro ⟨⟨H0, A0⟩, H1, A1⟩
  isplitl [H0 H1]
  · isplitl [H0] <;> iassumption
  isplitl [A0] <;> iassumption

theorem rvin_load (o : Dev nD) {off : Fin 3 → ℕ} (hoff : off = ![o.val, 0, 0]) {inb : ∀ a, off a + S1x1024x512.size a ≤ S4x1024x512.size a} {hl}
    {kv : Vec F S1x1024x512 .bf16 → Prog (TpuEff nD τ sig (Elt F) Λ₀ .tc) α} :
    RvIn m c o ⊢ iprop((RvIn m c o -∗ WP c (kv (fun j => yblk (xin m) (win m) o c (ix2 (j 1).val (j 2).val (lt3_1 j) (lt3_2 j)))) Q)
      -∗ WP c (.op (.load (Memref.whole cc0_scratch4 : Memref sig .tc .vmem S4x1024x512 .bf16) (Rect.unit (s := S4x1024x512) off S1x1024x512.size inb).toLoadRect hl) kv) Q) := by
  unfold RvIn
  iintro ⟨H, A⟩ Hk
  iapply (rv_load m o hoff) $$ H
  iintro H
  iapply Hk
  isplitl [H] <;> iassumption

/-- The block from device `o`, as it is read from its layer. -/
abbrev ylay (c o : Dev nD) : Vec F S1x1024x512 .bf16 := fun j => yblk (xin m) (win m) o c (ix2 (j 1).val (j 2).val (lt3_1 j) (lt3_2 j))

theorem rv_credit {off : Fin 3 → ℕ} {inb : ∀ a, off a + S1x512x512.size a ≤ S4x1024x512.size a} {hq : S1x512x512.Squeezes S512x512} :
    (rvmem off inb hq).view.dmaCredit = Nr := rfl
theorem sv_credit {off : Fin 3 → ℕ} {inb : ∀ a, off a + S1x512x512.size a ≤ S3x1024x512.size a} {hq : S1x512x512.Squeezes S512x512} :
    (svmem off inb hq).view.dmaCredit = Nr := rfl
theorem as_credit : (Memref.whole cc0_scratch6 : Memref sig .tc .vmem S8x128 .f32).view.dmaCredit = Na := rfl
theorem ar_credit {off : Fin 3 → ℕ} {inb : ∀ a, off a + S1x8x128.size a ≤ S4x8x128.size a} {hq : S1x8x128.Squeezes S8x128} :
    (armem off inb hq).view.dmaCredit = Na := rfl

theorem scale_eq (x : Dev nD → Vec F S1024x4096 .f32) (w : Dev nD → Vec F S4096x2048 .f32) :
    scale x w = k0_pay50 (fun _ => amax x w 0) (fun _ => amax x w 1) (fun _ => amax x w 2) (fun _ => amax x w 3) := rfl
theorem inv_eq (x : Dev nD → Vec F S1024x4096 .f32) (w : Dev nD → Vec F S4096x2048 .f32) :
    inv x w = k0_pay51 (fun _ => amax x w 0) (fun _ => amax x w 1) (fun _ => amax x w 2) (fun _ => amax x w 3) := rfl

theorem pay8_own (a : Vec F S512x4096 .bf16) : k0_pay8 a (wblk (win m) c (peer c 0)) = k0_pay8 a (wblk (win m) c c) := by rw [peer_zero]

/-- The devices meet: each tells every other its receive buffers are ready, and waits for all. -/
theorem part1 (K : (Σ' (_ : Dev nD) (_ : BitVec 32) (_ : BitVec 32) (_ : BitVec 32), BitVec 32) → sProp (MT nD τ sig Unit (Elt F) ℕ UU ℕ)) :
    iprop(SigPre c 0 ∗ SigPre c 1 ∗ SigPre c 2 ∗ SigPre c 3 ∗ atPos EB (cell c .bar) 0 ∅ 0 ∗ cred (tallyAt (cell c .bar) () 3) ∗ Ow m κ c 0)
      ⊢ iprop((∀ a b e, iprop((bigSep (Finset.univ.erase c) fun p => iprop(rv? p c 0 ∗ rv? p c 1 ∗ ar? p c)) ∗ atPos EB (cell c .bar) 1 ∅ 0 ∗ Ow m κ c 4) -∗ K ⟨c, me c, a, b, e⟩) -∗ WP c (onBufs k0_part1) K) := by
  unfold onBufs; rw [k0_part1_eq_skeleton]; unfold k0_part1_skel
  simp only [Prog.lift, Prog.bind_op, Prog.bind_ret, Prog.pure_eq_ret, semSignalWord, semWaitWord, wp_deviceId]
  iintro ⟨G0, G1, G2, G3, HA, HC, HO⟩ Hk
  iapply (sig_step m κ 0 0 rfl (cond1 c) (fun _ => rfl) rfl) $$ [G0 HO]
  · isplitl [G0]; · iexact G0
    iexact HO
  iintro HO
  iapply (sig_step m κ 1 1 rfl (cond2 c) (fun _ => rfl) rfl) $$ [G1 HO]
  · isplitl [G1]; · iexact G1
    iexact HO
  iintro HO
  iapply (sig_step m κ 2 2 rfl (cond3 c) (fun _ => rfl) rfl) $$ [G2 HO]
  · isplitl [G2]; · iexact G2
    iexact HO
  iintro HO
  iapply (sig_step m κ 3 3 rfl (cond4 c) (fun _ => rfl) rfl) $$ [G3 HO]
  · isplitl [G3]; · iexact G3
    iexact HO
  iintro HO
  iapply (bar_wait m κ rfl) $$ [HA HC HO]
  · isplitl [HA]; · iexact HA
    isplitl [HC]; · iexact HC
    iexact HO
  iintro ⟨HB, HA, HO⟩
  iapply (done _ _)
  iapply Hk $$ %_ %_ %_ [HB HA HO]
  isplitl [HB]; · iexact HB
  isplitl [HA]; · iexact HA
  iexact HO

/-- The sixth product is sent, the first of the device's own made. -/
theorem part13 (d₀ d₁ : BitVec 32) (v : FVec F S512x512 .f32) (K : (Σ' (_ : FVec F S512x512 .f32) (_ : FVec F S512x512 .bf16), BitVec 32) → sProp (MT nD τ sig Unit (Elt F) ℕ UU ℕ)) :
    iprop(WFly m c 1 (peer c 0) ∗ XB m c 8 ∗ sv? c 2 1 ∗ SvPre c 2 1 ∗ RvOwn m c 0 0 ∗ Ow m κ c 9)
      ⊢ iprop((iprop(WHas m c 1 (peer c 0) ∗ XB m c 8 ∗ SvFly c 2 1 ∗ RvOwn m c 0 1 ∗ Ow m κ c 10) -∗ K ⟨k0_pay30 v (xhalf (xin m) c 0) (wblk (win m) c (peer c 0)), k0_pay31 (xhalf (xin m) c 0) (wblk (win m) c (peer c 0)), Scalar.extui (Scalar.cmpi .eq (me c) 1#32)⟩) -∗ WP c (onBufs k0_part13 c (me c) d₀ d₁ v (k0_pay27 (xhalf (xin m) c 1) (wblk (win m) c (peer c 3)))) K) := by
  unfold onBufs; rw [k0_part13_eq_skeleton]; unfold k0_part13_skel
  simp only [Prog.lift, Prog.bind_op, Prog.bind_ret, Prog.pure_eq_ret, dite_eq_ite]
  iintro ⟨W1, HB, S21, HP, V0, HO⟩ Hk
  iapply (sv_store m 2 1 rfl (pay28_eq _ _)) $$ S21
  iintro S21
  iapply (send_step m κ 2 1 9 rfl rfl (off4 c) (dev10 c) (send_sem 2 1 rfl) (recv_sem c 1 (off2_1 c))) $$ [S21 HP HO]
  · isplitl [S21]; · iexact S21
    isplitl [HP]; · iexact HP
    iexact HO
  iintro ⟨S21, HO⟩
  iapply (w_wait m κ 1 (peer c 0) rfl) $$ [W1 HO]
  · isplitl [W1]; · iexact W1
    iexact HO
  iintro ⟨W1, HO⟩
  iapply (xb_load m 8 0 (by decide) rfl) $$ HB
  iintro HB
  iapply (w_load m 1 (peer c 0) rfl) $$ W1
  iintro W1
  iapply (rvown_step m 0 0 (is0 c) rfl ((pay32_eq _ _).trans (pay8_own m _))) $$ V0
  iintro V0
  iapply (done _ _)
  iapply Hk
  isplitl [W1]; · iexact W1
  isplitl [HB]; · iexact HB
  isplitl [S21]; · iexact S21
  isplitl [V0]; · iexact V0
  iexact HO

/-- The second of the device's own products is made; both are put in its own layer. -/
theorem part14 (v : FVec F S512x512 .f32) (K : (Σ' (_ : F .f32), FVec F S8x128 .f32) → sProp (MT nD τ sig Unit (Elt F) ℕ UU ℕ)) :
    iprop(WHas m c 1 (peer c 0) ∗ XB m c 8 ∗ RvOwn m c 0 1 ∗ RvOwn m c 1 0)
      ⊢ iprop((iprop(WHas m c 1 (peer c 0) ∗ XB m c 8 ∗ RvOwn m c 0 4 ∗ RvOwn m c 1 4) -∗ K ⟨k0_pay42 v (xhalf (xin m) c 1) (wblk (win m) c (peer c 0)), k0_pay43 v (xhalf (xin m) c 1) (wblk (win m) c (peer c 0))⟩) -∗ WP c (onBufs k0_part14 (me c) v (k0_pay31 (xhalf (xin m) c 0) (wblk (win m) c (peer c 0))) (Scalar.extui (Scalar.cmpi .eq (me c) 1#32))) K) := by
  unfold onBufs; rw [k0_part14_eq_skeleton]; unfold k0_part14_skel
  simp only [Prog.lift, Prog.bind_op, Prog.bind_ret, Prog.pure_eq_ret, dite_eq_ite]
  iintro ⟨W1, HB, V0, V1⟩ Hk
  iapply (rvown_step m 1 0 (is1 c) rfl ((pay33_eq _ _).trans (pay8_own m _))) $$ V0
  iintro V0
  iapply (rvown_step m 2 0 (is2 c) rfl ((pay34_eq _ _).trans (pay8_own m _))) $$ V0
  iintro V0
  iapply (rvown_step m 3 0 (is3 c) rfl ((pay35_eq _ _).trans (pay8_own m _))) $$ V0
  iintro V0
  iapply (xb_load m 8 1 (by decide) rfl) $$ HB
  iintro HB
  iapply (w_load m 1 (peer c 0) rfl) $$ W1
  iintro W1
  iapply (rvown_step m 0 1 (is0 c) rfl ((pay38_eq _ _).trans (pay8_own m _))) $$ V1
  iintro V1
  iapply (rvown_step m 1 1 (is1 c) rfl ((pay39_eq _ _).trans (pay8_own m _))) $$ V1
  iintro V1
  iapply (rvown_step m 2 1 (is2 c) rfl ((pay40_eq _ _).trans (pay8_own m _))) $$ V1
  iintro V1
  iapply (rvown_step m 3 1 (is3 c) rfl ((pay41_eq _ _).trans (pay8_own m _))) $$ V1
  iintro V1
  iapply (done _ _)
  iapply Hk
  isplitl [W1]; · iexact W1
  isplitl [HB]; · iexact HB
  isplitl [V0]; · iexact V0
  iexact V1

theorem pay45_at (v : F .f32) (hv : v = amax (xin m) (win m) c) : k0_pay45 v = fun _ => amax (xin m) (win m) c := by rw [← hv]; rfl
theorem pay46_at (v : F .f32) (hv : v = amax (xin m) (win m) c) : k0_pay46 v = fun _ => amax (xin m) (win m) c := by rw [← hv]; rfl
theorem pay47_at (v : F .f32) (hv : v = amax (xin m) (win m) c) : k0_pay47 v = fun _ => amax (xin m) (win m) c := by rw [← hv]; rfl
theorem pay48_at (v : F .f32) (hv : v = amax (xin m) (win m) c) : k0_pay48 v = fun _ => amax (xin m) (win m) c := by rw [← hv]; rfl

/-- The device's maximum is sent to every other; the first device's is waited for. -/
theorem part15 (v : F .f32) (u : FVec F S8x128 .f32) (K : BitVec 1 → sProp (MT nD τ sig Unit (Elt F) ℕ UU ℕ)) (hv : v = amax (xin m) (win m) c) (hs : k0_pay44 u = amaxS (xin m) (win m) c) :
    iprop(As? c ∗ Ap c 0 ∗ Ap c 1 ∗ Ap c 2 ∗ Ap c 3 ∗ Aw c 0 ∗ Aw c 1 ∗ Aw c 2 ∗ Aw c 3 ∗ Ow m κ c 10)
      ⊢ iprop((iprop(AsRest m c ∗ A3 m c 0 ∗ A2 m c 1 ∗ A2 m c 2 ∗ A2 m c 3 ∗ Ow m κ c 14) -∗ K (Scalar.cmpi .ne (me c) 1#32)) -∗ WP c (onBufs k0_part15 c (me c) v u) K) := by
  unfold onBufs; rw [k0_part15_eq_skeleton]; unfold k0_part15_skel
  simp only [Prog.lift, Prog.bind_op, Prog.bind_ret, Prog.pure_eq_ret, dite_eq_ite]
  iintro ⟨HS, A0, A1, A2, A3, E0, E1, E2, E3, HO⟩ Hk
  iapply (as_dead) $$ HS
  iintro HS
  iapply (as_store m hs) $$ HS
  iintro HS
  ihave HS := (As_shares m).1 $$ HS
  icases HS with ⟨HS, Z0, Z1, Z2, Z3⟩
  ihave A0 := (A0_intro m 0) $$ [Z0 A0]
  · isplitl [Z0]; · iexact Z0
    iexact A0
  ihave A1 := (A0_intro m 1) $$ [Z1 A1]
  · isplitl [Z1]; · iexact Z1
    iexact A1
  ihave A2 := (A0_intro m 2) $$ [Z2 A2]
  · isplitl [Z2]; · iexact Z2
    iexact A2
  ihave A3 := (A0_intro m 3) $$ [Z3 A3]
  · isplitl [Z3]; · iexact Z3
    iexact A3
  iapply (ar_own m 0 (eq0 c) rfl (pay45_at m v hv)) $$ A0
  iintro A0
  iapply (asend_step m κ 0 10 rfl (cond14 c) (k0_off6_eq c) (fun _ => rfl) (asend_sem 0 rfl) (fun _ => arecv_sem c (k0_off5_eq c))) $$ [A0 E0 HO]
  · isplitl [A0]; · iexact A0
    isplitl [E0]; · iexact E0
    iexact HO
  iintro ⟨A0, HO⟩
  iapply (ar_own m 1 (eq1 c) rfl (pay46_at m v hv)) $$ A1
  iintro A1
  iapply (asend_step m κ 1 11 rfl (cond16 c) (k0_off8_eq c) (fun _ => rfl) (asend_sem 1 rfl) (fun _ => arecv_sem c (k0_off7_eq c))) $$ [A1 E1 HO]
  · isplitl [A1]; · iexact A1
    isplitl [E1]; · iexact E1
    iexact HO
  iintro ⟨A1, HO⟩
  iapply (ar_own m 2 (eq2 c) rfl (pay47_at m v hv)) $$ A2
  iintro A2
  iapply (asend_step m κ 2 12 rfl (cond18 c) (k0_off10_eq c) (fun _ => rfl) (asend_sem 2 rfl) (fun _ => arecv_sem c (k0_off9_eq c))) $$ [A2 E2 HO]
  · isplitl [A2]; · iexact A2
    isplitl [E2]; · iexact E2
    iexact HO
  iintro ⟨A2, HO⟩
  iapply (ar_own m 3 (eq3 c) rfl (pay48_at m v hv)) $$ A3
  iintro A3
  iapply (asend_step m κ 3 13 rfl (cond20 c) (k0_off12_eq c) (fun _ => rfl) (asend_sem 3 rfl) (fun _ => arecv_sem c (k0_off11_eq c))) $$ [A3 E3 HO]
  · isplitl [A3]; · iexact A3
    isplitl [E3]; · iexact E3
    iexact HO
  iintro ⟨A3, HO⟩
  iapply (ar_wait m κ 0 (no0 c) (asend_sem 0 rfl) (arecv_sem 0 rfl) as_credit ar_credit) $$ [A0 HO]
  · isplitl [A0]; · iexact A0
    iexact HO
  iintro ⟨A0, HO⟩
  iapply (done _ _)
  iapply Hk
  isplitl [HS]; · iexact HS
  isplitl [A0]; · iexact A0
  isplitl [A1]; · iexact A1
  isplitl [A2]; · iexact A2
  isplitl [A3]; · iexact A3
  iexact HO

/-- The other maxima are waited for; the scale is computed. -/
theorem part16 (K : (Σ' (_ : F .f32) (_ : F .f32) (_ : BitVec 32) (_ : BitVec 1), BitVec 32) → sProp (MT nD τ sig Unit (Elt F) ℕ UU ℕ)) :
    iprop(A3 m c 0 ∗ A2 m c 1 ∗ A2 m c 2 ∗ A2 m c 3 ∗ Ow m κ c 14)
      ⊢ iprop((∀ a b e, iprop(A3 m c 0 ∗ A3 m c 1 ∗ A3 m c 2 ∗ A3 m c 3 ∗ Ow m κ c 14) -∗ K ⟨scale (xin m) (win m), inv (xin m) (win m), a, b, e⟩) -∗ WP c (onBufs k0_part16 (me c) (Scalar.cmpi .ne (me c) 1#32)) K) := by
  unfold onBufs; rw [k0_part16_eq_skeleton]; unfold k0_part16_skel
  simp only [Prog.lift, Prog.bind_op, Prog.bind_ret, Prog.pure_eq_ret, dite_eq_ite]
  iintro ⟨A0, A1, A2, A3, HO⟩ Hk
  iapply (ar_wait m κ 1 (no1 c) (asend_sem 1 rfl) (arecv_sem 1 rfl) as_credit ar_credit) $$ [A1 HO]
  · isplitl [A1]; · iexact A1
    iexact HO
  iintro ⟨A1, HO⟩
  iapply (ar_wait m κ 2 (no2 c) (asend_sem 2 rfl) (arecv_sem 2 rfl) as_credit ar_credit) $$ [A2 HO]
  · isplitl [A2]; · iexact A2
    iexact HO
  iintro ⟨A2, HO⟩
  iapply (ar_wait m κ 3 (no3 c) (asend_sem 3 rfl) (arecv_sem 3 rfl) as_credit ar_credit) $$ [A3 HO]
  · isplitl [A3]; · iexact A3
    iexact HO
  iintro ⟨A3, HO⟩
  iapply (ar_load m 0 rfl) $$ A0
  iintro A0
  iapply (ar_load m 1 rfl) $$ A1
  iintro A1
  iapply (ar_load m 2 rfl) $$ A2
  iintro A2
  iapply (ar_load m 3 rfl) $$ A3
  iintro A3
  rw [← scale_eq, ← inv_eq]
  iapply (done _ _)
  iapply Hk $$ %_ %_ %_ [A0 A1 A2 A3 HO]
  isplitl [A0]; · iexact A0
  isplitl [A1]; · iexact A1
  isplitl [A2]; · iexact A2
  isplitl [A3]; · iexact A3
  iexact HO

/-- The device's own block is quantised and put in the result. -/
theorem part17 (d₀ d₁ : BitVec 32) (d₂ : BitVec 1) (d₃ : BitVec 32) (K : (Σ' (_ : BitVec 32) (_ : BitVec 32), BitVec 32) → sProp (MT nD τ sig Unit (Elt F) ℕ UU ℕ)) :
    iprop(RvAll m c (peer c 0) ∗ OSlot c 0 ∗ Out? c (peer c 0))
      ⊢ iprop((∀ a b, iprop(RvAll m c (peer c 0) ∗ OFly m c 0 (peer c 0)) -∗ K ⟨a, b, 0#32⟩) -∗ WP c (onBufs k0_part17 c d₀ (scale (xin m) (win m)) (inv (xin m) (win m)) d₁ d₂ d₃) K) := by
  unfold onBufs; rw [k0_part17_eq_skeleton]; unfold k0_part17_skel
  simp only [Prog.lift, Prog.bind_op, Prog.bind_ret, Prog.pure_eq_ret]
  iintro ⟨HR, O0, D0⟩ Hk
  iapply (rv_load m (peer c 0) (off13_0 c)) $$ HR
  iintro HR
  iapply (o_dead 0 rfl) $$ O0
  iintro O0
  iapply (o_store m 0 (peer c 0) rfl (rfl)) $$ O0
  iintro O0
  iapply (o_start m 0 (peer c 0) rfl (off14_0 c) rfl) $$ [O0 D0]
  · isplitl [O0]; · iexact O0
    iexact D0
  iintro O0
  iapply (done _ _)
  iapply Hk $$ %_ %_ [HR O0]
  isplitl [HR]; · iexact HR
  iexact O0

/-- The block from two behind is waited for. -/
theorem part18 (d₀ d₁ d₂ : BitVec 32) (K : FVec F S1024x512 .f32 → sProp (MT nD τ sig Unit (Elt F) ℕ UU ℕ)) :
    iprop(RvWait c (peer c 2) 0 ∗ RvWait c (peer c 2) 1 ∗ Ow m κ c 14)
      ⊢ iprop((iprop(RvIn m c (peer c 2) ∗ Ow m κ c 14) -∗ K (k0_pay53 (scale (xin m) (win m)) (inv (xin m) (win m)) (ylay m c (peer c 2)))) -∗ WP c (onBufs k0_part18 c (scale (xin m) (win m)) (inv (xin m) (win m)) d₀ d₁ d₂) K) := by
  unfold onBufs; rw [k0_part18_eq_skeleton]; unfold k0_part18_skel
  simp only [Prog.lift, Prog.bind_op, Prog.bind_ret, Prog.pure_eq_ret]
  iintro ⟨R0, R1, HO⟩ Hk
  iapply (rv_wait m κ (peer c 2) 0 (peer_ne2 c) (recv_sem (peer c 2) 0 (off15_20 c)) rv_credit) $$ [R0 HO]
  · isplitl [R0]; · iexact R0
    iexact HO
  iintro ⟨R0, HO⟩
  iapply (rv_wait m κ (peer c 2) 1 (peer_ne2 c) (recv_sem (peer c 2) 1 (off15_21 c)) rv_credit) $$ [R1 HO]
  · isplitl [R1]; · iexact R1
    iexact HO
  iintro ⟨R1, HO⟩
  ihave HR := (RvIn_intro m _) $$ [R0 R1]
  · isplitl [R0]; · iexact R0
    iexact R1
  iapply (rvin_load m (peer c 2) (off13_2 c)) $$ HR
  iintro HR
  iapply (done _ _)
  iapply Hk
  isplitl [HR]; · iexact HR
  iexact HO

/-- It is put in the result. -/
theorem part19 (d₀ d₁ : BitVec 32) (K : BitVec 32 → sProp (MT nD τ sig Unit (Elt F) ℕ UU ℕ)) :
    iprop(OSlot c 1 ∗ Out? c (peer c 2))
      ⊢ iprop((∀ a, iprop(OFly m c 1 (peer c 2)) -∗ K a) -∗ WP c (onBufs k0_part19 c d₀ d₁ (k0_pay53 (scale (xin m) (win m)) (inv (xin m) (win m)) (ylay m c (peer c 2)))) K) := by
  unfold onBufs; rw [k0_part19_eq_skeleton]; unfold k0_part19_skel
  simp only [Prog.lift, Prog.bind_op, Prog.bind_ret, Prog.pure_eq_ret]
  iintro ⟨O1, D2⟩ Hk
  iapply (o_dead 1 rfl) $$ O1
  iintro O1
  iapply (o_store m 1 (peer c 2) rfl (pay54_eq _ _ _)) $$ O1
  iintro O1
  iapply (o_start m 1 (peer c 2) rfl (off14_2 c) rfl) $$ [O1 D2]
  · isplitl [O1]; · iexact O1
    iexact D2
  iintro O1
  iapply (done _ _)
  iapply Hk $$ %_ [O1]
  iexact O1

/-- The next block is waited for. -/
theorem part20 (d₀ : BitVec 32) (K : (Σ' (_ : FVec F S1024x512 .f32), F .f32) → sProp (MT nD τ sig Unit (Elt F) ℕ UU ℕ)) :
    iprop(OFly m c 0 (peer c 0) ∗ RvWait c (peer c 3) 0 ∗ RvWait c (peer c 3) 1 ∗ Ow m κ c 14)
      ⊢ iprop((iprop(OSlot c 0 ∗ OutD m c (peer c 0) ∗ RvIn m c (peer c 3) ∗ Ow m κ c 14) -∗ K ⟨k0_pay55 (inv (xin m) (win m)) (ylay m c (peer c 3)), Scalar.ofBits .f32 0x43E00000#32⟩) -∗ WP c (onBufs k0_part20 c (inv (xin m) (win m)) d₀) K) := by
  unfold onBufs; rw [k0_part20_eq_skeleton]; unfold k0_part20_skel
  simp only [Prog.lift, Prog.bind_op, Prog.bind_ret, Prog.pure_eq_ret]
  iintro ⟨O0, R0, R1, HO⟩ Hk
  iapply (o_wait m κ 0 (peer c 0) rfl) $$ [O0 HO]
  · isplitl [O0]; · iexact O0
    iexact HO
  iintro ⟨O0, D0, HO⟩
  iapply (rv_wait m κ (peer c 3) 0 (peer_ne3 c) (recv_sem (peer c 3) 0 (off15_30 c)) rv_credit) $$ [R0 HO]
  · isplitl [R0]; · iexact R0
    iexact HO
  iintro ⟨R0, HO⟩
  iapply (rv_wait m κ (peer c 3) 1 (peer_ne3 c) (recv_sem (peer c 3) 1 (off15_31 c)) rv_credit) $$ [R1 HO]
  · isplitl [R1]; · iexact R1
    iexact HO
  iintro ⟨R1, HO⟩
  ihave HR := (RvIn_intro m _) $$ [R0 R1]
  · isplitl [R0]; · iexact R0
    iexact R1
  iapply (rvin_load m (peer c 3) (off13_3 c)) $$ HR
  iintro HR
  iapply (done _ _)
  iapply Hk
  isplitl [O0]; · iexact O0
  isplitl [D0]; · iexact D0
  isplitl [HR]; · iexact HR
  iexact HO

/-- It is put in the result. -/
theorem part21 (d₀ d₁ : BitVec 32) (K : (Σ' (_ : BitVec 32) (_ : BitVec 32) (_ : BitVec 32), BitVec 1) → sProp (MT nD τ sig Unit (Elt F) ℕ UU ℕ)) :
    iprop(OSlot c 0 ∗ Out? c (peer c 3))
      ⊢ iprop((∀ a b e f, iprop(OFly m c 0 (peer c 3)) -∗ K ⟨a, b, e, f⟩) -∗ WP c (onBufs k0_part21 c d₀ (scale (xin m) (win m)) d₁ (k0_pay55 (inv (xin m) (win m)) (ylay m c (peer c 3))) (Scalar.ofBits .f32 0x43E00000#32)) K) := by
  unfold onBufs; rw [k0_part21_eq_skeleton]; unfold k0_part21_skel
  simp only [Prog.lift, Prog.bind_op, Prog.bind_ret, Prog.pure_eq_ret]
  iintro ⟨O0, D3⟩ Hk
  iapply (o_dead 0 rfl) $$ O0
  iintro O0
  iapply (o_store m 0 (peer c 3) rfl (pay56_eq _ _ _)) $$ O0
  iintro O0
  iapply (o_start m 0 (peer c 3) rfl (off14_3 c) rfl) $$ [O0 D3]
  · isplitl [O0]; · iexact O0
    iexact D3
  iintro O0
  iapply (done _ _)
  iapply Hk $$ %_ %_ %_ %_ [O0]
  iexact O0

/-- The last block is waited for. -/
theorem part22 (d₀ d₁ d₂ : BitVec 32) (d₃ : BitVec 1) (K : PUnit → sProp (MT nD τ sig Unit (Elt F) ℕ UU ℕ)) :
    iprop(OFly m c 1 (peer c 2) ∗ RvWait c (peer c 1) 0 ∗ RvWait c (peer c 1) 1 ∗ Ow m κ c 14)
      ⊢ iprop((iprop(OSlot c 1 ∗ OutD m c (peer c 2) ∗ RvIn m c (peer c 1) ∗ Ow m κ c 14) -∗ K ⟨⟩) -∗ WP c (onBufs k0_part22 c d₀ d₁ d₂ d₃) K) := by
  unfold onBufs; rw [k0_part22_eq_skeleton]; unfold k0_part22_skel
  simp only [Prog.lift, Prog.bind_op, Prog.bind_ret, Prog.pure_eq_ret]
  iintro ⟨O1, R0, R1, HO⟩ Hk
  iapply (o_wait m κ 1 (peer c 2) rfl) $$ [O1 HO]
  · isplitl [O1]; · iexact O1
    iexact HO
  iintro ⟨O1, D2, HO⟩
  iapply (rv_wait m κ (peer c 1) 0 (peer_ne1 c) (recv_sem (peer c 1) 0 (off15_10 c)) rv_credit) $$ [R0 HO]
  · isplitl [R0]; · iexact R0
    iexact HO
  iintro ⟨R0, HO⟩
  iapply (rv_wait m κ (peer c 1) 1 (peer_ne1 c) (recv_sem (peer c 1) 1 (off15_11 c)) rv_credit) $$ [R1 HO]
  · isplitl [R1]; · iexact R1
    iexact HO
  iintro ⟨R1, HO⟩
  ihave HR := (RvIn_intro m _) $$ [R0 R1]
  · isplitl [R0]; · iexact R0
    iexact R1
  iapply (done _ _)
  iapply Hk
  isplitl [O1]; · iexact O1
  isplitl [D2]; · iexact D2
  isplitl [HR]; · iexact HR
  iexact HO

/-- It is put in the result. -/
theorem part23 (d₀ d₁ : BitVec 32) (K : PUnit → sProp (MT nD τ sig Unit (Elt F) ℕ UU ℕ)) :
    iprop(RvIn m c (peer c 1) ∗ OSlot c 1 ∗ Out? c (peer c 1))
      ⊢ iprop((iprop(RvIn m c (peer c 1) ∗ OFly m c 1 (peer c 1)) -∗ K ⟨⟩) -∗ WP c (onBufs k0_part23 c d₀ (scale (xin m) (win m)) (inv (xin m) (win m)) d₁) K) := by
  unfold onBufs; rw [k0_part23_eq_skeleton]; unfold k0_part23_skel
  simp only [Prog.lift, Prog.bind_op, Prog.bind_ret, Prog.pure_eq_ret]
  iintro ⟨HR, O1, D1⟩ Hk
  iapply (rvin_load m (peer c 1) (off13_1 c)) $$ HR
  iintro HR
  iapply (o_dead 1 rfl) $$ O1
  iintro O1
  iapply (o_store m 1 (peer c 1) rfl (pay57_eq _ _ _)) $$ O1
  iintro O1
  iapply (o_start m 1 (peer c 1) rfl (off14_1 c) rfl) $$ [O1 D1]
  · isplitl [O1]; · iexact O1
    iexact D1
  iintro O1
  iapply (done _ _)
  iapply Hk
  isplitl [HR]; · iexact HR
  iexact O1

/-- The last stores are waited for. -/
theorem part24 (d₀ : BitVec 32) (K : PUnit → sProp (MT nD τ sig Unit (Elt F) ℕ UU ℕ)) :
    iprop(OFly m c 0 (peer c 3) ∗ OFly m c 1 (peer c 1) ∗ SvFly c 0 0 ∗ Ow m κ c 14)
      ⊢ iprop((iprop(OSlot c 0 ∗ OSlot c 1 ∗ OutD m c (peer c 3) ∗ OutD m c (peer c 1) ∗ SvDone m c 0 0 ∗ Ow m κ c 14) -∗ K ⟨⟩) -∗ WP c (onBufs k0_part24 c d₀) K) := by
  unfold onBufs; rw [k0_part24_eq_skeleton]; unfold k0_part24_skel
  simp only [Prog.lift, Prog.bind_op, Prog.bind_ret, Prog.pure_eq_ret]
  iintro ⟨O0, O1, S00, HO⟩ Hk
  iapply (o_wait m κ 0 (peer c 3) rfl) $$ [O0 HO]
  · isplitl [O0]; · iexact O0
    iexact HO
  iintro ⟨O0, D3, HO⟩
  iapply (o_wait m κ 1 (peer c 1) rfl) $$ [O1 HO]
  · isplitl [O1]; · iexact O1
    iexact HO
  iintro ⟨O1, D1, HO⟩
  iapply (sv_wait m κ 0 0 (send_sem 0 0 rfl) sv_credit) $$ [S00 HO]
  · isplitl [S00]; · iexact S00
    iexact HO
  iintro ⟨S00, HO⟩
  iapply (done _ _)
  iapply Hk
  isplitl [O0]; · iexact O0
  isplitl [O1]; · iexact O1
  isplitl [D3]; · iexact D3
  isplitl [D1]; · iexact D1
  isplitl [S00]; · iexact S00
  iexact HO

/-- The copies sent are waited for. -/
theorem part25 (K : PUnit → sProp (MT nD τ sig Unit (Elt F) ℕ UU ℕ)) :
    iprop(SvFly c 0 1 ∗ SvFly c 1 0 ∗ SvFly c 1 1 ∗ Ow m κ c 14)
      ⊢ iprop((iprop(SvDone m c 0 1 ∗ SvDone m c 1 0 ∗ SvDone m c 1 1 ∗ Ow m κ c 14) -∗ K ⟨⟩) -∗ WP c (onBufs k0_part25) K) := by
  unfold onBufs; rw [k0_part25_eq_skeleton]; unfold k0_part25_skel
  simp only [Prog.lift, Prog.bind_op, Prog.bind_ret, Prog.pure_eq_ret]
  iintro ⟨S01, S10, S11, HO⟩ Hk
  iapply (sv_wait m κ 0 1 (send_sem 0 1 rfl) sv_credit) $$ [S01 HO]
  · isplitl [S01]; · iexact S01
    iexact HO
  iintro ⟨S01, HO⟩
  iapply (sv_wait m κ 1 0 (send_sem 1 0 rfl) sv_credit) $$ [S10 HO]
  · isplitl [S10]; · iexact S10
    iexact HO
  iintro ⟨S10, HO⟩
  iapply (sv_wait m κ 1 1 (send_sem 1 1 rfl) sv_credit) $$ [S11 HO]
  · isplitl [S11]; · iexact S11
    iexact HO
  iintro ⟨S11, HO⟩
  iapply (done _ _)
  iapply Hk
  isplitl [S01]; · iexact S01
  isplitl [S10]; · iexact S10
  isplitl [S11]; · iexact S11
  iexact HO

end Cert.A2A

end
-- ==== Proof.Body.lean ====
/-
# The body

The kernel's body on one device, run from start to end: the parts in order.
-/
module

public import proofs.«01_k».proof.Proof.PartsB
public import proofs.«01_k».proof.Proof.Payloads

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)
variable {c : Dev nD} {α : Type} {Q : α → sProp (MT nD τ sig Unit (Elt F) ℕ UU ℕ)} {kk : PUnit → Prog (TpuEff nD τ sig (Elt F) Λ₀ .tc) α}
variable {kd : Prog (TpuEff nD τ sig (Elt F) Λ₀ .tc) α}

/-- What a copy of half a block to another device takes, but for the place it lands in. -/
def SvTok (c : Dev nD) (s : Fin 3) (h : Fin 2) : sProp 𝕄 :=
  iprop(dutyTok EB (cell c (.send s h)) 0 c ∗ dutyTok EB (cell (peer c (ahead s)) (.recv c h)) 0 c ∗ atPos EB (cell c (.send s h)) 0 ∅ 0)

theorem SvPre_intro (s : Fin 3) (h : Fin 2) : iprop(rv? (peer c (ahead s)) c h ∗ SvTok c s h) ⊢ SvPre (F := F) c s h := by
  unfold SvPre SvTok; exact Entails.rfl

/-- What a copy of the maximum to `q` takes, but for the place it lands in. -/
def ApTok (c q : Dev nD) : sProp 𝕄 :=
  if q = c then ar? c c else iprop(dutyTok EB (cell c (.asend q)) 0 c ∗ dutyTok EB (cell q (.arecv c)) 0 c)
/-- That place. -/
def ArLent (c q : Dev nD) : sProp 𝕄 := if q = c then iprop(emp) else ar? q c

theorem Ap_intro (q : Dev nD) : iprop(ApTok c q ∗ ArLent c q) ⊢ Ap (F := F) c q := by
  unfold ApTok ArLent Ap
  by_cases h : q = c
  · rw [if_pos h, if_pos h, if_pos h]; exact Laws.sep_emp.1
  · rw [if_neg h, if_neg h, if_neg h]; exact sep_assoc.1

theorem erase_eq (c : Dev nD) : (Finset.univ.erase c : Finset (Dev nD)) = {peer c 2, peer c 1, peer c 3} := by revert c; decide

/-- What the others lend the device when they meet, by the order it is used in. -/
theorem lent (c : Dev nD) :
    (bigSep (Finset.univ.erase c) fun p => iprop(rv? p c 0 ∗ rv? p c 1 ∗ ar? p c))
      ⊢ (iprop((rv? (peer c (ahead 0)) c 0 ∗ rv? (peer c (ahead 1)) c 0 ∗ rv? (peer c (ahead 2)) c 0)
        ∗ (rv? (peer c (ahead 0)) c 1 ∗ rv? (peer c (ahead 1)) c 1 ∗ rv? (peer c (ahead 2)) c 1)
        ∗ (ArLent c 0 ∗ ArLent c 1 ∗ ArLent c 2 ∗ ArLent c 3)) : sProp 𝕄) := by
  have h3 (Φ : Dev nD → sProp 𝕄) : bigSep (Finset.univ.erase c) Φ = iprop(Φ (peer c 2) ∗ Φ (peer c 1) ∗ Φ (peer c 3)) := by
    rw [bigSep_eq_bigSepL_of_eq [peer c 2, peer c 1, peer c 3] (by revert c; decide) (by revert c; decide) Φ]; rfl
  have h4 : (bigSep (Finset.univ.erase c) fun p => (ar? p c : sProp 𝕄)) ⊢ iprop(ArLent c 0 ∗ ArLent c 1 ∗ ArLent c 2 ∗ ArLent c 3) := by
    have hs : (bigSep Finset.univ fun q : Dev nD => (ArLent c q : sProp 𝕄)) = iprop(ArLent c 0 ∗ ArLent c 1 ∗ ArLent c 2 ∗ ArLent c 3) := by
      rw [bigSep_univ_eq_bigSepL [(0 : Dev nD), 1, 2, 3] (by decide) (by decide) (fun q : Dev nD => (ArLent c q : sProp 𝕄))]; rfl
    rw [← hs, bigSep_univ_at _ c, show (ArLent c c : sProp 𝕄) = iprop(emp) from if_pos rfl]
    refine (Entails.of_eq (bigSep_congr fun q hq => ?_)).trans BIClass.emp_sep.2
    exact (if_neg (Finset.ne_of_mem_erase hq)).symm
  rw [bigSep_sep', bigSep_sep', h3, h3]
  exact sep_mono_right (sep_mono_right h4)

theorem RvAll_own : iprop(RvOwn m c 0 4 ∗ RvOwn m c 1 4) ⊢ RvAll m c (peer c 0) := by
  rw [peer_zero]; unfold RvAll; exact BIClass.sep_mono (RvOwn_last m 0) (RvOwn_last m 1)

/-- The maximum the program takes of its products is the one named, -/
theorem amax_acc (x : Dev nD → Vec F S1024x4096 .f32) (w : Dev nD → Vec F S4096x2048 .f32) (c : Dev nD) :
    k0_pay42 (k0_pay30 (k0_pay26 (k0_pay21 (k0_pay17 (k0_pay14 (k0_pay7 (k0_pay5 (F := F)) (xhalf x c 0) (wblk w c (peer c 2))) (xhalf x c 1) (wblk w c (peer c 2)))
      (xhalf x c 0) (wblk w c (peer c 1))) (xhalf x c 1) (k0_pay19 (wblk w c (peer c 1))) (constant S512x512 .f32 0x00000000#32)) (xhalf x c 0) (wblk w c (peer c 3))
      (xhalf x c 1) (wblk w c (peer c 3))) (xhalf x c 0) (wblk w c (peer c 0))) (xhalf x c 1) (wblk w c (peer c 0)) = amax x w c := by
  unfold amax acc7; rfl
/-- and so is the block it sends. -/
theorem pay44_acc (x : Dev nD → Vec F S1024x4096 .f32) (w : Dev nD → Vec F S4096x2048 .f32) (c : Dev nD) :
    k0_pay44 (k0_pay43 (k0_pay30 (k0_pay26 (k0_pay21 (k0_pay17 (k0_pay14 (k0_pay7 (k0_pay5 (F := F)) (xhalf x c 0) (wblk w c (peer c 2))) (xhalf x c 1) (wblk w c (peer c 2)))
      (xhalf x c 0) (wblk w c (peer c 1))) (xhalf x c 1) (k0_pay19 (wblk w c (peer c 1))) (constant S512x512 .f32 0x00000000#32)) (xhalf x c 0) (wblk w c (peer c 3))
      (xhalf x c 1) (wblk w c (peer c 3))) (xhalf x c 0) (wblk w c (peer c 0))) (xhalf x c 1) (wblk w c (peer c 0))) = amaxS x w c := by
  rw [← pay44_amax]; unfold acc7; rfl

/-- What the device meets the others with. -/
def Meet (c : Dev nD) : sProp 𝕄 :=
  iprop(SigPre c 0 ∗ SigPre c 1 ∗ SigPre c 2 ∗ SigPre c 3 ∗ atPos EB (cell c .bar) 0 ∅ 0 ∗ cred (tallyAt (cell c .bar) () 3))
/-- The buffers only the device itself uses. -/
def LocalPre (c : Dev nD) : sProp 𝕄 :=
  iprop(XIdle m c 0 ∗ XIdle m c 1 ∗ XB m c 0 ∗ WIdle m c 0 ∗ WIdle m c 1 ∗ OSlot c 0 ∗ OSlot c 1 ∗ Out? c (peer c 0) ∗ Out? c (peer c 2) ∗ Out? c (peer c 3) ∗ Out? c (peer c 1))
/-- What it sends its products with. -/
def SendPre (c : Dev nD) : sProp 𝕄 :=
  iprop(sv? c 0 0 ∗ sv? c 0 1 ∗ sv? c 1 0 ∗ sv? c 1 1 ∗ sv? c 2 0 ∗ sv? c 2 1 ∗ SvTok c 0 0 ∗ SvTok c 0 1 ∗ SvTok c 1 0 ∗ SvTok c 1 1 ∗ SvTok c 2 0 ∗ SvTok c 2 1 ∗ rv? c c 0 ∗ rv? c c 1)
/-- What it waits for the others' products with. -/
def RecvPre (c : Dev nD) : sProp 𝕄 :=
  iprop(RvWait c (peer c 2) 0 ∗ RvWait c (peer c 2) 1 ∗ RvWait c (peer c 3) 0 ∗ RvWait c (peer c 3) 1 ∗ RvWait c (peer c 1) 0 ∗ RvWait c (peer c 1) 1)
/-- What it exchanges maxima with. -/
def MaxPre (c : Dev nD) : sProp 𝕄 :=
  iprop(As? c ∗ ApTok c 0 ∗ ApTok c 1 ∗ ApTok c 2 ∗ ApTok c 3 ∗ Aw c 0 ∗ Aw c 1 ∗ Aw c 2 ∗ Aw c 3)
/-- Its own buffers, at the end. -/
def LocalPost (c : Dev nD) : sProp 𝕄 :=
  iprop(XIdle m c 0 ∗ XIdle m c 1 ∗ XB m c 8 ∗ WHas m c 0 (peer c 3) ∗ WHas m c 1 (peer c 0) ∗ OSlot c 0 ∗ OSlot c 1 ∗ OutD m c (peer c 0) ∗ OutD m c (peer c 2) ∗ OutD m c (peer c 3) ∗ OutD m c (peer c 1))
/-- The products sent. -/
def SendPost (c : Dev nD) : sProp 𝕄 :=
  iprop(SvDone m c 0 0 ∗ SvDone m c 0 1 ∗ SvDone m c 1 0 ∗ SvDone m c 1 1 ∗ SvDone m c 2 0 ∗ SvDone m c 2 1)
/-- All the layers of its receive buffer. -/
def RecvPost (c : Dev nD) : sProp 𝕄 :=
  iprop(RvAll m c (peer c 0) ∗ RvIn m c (peer c 2) ∗ RvIn m c (peer c 3) ∗ RvIn m c (peer c 1))
/-- The maxima. -/
def MaxPost (c : Dev nD) : sProp 𝕄 :=
  iprop(AsRest m c ∗ A3 m c 0 ∗ A3 m c 1 ∗ A3 m c 2 ∗ A3 m c 3)

/-- The body of the kernel on device `c`: from what the device starts with to what it ends with. -/
theorem body_run (K : PUnit → sProp (MT nD τ sig Unit (Elt F) ℕ UU ℕ)) :
    iprop(Meet c ∗ LocalPre m c ∗ SendPre c ∗ RecvPre c ∗ MaxPre c ∗ Ow m κ c 0)
      ⊢ iprop((iprop(atPos EB (cell c .bar) 1 ∅ 0 ∗ LocalPost m c ∗ SendPost m c ∗ RecvPost m c ∗ MaxPost m c ∗ Ow m κ c 14) -∗ K ⟨⟩) -∗ WP c (onBufs (cc0_body (F := F))) K) := by
  unfold onBufs; rw [cc0_body_eq_skeleton]; unfold cc0_body_skel
  simp only [wp_bind]
  unfold Meet LocalPre SendPre RecvPre MaxPre LocalPost SendPost RecvPost MaxPost
  iintro ⟨⟨G0, G1, G2, G3, HA, HC⟩, ⟨X0, X1, HB, W0, W1, O0, O1, D0, D2, D3, D1⟩, ⟨S00, S01, S10, S11, S20, S21, T00, T01, T10, T11, T20, T21, V0, V1⟩, ⟨R20, R21, R30, R31, R10, R11⟩, ⟨HS, A0, A1, A2, A3, E0, E1, E2, E3⟩, HO⟩ Hk
  iapply (part1 m κ _) $$ [G0 G1 G2 G3 HA HC HO]
  · isplitl [G0]; · iexact G0
    isplitl [G1]; · iexact G1
    isplitl [G2]; · iexact G2
    isplitl [G3]; · iexact G3
    isplitl [HA]; · iexact HA
    isplitl [HC]; · iexact HC
    iexact HO
  iintro %a %b %e ⟨HL, HA, HO⟩
  ihave HL := (lent c) $$ HL
  icases HL with ⟨⟨L00, L10, L20⟩, ⟨L01, L11, L21⟩, K0, K1, K2, K3⟩
  ihave T00 := (SvPre_intro 0 0) $$ [L00 T00]
  · isplitl [L00]; · iexact L00
    iexact T00
  ihave T01 := (SvPre_intro 0 1) $$ [L01 T01]
  · isplitl [L01]; · iexact L01
    iexact T01
  ihave T10 := (SvPre_intro 1 0) $$ [L10 T10]
  · isplitl [L10]; · iexact L10
    iexact T10
  ihave T11 := (SvPre_intro 1 1) $$ [L11 T11]
  · isplitl [L11]; · iexact L11
    iexact T11
  ihave T20 := (SvPre_intro 2 0) $$ [L20 T20]
  · isplitl [L20]; · iexact L20
    iexact T20
  ihave T21 := (SvPre_intro 2 1) $$ [L21 T21]
  · isplitl [L21]; · iexact L21
    iexact T21
  ihave A0 := (Ap_intro 0) $$ [A0 K0]
  · isplitl [A0]; · iexact A0
    iexact K0
  ihave A1 := (Ap_intro 1) $$ [A1 K1]
  · isplitl [A1]; · iexact A1
    iexact K1
  ihave A2 := (Ap_intro 2) $$ [A2 K2]
  · isplitl [A2]; · iexact A2
    iexact K2
  ihave A3 := (Ap_intro 3) $$ [A3 K3]
  · isplitl [A3]; · iexact A3
    iexact K3
  ihave V0 := (RvOwn_zero m 0) $$ V0
  ihave V1 := (RvOwn_zero m 1) $$ V1
  iapply (part2 m _ _ _ _ _) $$ W0
  iintro %a %b %e W0
  iapply (part3 m κ _) $$ [X0 X1 HB HO]
  · isplitl [X0]; · iexact X0
    isplitl [X1]; · iexact X1
    isplitl [HB]; · iexact HB
    iexact HO
  iintro ⟨X0, X1, HB, HO⟩
  iapply (part4 m κ _) $$ [X0 X1 HB HO]
  · isplitl [X0]; · iexact X0
    isplitl [X1]; · iexact X1
    isplitl [HB]; · iexact HB
    iexact HO
  iintro ⟨X0, X1, HB, HO⟩
  iapply (part5 m κ _ _) $$ [X0 X1 HB HO]
  · isplitl [X0]; · iexact X0
    isplitl [X1]; · iexact X1
    isplitl [HB]; · iexact HB
    iexact HO
  iintro ⟨X0, X1, HB, HO⟩
  iapply (part6 m κ _ _ _ _) $$ [W0 W1 HB S00 T00 HO]
  · isplitl [W0]; · iexact W0
    isplitl [W1]; · iexact W1
    isplitl [HB]; · iexact HB
    isplitl [S00]; · iexact S00
    isplitl [T00]; · iexact T00
    iexact HO
  iintro ⟨W0, W1, HB, S00, HO⟩
  iapply (part7 m κ _) $$ [X0 X1 HB HO]
  · isplitl [X0]; · iexact X0
    isplitl [X1]; · iexact X1
    isplitl [HB]; · iexact HB
    iexact HO
  iintro ⟨X0, X1, HB, HO⟩
  iapply (part8 m κ _) $$ [X0 X1 HB HO]
  · isplitl [X0]; · iexact X0
    isplitl [X1]; · iexact X1
    isplitl [HB]; · iexact HB
    iexact HO
  iintro ⟨X0, X1, HB, HO⟩
  iapply (part9 m κ _ _ _ _ _ _) $$ [W0 HB S01 T01 HO]
  · isplitl [W0]; · iexact W0
    isplitl [HB]; · iexact HB
    isplitl [S01]; · iexact S01
    isplitl [T01]; · iexact T01
    iexact HO
  iintro ⟨W0, HB, S01, HO⟩
  iapply (part10 m κ _ _ _ _) $$ [W1 HB S10 T10 HO]
  · isplitl [W1]; · iexact W1
    isplitl [HB]; · iexact HB
    isplitl [S10]; · iexact S10
    isplitl [T10]; · iexact T10
    iexact HO
  iintro ⟨W1, HB, S10, HO⟩
  iapply (part11 m κ _ _ _ _ _ _) $$ [W0 W1 S11 T11 HO]
  · isplitl [W0]; · iexact W0
    isplitl [W1]; · iexact W1
    isplitl [S11]; · iexact S11
    isplitl [T11]; · iexact T11
    iexact HO
  iintro ⟨W0, W1, S11, HO⟩
  iapply (part12 m κ _ _ _ _) $$ [W0 HB S20 T20 S21 HO]
  · isplitl [W0]; · iexact W0
    isplitl [HB]; · iexact HB
    isplitl [S20]; · iexact S20
    isplitl [T20]; · iexact T20
    isplitl [S21]; · iexact S21
    iexact HO
  iintro ⟨W0, HB, S20, S21, HO⟩
  iapply (part13 m κ _ _ _ _) $$ [W1 HB S21 T21 V0 HO]
  · isplitl [W1]; · iexact W1
    isplitl [HB]; · iexact HB
    isplitl [S21]; · iexact S21
    isplitl [T21]; · iexact T21
    isplitl [V0]; · iexact V0
    iexact HO
  iintro ⟨W1, HB, S21, V0, HO⟩
  iapply (part14 m _ _) $$ [W1 HB V0 V1]
  · isplitl [W1]; · iexact W1
    isplitl [HB]; · iexact HB
    isplitl [V0]; · iexact V0
    iexact V1
  iintro ⟨W1, HB, V0, V1⟩
  iapply (part15 m κ _ _ _ (amax_acc _ _ _) (pay44_acc _ _ _)) $$ [HS A0 A1 A2 A3 E0 E1 E2 E3 HO]
  · isplitl [HS]; · iexact HS
    isplitl [A0]; · iexact A0
    isplitl [A1]; · iexact A1
    isplitl [A2]; · iexact A2
    isplitl [A3]; · iexact A3
    isplitl [E0]; · iexact E0
    isplitl [E1]; · iexact E1
    isplitl [E2]; · iexact E2
    isplitl [E3]; · iexact E3
    iexact HO
  iintro ⟨HS, A0, A1, A2, A3, HO⟩
  iapply (part16 m κ _) $$ [A0 A1 A2 A3 HO]
  · isplitl [A0]; · iexact A0
    isplitl [A1]; · iexact A1
    isplitl [A2]; · iexact A2
    isplitl [A3]; · iexact A3
    iexact HO
  iintro %a %b %e ⟨A0, A1, A2, A3, HO⟩
  ihave R0 := (RvAll_own m) $$ [V0 V1]
  · isplitl [V0]; · iexact V0
    iexact V1
  iapply (part17 m _ _ _ _ _) $$ [R0 O0 D0]
  · isplitl [R0]; · iexact R0
    isplitl [O0]; · iexact O0
    iexact D0
  iintro %a %b ⟨R0, O0⟩
  iapply (part18 m κ _ _ _ _) $$ [R20 R21 HO]
  · isplitl [R20]; · iexact R20
    isplitl [R21]; · iexact R21
    iexact HO
  iintro ⟨R2, HO⟩
  iapply (part19 m _ _ _) $$ [O1 D2]
  · isplitl [O1]; · iexact O1
    iexact D2
  iintro %a O1
  iapply (part20 m κ _ _) $$ [O0 R30 R31 HO]
  · isplitl [O0]; · iexact O0
    isplitl [R30]; · iexact R30
    isplitl [R31]; · iexact R31
    iexact HO
  iintro ⟨O0, D0, R3, HO⟩
  iapply (part21 m _ _ _) $$ [O0 D3]
  · isplitl [O0]; · iexact O0
    iexact D3
  iintro %a %b %e %f O0
  iapply (part22 m κ _ _ _ _ _) $$ [O1 R10 R11 HO]
  · isplitl [O1]; · iexact O1
    isplitl [R10]; · iexact R10
    isplitl [R11]; · iexact R11
    iexact HO
  iintro ⟨O1, D2, R1, HO⟩
  iapply (part23 m _ _ _) $$ [R1 O1 D1]
  · isplitl [R1]; · iexact R1
    isplitl [O1]; · iexact O1
    iexact D1
  iintro ⟨R1, O1⟩
  iapply (part24 m κ _ _) $$ [O0 O1 S00 HO]
  · isplitl [O0]; · iexact O0
    isplitl [O1]; · iexact O1
    isplitl [S00]; · iexact S00
    iexact HO
  iintro ⟨O0, O1, D3, D1, S00, HO⟩
  iapply (part25 m κ _) $$ [S01 S10 S11 HO]
  · isplitl [S01]; · iexact S01
    isplitl [S10]; · iexact S10
    isplitl [S11]; · iexact S11
    iexact HO
  iintro ⟨S01, S10, S11, HO⟩
  simp only [Prog.lift, Prog.bind_op, Prog.bind_ret, Prog.pure_eq_ret]
  iapply (sv_wait m κ 2 0 (send_sem 2 0 rfl) sv_credit) $$ [S20 HO]
  · isplitl [S20]; · iexact S20
    iexact HO
  iintro ⟨S20, HO⟩
  iapply (done _ _)
  iapply (sv_wait m κ 2 1 (send_sem 2 1 rfl) sv_credit) $$ [S21 HO]
  · isplitl [S21]; · iexact S21
    iexact HO
  iintro ⟨S21, HO⟩
  iapply (done _ _)
  iapply (done _ _)
  iapply Hk
  isplitl [HA]; · iexact HA
  isplitl [X0 X1 HB W0 W1 O0 O1 D0 D2 D3 D1]
  · isplitl [X0]; · iexact X0
    isplitl [X1]; · iexact X1
    isplitl [HB]; · iexact HB
    isplitl [W0]; · iexact W0
    isplitl [W1]; · iexact W1
    isplitl [O0]; · iexact O0
    isplitl [O1]; · iexact O1
    isplitl [D0]; · iexact D0
    isplitl [D2]; · iexact D2
    isplitl [D3]; · iexact D3
    iexact D1
  isplitl [S00 S01 S10 S11 S20 S21]
  · isplitl [S00]; · iexact S00
    isplitl [S01]; · iexact S01
    isplitl [S10]; · iexact S10
    isplitl [S11]; · iexact S11
    isplitl [S20]; · iexact S20
    iexact S21
  isplitl [R0 R2 R3 R1]
  · isplitl [R0]; · iexact R0
    isplitl [R2]; · iexact R2
    isplitl [R3]; · iexact R3
    iexact R1
  isplitl [HS A0 A1 A2 A3]
  · isplitl [HS]; · iexact HS
    isplitl [A0]; · iexact A0
    isplitl [A1]; · iexact A1
    isplitl [A2]; · iexact A2
    iexact A3
  iexact HO

end Cert.A2A

end
-- ==== Proof.Deal.lean ====
/-
# The launch: dealing out

The ghost state the launch starts with, dealt to the devices: every cell opened, each device with its positions, the
tokens of the duties it pays and the credits of what the others owe it.
-/
module

public import proofs.«01_k».proof.Proof.Closed

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's semaphores -/

/-- The semaphores the kernel declares for itself. -/
def osem28 : Fin 28 → SemLoc sig := fun i => .dma (i : Fin 28)
theorem ownSemFacts : Pipeline.OwnSemFacts cfg0.spec osem28 := by decide

/-- Those of the copies within the device, at zero. -/
def LocalSems (c : Dev nD) : sProp 𝕄 :=
  iprop(semVal ((c : Thread nD τ), .dma (xsem 0)) 0 ∗ semVal ((c : Thread nD τ), .dma (xsem 1)) 0 ∗ semVal ((c : Thread nD τ), .dma (wsem 0)) 0
    ∗ semVal ((c : Thread nD τ), .dma (wsem 1)) 0 ∗ semVal ((c : Thread nD τ), .dma (osem 0)) 0 ∗ semVal ((c : Thread nD τ), .dma (osem 1)) 0)

/-- Every semaphore of a device at zero: the kernel's own and the barrier's are those of the local copies and the cells. -/
theorem sems_eq (c : Dev nD) :
    (iprop(Pipeline.ownSems0 (Ix := Unit) (Name := ℕ) (U := UU) (Lvl := ℕ) (Val := Elt F) (τ := τ) osem28 c ∗ unscopedSems0 c) : sProp 𝕄)
      ⊣⊢ iprop(LocalSems c ∗ bigSep Finset.univ fun k : CK => semVal (cell c k) 0) := by
  have h1 : (Pipeline.ownSems0 (Ix := Unit) (Name := ℕ) (U := UU) (Lvl := ℕ) (Val := Elt F) (τ := τ) osem28 c : sProp 𝕄)
      = iprop(semVal ((c : Thread nD τ), .dma (xsem 0)) 0 ∗ semVal ((c : Thread nD τ), .dma (xsem 1)) 0 ∗ semVal ((c : Thread nD τ), .dma (wsem 0)) 0
        ∗ semVal ((c : Thread nD τ), .dma (wsem 1)) 0 ∗ semVal ((c : Thread nD τ), .dma (osem 0)) 0 ∗ semVal ((c : Thread nD τ), .dma (osem 1)) 0
        ∗ bigSepL ckL.tail fun k => semVal (cell c k) 0) := by
    rw [Pipeline.ownSems0_eq_of_list c osem28 (List.finRange 28) (by decide) (by decide)]; rfl
  have h2 : (unscopedSems0 c : sProp 𝕄) = semVal (cell c .bar) 0 := by
    unfold unscopedSems0; rw [bigSep_eq_bigSepL_of_eq [SemLoc.reg barrier0] (by decide) (by decide)]; rfl
  have h3 : (bigSep Finset.univ fun k : CK => (semVal (cell c k) 0 : sProp 𝕄)) = iprop(semVal (cell c .bar) 0 ∗ bigSepL ckL.tail fun k => semVal (cell c k) 0) := by
    rw [bigSep_univ_eq_bigSepL ckL (by decide) (by decide) (fun k : CK => (semVal (cell c k) 0 : sProp 𝕄))]; rfl
  rw [h1, h2, h3]; unfold LocalSems
  constructor
  · iintro ⟨⟨H0, H1, H2, H3, H4, H5, HR⟩, HB⟩
    isplitr [HR HB]
    · isplitl [H0]; · iexact H0
      isplitl [H1]; · iexact H1
      isplitl [H2]; · iexact H2
      isplitl [H3]; · iexact H3
      isplitl [H4] <;> iassumption
    isplitl [HB] <;> iassumption
  · iintro ⟨⟨H0, H1, H2, H3, H4, H5⟩, HB, HR⟩
    isplitr [HB]
    · isplitl [H0]; · iexact H0
      isplitl [H1]; · iexact H1
      isplitl [H2]; · iexact H2
      isplitl [H3]; · iexact H3
      isplitl [H4]; · iexact H4
      isplitl [H5] <;> iassumption
    iexact HB

/-! ## The ghost state at launch -/

theorem allCell_inj : Function.Injective fun p : Dev nD × CK => cell p.1 p.2 := fun a b h => Prod.ext (cell_inj h).1 (cell_inj h).2
def allCells : Finset (GSem nD τ sig) := Finset.univ.map ⟨fun p : Dev nD × CK => cell p.1 p.2, allCell_inj⟩

/-- A token of every cell for every device; those no duty asks for stay unused. -/
theorem allTok_inj : Function.Injective fun x : Dev nD × (Dev nD × CK) => ((cell x.2.1 x.2.2, 0, x.1) : GSem nD τ sig × ℕ × Dev nD) := by
  rintro ⟨p, a⟩ ⟨q, b⟩ h
  have h1 : cell a.1 a.2 = cell b.1 b.2 := congrArg Prod.fst h
  have h2 : p = q := congrArg (fun y : GSem nD τ sig × ℕ × Dev nD => y.2.2) h
  have h3 : a = b := allCell_inj h1
  rw [h2, h3]
def allToks : Finset (GSem nD τ sig × ℕ × Dev nD) := Finset.univ.map ⟨_, allTok_inj⟩

def u₀ : UU := (initOf (Pipeline.cells cfgs cellOf_inj) (Pipeline.launchToks cfgs cellOf_inj), (initOf allCells allToks, 1))

/-- The tokens device `c` pays its duties with. -/
def Toks (c : Dev nD) : sProp 𝕄 := bigSep Finset.univ fun p : Dev nD × CK => dutyTok EB (cell p.1 p.2) 0 c
/-- Its positions at its own cells. -/
def Pos (c : Dev nD) (ρ : CK → ℕ) : sProp 𝕄 := bigSep Finset.univ fun k : CK => atPos EB (cell c k) (ρ k) ∅ 0

def G (c : Dev nD) : sProp 𝕄 :=
  iprop((bigSep Finset.univ fun k : CK => roundState EB (Rd m) (cell c k) 0)
    ∗ (bigSep Finset.univ fun k : CK => iprop(atPos EB (cell c k) 0 ∅ 0 ∗ reached EB (cell c k) 0)) ∗ Toks c)
/-- What a device starts with: what everyone knows, its positions and tokens, its local semaphores. -/
def G' (c : Dev nD) : sProp 𝕄 := iprop(∃ κ, records m κ ∗ Pos c (fun _ => 0) ∗ Toks c ∗ LocalSems c)

theorem own_u₀ : (ownU (u₀ : UU) : sProp 𝕄)
    ⊢ iprop(BI.own ((EP (F := F)) (initOf (Pipeline.cells cfgs cellOf_inj) (Pipeline.launchToks cfgs cellOf_inj))) ∗ BI.own ((EB (F := F)) (initOf allCells allToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf allCells allToks, (1 : Counters)))))

theorem fund_cells : BI.own ((EB (F := F)) (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok EB x.1 x.2.1 x.2.2 : sProp 𝕄)) = bigSep Finset.univ fun c : Dev nD => Toks c := by
    unfold allToks; rw [bigSep_map, bigSep_univ_prod]; rfl
  iintro HX
  imod (Rounds.fund EB (Rd m) allCells allToks) $$ HX with ⟨Hst, Hr, Hat, Htok⟩
  imodintro
  ihave Hst := (Entails.of_eq (hX fun g => roundState EB (Rd m) g 0)) $$ Hst
  ihave Hat := (Entails.of_eq (hX fun g => atPos EB g 0 ∅ 0)) $$ Hat
  ihave Hr := (Entails.of_eq (hX fun g => reached EB g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem28 c ∗ unscopedSems0 c ∗ G m c)
      ⊢ |={Set.univ}=> iprop((bigSep Finset.univ fun k => iprop(∃ κ : ℕ, cellInv EB (Rd m) κ (cell c k)))
          ∗ (bigSep Finset.univ fun k => iprop(atPos EB (cell c k) 0 ∅ 0 ∗ reached EB (cell c k) 0)) ∗ Toks c ∗ LocalSems c) := by
  unfold G
  iintro ⟨Hos, Hus, Hst, Hat, Htok⟩
  ihave Hv := (sems_eq (F := F) c).1 $$ [Hos Hus]
  · isplitl [Hos] <;> iassumption
  icases Hv with ⟨Hl, Hv⟩
  imod (show iprop((bigSep Finset.univ fun k : CK => semVal (cell c k) 0) ∗ bigSep Finset.univ fun k : CK => roundState EB (Rd m) (cell c k) 0)
      ⊢ (|={Set.univ}=> bigSep Finset.univ fun k => iprop(∃ κ : ℕ, cellInv EB (Rd m) κ (cell c k)) : sProp 𝕄) from by
        rw [← bigSep_sep']
        exact (bigSep_mono fun k _ => (Rounds.body_intro EB (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem with_records {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EB (Rd m) κ (cell c k)))
          ∗ (bigSep Finset.univ fun k => iprop(atPos EB (cell c k) 0 ∅ 0 ∗ reached EB (cell c k) 0)) ∗ Toks c ∗ LocalSems c) : sProp 𝕄)
      ⊢ bigSep Finset.univ (G' m) := by
  rw [bigSep_sep', bigSep_sep', ← bigSep_univ_prod (fun ck : Dev nD × CK => iprop(∃ κ : ℕ, cellInv EB (Rd m) κ (cell ck.1 ck.2))),
    bigSep_congr (s := Finset.univ) (fun (c : Dev nD) _ => bigSep_sep' Finset.univ (fun k : CK => (atPos EB (cell c k) 0 ∅ 0 : sProp 𝕄)) (fun k => reached EB (cell c k) 0)),
    bigSep_sep', ← bigSep_univ_prod (fun ck : Dev nD × CK => (reached EB (cell ck.1 ck.2) 0 : sProp 𝕄))]
  iintro ⟨HI, ⟨Hat, #HR⟩, Htok⟩
  ihave HK := (BI.bigSep_exists_pi Finset.univ (fun (ck : Dev nD × CK) (κ : ℕ) => (cellInv EB (Rd m) κ (cell ck.1 ck.2) : sProp 𝕄))) $$ HI
  icases HK with ⟨%κ, #HI⟩
  iapply (with_records (R := records m κ) (Φ := fun c => iprop(Pos c (fun _ => 0) ∗ Toks c ∗ LocalSems c)) fun c _ => by
    unfold G'; iintro ⟨#HR, H⟩; iexists κ; isplitr; · iexact HR
    iexact H)
  isplitr
  · unfold records; isplitl; · iexact HI
    iexact HR
  · iapply (Entails.of_eq (bigSep_sep' Finset.univ (fun c : Dev nD => (Pos c (fun _ => 0) : sProp 𝕄)) (fun c => iprop(Toks c ∗ LocalSems c))).symm)
    isplitl [Hat]; · unfold Pos; iexact Hat
    iexact Htok

/-- The one step that opens every device's cells. -/
theorem glob : (bigSep Finset.univ fun c => iprop(Pipeline.ownSems0 (Ix := Unit) (Name := ℕ) (U := UU) (Lvl := ℕ) (Val := Elt F) (τ := τ) osem28 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others owe a device at launch -/

/-- What a list of payments owes a cell. -/
theorem sumOf_at (l : List (GSem nD τ sig × ℕ)) (g : GSem nD τ sig) : sumOf l g () = (l.map fun a => if a.1 = g then a.2 else 0).sum := by
  induction l with
  | nil => rfl
  | cons a l ih =>
    show (sumOf l + tallyAt a.1 () a.2) g () = _
    rw [Pi.add_apply, Finsupp.add_apply, ih, tallyAt_apply, List.map_cons, List.sum_cons, Nat.add_comm]
    congr 1
    by_cases h : a.1 = g
    · rw [if_pos ⟨h.symm, rfl⟩, if_pos h]
    · rw [if_neg (fun h' => h h'.1.symm), if_neg h]

theorem owes_bar (c : Dev nD) : (∑ d, owed d 0 (cell c .bar) ()) = 3 := by
  unfold owed; simp only [List.drop_zero, sumOf_at, owedL, List.map_cons, List.map_nil, cell_eq_iff]
  simp only [reduceCtorEq, and_false, and_true, if_false]
  revert c; decide
theorem owes_recv (c o : Dev nD) (h : Fin 2) (ho : o ≠ c) : (∑ d, owed d 0 (cell c (.recv o h)) ()) = Nr := by
  unfold owed; simp only [List.drop_zero, sumOf_at, owedL, List.map_cons, List.map_nil, cell_eq_iff]
  simp only [reduceCtorEq, and_false, if_false, CK.recv.injEq]
  generalize Nr = N
  revert ho; revert c o h
  intro c o h
  fin_cases c <;> fin_cases o <;> fin_cases h <;> intro ho <;> first | exact absurd rfl ho | simp (decide := true) [Fin.sum_univ_four, peer]
theorem owes_arecv (c o : Dev nD) (ho : o ≠ c) : (∑ d, owed d 0 (cell c (.arecv o)) ()) = Na := by
  unfold owed; simp only [List.drop_zero, sumOf_at, owedL, List.map_cons, List.map_nil, cell_eq_iff]
  simp only [reduceCtorEq, and_false, if_false, CK.arecv.injEq]
  generalize Na = N
  revert ho; revert c o
  intro c o
  fin_cases c <;> fin_cases o <;> intro ho <;> first | exact absurd rfl ho | simp (decide := true) [Fin.sum_univ_four]

theorem launch_at (g : GSem nD τ sig) (n : ℕ) (h : (∑ d, owed d 0 g ()) = n) :
    tallyOn g (launchCredit (Pipeline.owing fun d => owed d 0) 0 g) = (tallyAt g () n : CellTallies nD τ sig Unit) := by
  unfold tallyAt; refine congrArg _ (Finsupp.ext fun u => ?_); cases u
  rw [Pipeline.launchCredit_owing, Finsupp.single_eq_same]; exact h

/-- The semaphores other devices pay a device at. -/
def paidL (c : Dev nD) : List (SemLoc sig) :=
  [enc .bar, enc (.recv (peer c 2) 0), enc (.recv (peer c 2) 1), enc (.recv (peer c 3) 0), enc (.recv (peer c 3) 1), enc (.recv (peer c 1) 0), enc (.recv (peer c 1) 1),
    enc (.arecv (peer c 2)), enc (.arecv (peer c 3)), enc (.arecv (peer c 1))]

theorem paidL_nodup (c : Dev nD) : (paidL c).Nodup := by revert c; decide

/-- The credits a device waits with. -/
def Creds (c : Dev nD) : sProp 𝕄 :=
  iprop(cred (tallyAt (cell c .bar) () 3)
    ∗ cred (tallyAt (cell c (.recv (peer c 2) 0)) () Nr) ∗ cred (tallyAt (cell c (.recv (peer c 2) 1)) () Nr)
    ∗ cred (tallyAt (cell c (.recv (peer c 3) 0)) () Nr) ∗ cred (tallyAt (cell c (.recv (peer c 3) 1)) () Nr)
    ∗ cred (tallyAt (cell c (.recv (peer c 1) 0)) () Nr) ∗ cred (tallyAt (cell c (.recv (peer c 1) 1)) () Nr)
    ∗ cred (tallyAt (cell c (.arecv (peer c 2))) () Na) ∗ cred (tallyAt (cell c (.arecv (peer c 3))) () Na) ∗ cred (tallyAt (cell c (.arecv (peer c 1))) () Na))

theorem paid_of (c : Dev nD) (Φ : SemLoc sig → sProp (MT nD τ sig Unit (Elt F) ℕ UU ℕ)) :
    bigSep Finset.univ Φ ⊢ iprop(Φ (enc .bar) ∗ Φ (enc (.recv (peer c 2) 0)) ∗ Φ (enc (.recv (peer c 2) 1)) ∗ Φ (enc (.recv (peer c 3) 0)) ∗ Φ (enc (.recv (peer c 3) 1))
      ∗ Φ (enc (.recv (peer c 1) 0)) ∗ Φ (enc (.recv (peer c 1) 1)) ∗ Φ (enc (.arecv (peer c 2))) ∗ Φ (enc (.arecv (peer c 3))) ∗ Φ (enc (.arecv (peer c 1)))) := by
  have h1 : bigSep Finset.univ Φ ⊢ bigSep (paidL c).toFinset Φ := BI.bigSep_subset (Finset.subset_univ _)
  have h2 : bigSep (paidL c).toFinset Φ = bigSepL (paidL c) Φ := bigSep_eq_bigSepL_of_eq (paidL c) rfl (paidL_nodup c) Φ
  rw [h2] at h1
  exact h1

theorem cred_at (g : GSem nD τ sig) (n : ℕ) (h : (∑ d, owed d 0 g ()) = n) :
    (cred (tallyOn g (launchCredit (Pipeline.owing fun d => owed d 0) 0 g)) : sProp 𝕄) ⊢ cred (tallyAt g () n) :=
  Entails.of_eq (congrArg cred (launch_at g n h))

theorem creds (c : Dev nD) : (Pipeline.launchCred (fun d => owed d 0) c : sProp 𝕄) ⊢ Creds c := by
  unfold Pipeline.launchCred Creds
  refine (paid_of c _).trans ?_
  refine BIClass.sep_mono (cred_at (cell c .bar) 3 (owes_bar c)) ?_
  refine BIClass.sep_mono (cred_at (cell c (.recv (peer c 2) 0)) Nr (owes_recv c _ _ (peer_ne2 c))) ?_
  refine BIClass.sep_mono (cred_at (cell c (.recv (peer c 2) 1)) Nr (owes_recv c _ _ (peer_ne2 c))) ?_
  refine BIClass.sep_mono (cred_at (cell c (.recv (peer c 3) 0)) Nr (owes_recv c _ _ (peer_ne3 c))) ?_
  refine BIClass.sep_mono (cred_at (cell c (.recv (peer c 3) 1)) Nr (owes_recv c _ _ (peer_ne3 c))) ?_
  refine BIClass.sep_mono (cred_at (cell c (.recv (peer c 1) 0)) Nr (owes_recv c _ _ (peer_ne1 c))) ?_
  refine BIClass.sep_mono (cred_at (cell c (.recv (peer c 1) 1)) Nr (owes_recv c _ _ (peer_ne1 c))) ?_
  refine BIClass.sep_mono (cred_at (cell c (.arecv (peer c 2))) Na (owes_arecv c _ (peer_ne2 c))) ?_
  exact BIClass.sep_mono (cred_at (cell c (.arecv (peer c 3))) Na (owes_arecv c _ (peer_ne3 c))) (cred_at (cell c (.arecv (peer c 1))) Na (owes_arecv c _ (peer_ne1 c)))

end Cert.A2A

end
-- ==== Proof.Entry.lean ====
/-
# Into the body

What a device starts with, cut into the pieces its body takes.
-/
module

public import proofs.«01_k».proof.Proof.Body
public import proofs.«01_k».proof.Proof.Deal

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the devices -/

/-- `P` if `q` is another device. -/
def oth (c q : Dev nD) (P : sProp (MT nD τ sig Unit (Elt F) ℕ UU ℕ)) : sProp 𝕄 := if q = c then iprop(emp) else P

theorem four (Φ : Dev nD → sProp (MT nD τ sig Unit (Elt F) ℕ UU ℕ)) : bigSep Finset.univ Φ = iprop(Φ 0 ∗ Φ 1 ∗ Φ 2 ∗ Φ 3) := by
  rw [bigSep_univ_eq_bigSepL [(0 : Dev nD), 1, 2, 3] (by decide) (by decide) Φ]; rfl
/-- In the order a device uses them. -/
theorem turn (c : Dev nD) (Φ : Dev nD → sProp (MT nD τ sig Unit (Elt F) ℕ UU ℕ)) :
    bigSep Finset.univ Φ = iprop(Φ (peer c 0) ∗ Φ (peer c 2) ∗ Φ (peer c 3) ∗ Φ (peer c 1)) := by
  have h1 : (Finset.univ : Finset (Dev nD)) = [peer c 0, peer c 2, peer c 3, peer c 1].toFinset := by revert c; decide
  have h2 : [peer c 0, peer c 2, peer c 3, peer c 1].Nodup := by clear h1; revert c; decide
  rw [bigSep_univ_eq_bigSepL _ h1 h2 Φ]; rfl
/-- The device itself apart. -/
theorem pull (c : Dev nD) (Φ : Dev nD → sProp (MT nD τ sig Unit (Elt F) ℕ UU ℕ)) :
    bigSep Finset.univ Φ ⊣⊢ iprop(Φ c ∗ oth c 0 (Φ 0) ∗ oth c 1 (Φ 1) ∗ oth c 2 (Φ 2) ∗ oth c 3 (Φ 3)) := by
  have h : iprop(Φ c ∗ oth c 0 (Φ 0) ∗ oth c 1 (Φ 1) ∗ oth c 2 (Φ 2) ∗ oth c 3 (Φ 3)) = iprop(Φ c ∗ iprop(emp) ∗ bigSep (Finset.univ.erase c) Φ) := by
    rw [← four (fun q => oth c q (Φ q)), bigSep_univ_at _ c, show oth c c (Φ c) = iprop(emp) from if_pos rfl]
    exact congrArg (fun P => iprop(Φ c ∗ iprop(emp) ∗ P)) (bigSep_congr fun q hq => if_neg (Finset.ne_of_mem_erase hq))
  rw [h, bigSep_univ_at _ c]
  exact ⟨sep_mono_right BIClass.emp_sep.2, sep_mono_right BIClass.emp_sep.1⟩

/-! ## Buffers in pieces -/

theorem any_of {ℓ : Loc nD τ sig} (S : Finset (Idx ℓ)) (f : Buf (Elt F) ℓ) : (ℓ ↦[S]{fullShare} f : sProp 𝕄) ⊢ iprop(∃ f : Buf (Elt F) ℓ, ℓ ↦[S]{fullShare} f) := by
  iintro H; iexists f; iexact H

section Pieces
variable {T : Type} [Fintype T] [DecidableEq T] [Inhabited T] {ℓ : Loc nD τ sig} (K : T → Finset (Idx ℓ)) (φ : Idx ℓ → T) (hK : ∀ t i, i ∈ K t ↔ φ i = t)
include hK

theorem pieces_disj : ∀ t ∈ (Finset.univ : Finset T), ∀ t' ∈ (Finset.univ : Finset T), t ≠ t' → Disjoint (K t) (K t') := fun t _ t' _ h =>
  Finset.disjoint_left.mpr fun i hi hi' => h (((hK t i).mp hi).symm.trans ((hK t' i).mp hi'))
theorem pieces_all : (Finset.univ : Finset T).biUnion K = Finset.univ :=
  Finset.eq_univ_iff_forall.mpr fun i => Finset.mem_biUnion.mpr ⟨φ i, Finset.mem_univ _, (hK _ i).mpr rfl⟩
theorem pieces_eq (q : PosShare TreeShare) (f : Buf (Elt F) ℓ) : (ℓ ↦{q} f : sProp 𝕄) = bigSep Finset.univ fun t => ℓ ↦[K t]{q} f := by
  rw [← pointsTo_biUnion Finset.univ K (pieces_disj K φ hK), pieces_all K φ hK]
/-- A buffer of any contents is its pieces, of any contents. -/
theorem pieces : (iprop(∃ f : Buf (Elt F) ℓ, ℓ ↦{fullShare} f) : sProp 𝕄) ⊣⊢ bigSep Finset.univ fun t => iprop(∃ f : Buf (Elt F) ℓ, ℓ ↦[K t]{fullShare} f) := by
  constructor
  · iintro ⟨%f, H⟩
    ihave H := (Entails.of_eq (pieces_eq K φ hK fullShare f)) $$ H
    have h : (bigSep Finset.univ fun t => (ℓ ↦[K t]{fullShare} f : sProp 𝕄)) ⊢ bigSep Finset.univ fun t => iprop(∃ f : Buf (Elt F) ℓ, ℓ ↦[K t]{fullShare} f) :=
      bigSep_mono fun t _ => any_of (K t) f
    iapply h $$ H
  · iintro H
    ihave H := (BI.bigSep_exists_pi Finset.univ (fun (t : T) (f : Buf (Elt F) ℓ) => (ℓ ↦[K t]{fullShare} f : sProp 𝕄))) $$ H
    icases H with ⟨%fs, H⟩
    ihave H := (pointsTo_biUnion_join Finset.univ K fs (fs default) (pieces_disj K φ hK)) $$ H
    icases H with ⟨%g, -, H⟩
    iexists g
    rw [pieces_all K φ hK]; iexact H
end Pieces

variable (c : Dev nD)

theorem two (Φ : Fin 2 → sProp (MT nD τ sig Unit (Elt F) ℕ UU ℕ)) : bigSep Finset.univ Φ = iprop(Φ 0 ∗ Φ 1) := by
  rw [bigSep_univ_eq_bigSepL [(0 : Fin 2), 1] (by decide) (by decide) Φ]; rfl

theorem xs_pieces : (iprop(∃ f : Buf (Elt F) (bufXs c), (bufXs c) ↦{fullShare} f) : sProp 𝕄)
    ⊣⊢ iprop((∃ f : Buf (Elt F) (bufXs c), (bufXs c) ↦[xsSet 0]{fullShare} f) ∗ (∃ f : Buf (Elt F) (bufXs c), (bufXs c) ↦[xsSet 1]{fullShare} f)) := by
  have h := pieces (F := F) (ℓ := bufXs c) xsSet (fun i : S2x128x4096.Idx => (⟨(i 0).val, lt3_0 i⟩ : Fin 2)) (fun t (i : S2x128x4096.Idx) => by
    show i ∈ xsSet t ↔ _; unfold xsSet; rw [Finset.mem_filter, Fin.ext_iff]; exact ⟨fun h => h.2, fun h => ⟨Finset.mem_univ _, h⟩⟩)
  rw [two] at h; exact h
theorem wb_pieces : (iprop(∃ f : Buf (Elt F) (bufWb c), (bufWb c) ↦{fullShare} f) : sProp 𝕄)
    ⊣⊢ iprop((∃ f : Buf (Elt F) (bufWb c), (bufWb c) ↦[wbSet 0]{fullShare} f) ∗ (∃ f : Buf (Elt F) (bufWb c), (bufWb c) ↦[wbSet 1]{fullShare} f)) := by
  have h := pieces (F := F) (ℓ := bufWb c) wbSet (fun i : S2x4096x512.Idx => (⟨(i 0).val, lt3_0 i⟩ : Fin 2)) (fun t (i : S2x4096x512.Idx) => by
    show i ∈ wbSet t ↔ _; unfold wbSet; rw [Finset.mem_filter, Fin.ext_iff]; exact ⟨fun h => h.2, fun h => ⟨Finset.mem_univ _, h⟩⟩)
  rw [two] at h; exact h
theorem ov_pieces : (iprop(∃ f : Buf (Elt F) (bufOv c), (bufOv c) ↦{fullShare} f) : sProp 𝕄)
    ⊣⊢ iprop((∃ f : Buf (Elt F) (bufOv c), (bufOv c) ↦[ovSet 0]{fullShare} f) ∗ (∃ f : Buf (Elt F) (bufOv c), (bufOv c) ↦[ovSet 1]{fullShare} f)) := by
  have h := pieces (F := F) (ℓ := bufOv c) ovSet (fun i : S2x1024x512.Idx => (⟨(i 0).val, lt3_0 i⟩ : Fin 2)) (fun t (i : S2x1024x512.Idx) => by
    show i ∈ ovSet t ↔ _; unfold ovSet; rw [Finset.mem_filter, Fin.ext_iff]; exact ⟨fun h => h.2, fun h => ⟨Finset.mem_univ _, h⟩⟩)
  rw [two] at h; exact h
theorem sv_pieces : (iprop(∃ f : Buf (Elt F) (bufSv c), (bufSv c) ↦{fullShare} f) : sProp 𝕄)
    ⊣⊢ iprop(sv? c 0 0 ∗ sv? c 0 1 ∗ sv? c 1 0 ∗ sv? c 1 1 ∗ sv? c 2 0 ∗ sv? c 2 1) := by
  have h := pieces (F := F) (ℓ := bufSv c) (fun t : Fin 3 × Fin 2 => svSet t.1 t.2)
    (fun i : S3x1024x512.Idx => ((⟨(i 0).val, lt3_0 i⟩ : Fin 3), (⟨(i 1).val / 512, by have := lt3_1 i; omega⟩ : Fin 2))) (fun t (i : S3x1024x512.Idx) => by
    show i ∈ svSet t.1 t.2 ↔ _; unfold svSet; rw [Finset.mem_filter, Prod.ext_iff, Fin.ext_iff, Fin.ext_iff]; exact ⟨fun h => h.2, fun h => ⟨Finset.mem_univ _, h⟩⟩)
  rw [bigSep_univ_eq_bigSepL [((0 : Fin 3), (0 : Fin 2)), (0, 1), (1, 0), (1, 1), (2, 0), (2, 1)] (by decide) (by decide)] at h; exact h
theorem rv_pieces : (iprop(∃ f : Buf (Elt F) (bufRv c), (bufRv c) ↦{fullShare} f) : sProp 𝕄) ⊣⊢ bigSep Finset.univ fun o : Dev nD => iprop(rv? c o 0 ∗ rv? c o 1) := by
  have h := pieces (F := F) (ℓ := bufRv c) (fun t : Dev nD × Fin 2 => rvSet t.1 t.2)
    (fun i : S4x1024x512.Idx => ((⟨(i 0).val, lt3_0 i⟩ : Dev nD), (⟨(i 1).val / 512, by have := lt3_1 i; omega⟩ : Fin 2))) (fun t (i : S4x1024x512.Idx) => by
    show i ∈ rvSet t.1 t.2 ↔ _; unfold rvSet; rw [Finset.mem_filter, Prod.ext_iff, Fin.ext_iff, Fin.ext_iff]; exact ⟨fun h => h.2, fun h => ⟨Finset.mem_univ _, h⟩⟩)
  rw [bigSep_univ_prod, bigSep_congr fun o _ => two _] at h; exact h
theorem ar_pieces : (iprop(∃ f : Buf (Elt F) (bufAr c), (bufAr c) ↦{fullShare} f) : sProp 𝕄) ⊣⊢ bigSep Finset.univ fun o : Dev nD => ar? c o :=
  pieces (F := F) (ℓ := bufAr c) arSet (fun i : S4x8x128.Idx => (⟨(i 0).val, lt3_0 i⟩ : Dev nD)) (fun t (i : S4x8x128.Idx) => by
    show i ∈ arSet t ↔ _; unfold arSet; rw [Finset.mem_filter, Fin.ext_iff]; exact ⟨fun h => h.2, fun h => ⟨Finset.mem_univ _, h⟩⟩)
theorem mem_out (t : Dev nD) (i : S4096x512.Idx) : i ∈ outSet t ↔ (⟨(i 0).val / 1024, by have := lt2_0 i; show _ < 4; omega⟩ : Dev nD) = t := by
  unfold outSet; rw [Finset.mem_filter, Fin.ext_iff]; exact ⟨fun h => h.2, fun h => ⟨Finset.mem_univ _, h⟩⟩
theorem out_pieces : (iprop(∃ f : Buf (Elt F) (bufO c), (bufO c) ↦{fullShare} f) : sProp 𝕄) ⊣⊢ bigSep Finset.univ fun o : Dev nD => Out? c o :=
  pieces (F := F) (ℓ := bufO c) outSet _ mem_out
theorem out_whole : ((bufO c) ↦{fullShare} (outC (xin m) (win m) c : Buf (Elt F) (bufO c)) : sProp 𝕄) = bigSep Finset.univ fun o : Dev nD => OutD m c o :=
  pieces_eq (ℓ := bufO c) outSet _ mem_out fullShare _

theorem halves {ℓ : Loc nD τ sig} (f : Buf (Elt F) ℓ) : (ℓ ↦{fullShare} f : sProp 𝕄) ⊣⊢ iprop((ℓ ↦{xsh 0} f) ∗ (ℓ ↦{xsh 1} f)) :=
  pointsTo_share (PosShare.mem_left_op_right fullShare)

/-! ## Positions and tokens -/

/-- The positions of a device, by the cells they are at. -/
theorem pos_eq (ρ : CK → ℕ) : (Pos c ρ : sProp 𝕄)
    ⊣⊢ iprop(atPos EB (cell c (.bar)) (ρ (.bar)) ∅ 0 ∗ (atPos EB (cell c (.send 0 0)) (ρ (.send 0 0)) ∅ 0 ∗ atPos EB (cell c (.send 0 1)) (ρ (.send 0 1)) ∅ 0 ∗ atPos EB (cell c (.send 1 0)) (ρ (.send 1 0)) ∅ 0 ∗ atPos EB (cell c (.send 1 1)) (ρ (.send 1 1)) ∅ 0 ∗ atPos EB (cell c (.send 2 0)) (ρ (.send 2 0)) ∅ 0 ∗ atPos EB (cell c (.send 2 1)) (ρ (.send 2 1)) ∅ 0)
      ∗ (bigSep Finset.univ fun o : Dev nD => iprop(atPos EB (cell c (.recv o 0)) (ρ (.recv o 0)) ∅ 0 ∗ atPos EB (cell c (.recv o 1)) (ρ (.recv o 1)) ∅ 0))
      ∗ (bigSep Finset.univ fun q : Dev nD => iprop(atPos EB (cell c (.asend q)) (ρ (.asend q)) ∅ 0 ∗ atPos EB (cell c (.arecv q)) (ρ (.arecv q)) ∅ 0))) := by
  have h : (Pos c ρ : sProp 𝕄) = bigSepL ckL fun k => atPos EB (cell c (k)) (ρ (k)) ∅ 0 := by
    unfold Pos; exact bigSep_univ_eq_bigSepL ckL (by decide) (by decide) _
  rw [h, four, four]
  constructor
  · show iprop(atPos EB (cell c (.bar)) (ρ (.bar)) ∅ 0 ∗ atPos EB (cell c (.send 0 0)) (ρ (.send 0 0)) ∅ 0 ∗ atPos EB (cell c (.send 0 1)) (ρ (.send 0 1)) ∅ 0 ∗ atPos EB (cell c (.send 1 0)) (ρ (.send 1 0)) ∅ 0 ∗ atPos EB (cell c (.send 1 1)) (ρ (.send 1 1)) ∅ 0 ∗ atPos EB (cell c (.send 2 0)) (ρ (.send 2 0)) ∅ 0 ∗ atPos EB (cell c (.send 2 1)) (ρ (.send 2 1)) ∅ 0 ∗ atPos EB (cell c (.recv 0 0)) (ρ (.recv 0 0)) ∅ 0 ∗ atPos EB (cell c (.recv 0 1)) (ρ (.recv 0 1)) ∅ 0 ∗ atPos EB (cell c (.recv 1 0)) (ρ (.recv 1 0)) ∅ 0 ∗ atPos EB (cell c (.recv 1 1)) (ρ (.recv 1 1)) ∅ 0 ∗ atPos EB (cell c (.recv 2 0)) (ρ (.recv 2 0)) ∅ 0 ∗ atPos EB (cell c (.recv 2 1)) (ρ (.recv 2 1)) ∅ 0 ∗ atPos EB (cell c (.recv 3 0)) (ρ (.recv 3 0)) ∅ 0 ∗ atPos EB (cell c (.recv 3 1)) (ρ (.recv 3 1)) ∅ 0 ∗ atPos EB (cell c (.asend 0)) (ρ (.asend 0)) ∅ 0 ∗ atPos EB (cell c (.asend 1)) (ρ (.asend 1)) ∅ 0 ∗ atPos EB (cell c (.asend 2)) (ρ (.asend 2)) ∅ 0 ∗ atPos EB (cell c (.asend 3)) (ρ (.asend 3)) ∅ 0 ∗ atPos EB (cell c (.arecv 0)) (ρ (.arecv 0)) ∅ 0 ∗ atPos EB (cell c (.arecv 1)) (ρ (.arecv 1)) ∅ 0 ∗ atPos EB (cell c (.arecv 2)) (ρ (.arecv 2)) ∅ 0 ∗ atPos EB (cell c (.arecv 3)) (ρ (.arecv 3)) ∅ 0) ⊢ _
    iintro ⟨HB, S00, S01, S10, S11, S20, S21, R00, R01, R10, R11, R20, R21, R30, R31, A0, A1, A2, A3, E0, E1, E2, E3⟩
    isplitl [HB]; · iexact HB
    isplitl [S00 S01 S10 S11 S20 S21]
    · isplitl [S00]; · iexact S00
      isplitl [S01]; · iexact S01
      isplitl [S10]; · iexact S10
      isplitl [S11]; · iexact S11
      isplitl [S20]; · iexact S20
      iexact S21
    isplitl [R00 R01 R10 R11 R20 R21 R30 R31]
    · isplitl [R00 R01]
      · isplitl [R00]; · iexact R00
        iexact R01
      isplitl [R10 R11]
      · isplitl [R10]; · iexact R10
        iexact R11
      isplitl [R20 R21]
      · isplitl [R20]; · iexact R20
        iexact R21
      isplitl [R30]; · iexact R30
      iexact R31
    isplitl [A0 E0]
    · isplitl [A0]; · iexact A0
      iexact E0
    isplitl [A1 E1]
    · isplitl [A1]; · iexact A1
      iexact E1
    isplitl [A2 E2]
    · isplitl [A2]; · iexact A2
      iexact E2
    isplitl [A3]; · iexact A3
    iexact E3
  · show _ ⊢ iprop(atPos EB (cell c (.bar)) (ρ (.bar)) ∅ 0 ∗ atPos EB (cell c (.send 0 0)) (ρ (.send 0 0)) ∅ 0 ∗ atPos EB (cell c (.send 0 1)) (ρ (.send 0 1)) ∅ 0 ∗ atPos EB (cell c (.send 1 0)) (ρ (.send 1 0)) ∅ 0 ∗ atPos EB (cell c (.send 1 1)) (ρ (.send 1 1)) ∅ 0 ∗ atPos EB (cell c (.send 2 0)) (ρ (.send 2 0)) ∅ 0 ∗ atPos EB (cell c (.send 2 1)) (ρ (.send 2 1)) ∅ 0 ∗ atPos EB (cell c (.recv 0 0)) (ρ (.recv 0 0)) ∅ 0 ∗ atPos EB (cell c (.recv 0 1)) (ρ (.recv 0 1)) ∅ 0 ∗ atPos EB (cell c (.recv 1 0)) (ρ (.recv 1 0)) ∅ 0 ∗ atPos EB (cell c (.recv 1 1)) (ρ (.recv 1 1)) ∅ 0 ∗ atPos EB (cell c (.recv 2 0)) (ρ (.recv 2 0)) ∅ 0 ∗ atPos EB (cell c (.recv 2 1)) (ρ (.recv 2 1)) ∅ 0 ∗ atPos EB (cell c (.recv 3 0)) (ρ (.recv 3 0)) ∅ 0 ∗ atPos EB (cell c (.recv 3 1)) (ρ (.recv 3 1)) ∅ 0 ∗ atPos EB (cell c (.asend 0)) (ρ (.asend 0)) ∅ 0 ∗ atPos EB (cell c (.asend 1)) (ρ (.asend 1)) ∅ 0 ∗ atPos EB (cell c (.asend 2)) (ρ (.asend 2)) ∅ 0 ∗ atPos EB (cell c (.asend 3)) (ρ (.asend 3)) ∅ 0 ∗ atPos EB (cell c (.arecv 0)) (ρ (.arecv 0)) ∅ 0 ∗ atPos EB (cell c (.arecv 1)) (ρ (.arecv 1)) ∅ 0 ∗ atPos EB (cell c (.arecv 2)) (ρ (.arecv 2)) ∅ 0 ∗ atPos EB (cell c (.arecv 3)) (ρ (.arecv 3)) ∅ 0)
    iintro ⟨HB, ⟨S00, S01, S10, S11, S20, S21⟩, ⟨⟨R00, R01⟩, ⟨R10, R11⟩, ⟨R20, R21⟩, R30, R31⟩, ⟨A0, E0⟩, ⟨A1, E1⟩, ⟨A2, E2⟩, A3, E3⟩
    isplitl [HB]; · iexact HB
    isplitl [S00]; · iexact S00
    isplitl [S01]; · iexact S01
    isplitl [S10]; · iexact S10
    isplitl [S11]; · iexact S11
    isplitl [S20]; · iexact S20
    isplitl [S21]; · iexact S21
    isplitl [R00]; · iexact R00
    isplitl [R01]; · iexact R01
    isplitl [R10]; · iexact R10
    isplitl [R11]; · iexact R11
    isplitl [R20]; · iexact R20
    isplitl [R21]; · iexact R21
    isplitl [R30]; · iexact R30
    isplitl [R31]; · iexact R31
    isplitl [A0]; · iexact A0
    isplitl [A1]; · iexact A1
    isplitl [A2]; · iexact A2
    isplitl [A3]; · iexact A3
    isplitl [E0]; · iexact E0
    isplitl [E1]; · iexact E1
    isplitl [E2]; · iexact E2
    iexact E3

/-- The duties of a device, and a few tokens more. -/
def tokL (c : Dev nD) : List (Dev nD × CK) :=
  [(0, .bar), (1, .bar), (2, .bar), (3, .bar), (c, .send 0 0), (c, .send 0 1), (c, .send 1 0), (c, .send 1 1), (c, .send 2 0), (c, .send 2 1), (peer c (ahead 0), .recv c 0), (peer c (ahead 0), .recv c 1), (peer c (ahead 1), .recv c 0), (peer c (ahead 1), .recv c 1), (peer c (ahead 2), .recv c 0), (peer c (ahead 2), .recv c 1), (c, .asend 0), (c, .asend 1), (c, .asend 2), (c, .asend 3), (0, .arecv c), (1, .arecv c), (2, .arecv c), (3, .arecv c)]
theorem tokL_nodup (c : Dev nD) : (tokL c).Nodup := by revert c; decide

theorem tok_of (Φ : Dev nD × CK → sProp (MT nD τ sig Unit (Elt F) ℕ UU ℕ)) :
    bigSep Finset.univ Φ ⊢ iprop(Φ (0, .bar) ∗ Φ (1, .bar) ∗ Φ (2, .bar) ∗ Φ (3, .bar) ∗ Φ (c, .send 0 0) ∗ Φ (c, .send 0 1) ∗ Φ (c, .send 1 0) ∗ Φ (c, .send 1 1) ∗ Φ (c, .send 2 0) ∗ Φ (c, .send 2 1) ∗ Φ (peer c (ahead 0), .recv c 0) ∗ Φ (peer c (ahead 0), .recv c 1) ∗ Φ (peer c (ahead 1), .recv c 0) ∗ Φ (peer c (ahead 1), .recv c 1) ∗ Φ (peer c (ahead 2), .recv c 0) ∗ Φ (peer c (ahead 2), .recv c 1) ∗ Φ (c, .asend 0) ∗ Φ (c, .asend 1) ∗ Φ (c, .asend 2) ∗ Φ (c, .asend 3) ∗ Φ (0, .arecv c) ∗ Φ (1, .arecv c) ∗ Φ (2, .arecv c) ∗ Φ (3, .arecv c)) := by
  have h1 : bigSep Finset.univ Φ ⊢ bigSep (tokL c).toFinset Φ := BI.bigSep_subset (Finset.subset_univ _)
  have h2 : bigSep (tokL c).toFinset Φ = bigSepL (tokL c) Φ := bigSep_eq_bigSepL_of_eq (tokL c) rfl (tokL_nodup c) Φ
  rw [h2] at h1
  exact h1

/-! ## Into the body -/

/-- What a device holds when its kernel starts. -/
def Raw (c : Dev nD) : sProp 𝕄 :=
  iprop(((bufX c) ↦{fullShare} (xin m c : Buf (Elt F) (bufX c))) ∗ ((bufW c) ↦{fullShare} (win m c : Buf (Elt F) (bufW c))) ∗ (∃ f : Buf (Elt F) (bufO c), (bufO c) ↦{fullShare} f)
    ∗ Pipeline.scopedRest cfg0.spec c ∗ LocalSems c ∗ Pos c (fun _ => 0) ∗ Toks c ∗ Creds c)
/-- The positions the body makes no use of. -/
def Aside (c : Dev nD) : sProp 𝕄 :=
  iprop((atPos EB (cell c (.recv c 0)) 0 ∅ 0 ∗ atPos EB (cell c (.recv c 1)) 0 ∅ 0) ∗ (atPos EB (cell c (.asend c)) 0 ∅ 0 ∗ atPos EB (cell c (.arecv c)) 0 ∅ 0))

theorem sig_intro (q : Dev nD) : iprop(dutyTok EB (cell q .bar) 0 c ∗ oth c q iprop(rv? c q 0 ∗ rv? c q 1) ∗ oth c q (ar? c q)) ⊢ SigPre (F := F) c q := by
  unfold oth SigPre
  by_cases h : q = c
  · rw [if_pos h, if_pos h, if_pos h]; iintro ⟨-, -, -⟩; iempintro
  · rw [if_neg h, if_neg h, if_neg h]
    iintro ⟨HT, ⟨H0, H1⟩, HA⟩
    isplitl [HT]; · iexact HT
    isplitl [H0]; · iexact H0
    isplitl [H1] <;> iassumption
theorem aptok_intro (q : Dev nD) : iprop((if q = c then ar? c c else iprop(emp)) ∗ dutyTok EB (cell c (.asend q)) 0 c ∗ dutyTok EB (cell q (.arecv c)) 0 c) ⊢ ApTok (F := F) c q := by
  unfold ApTok
  by_cases h : q = c
  · rw [if_pos h, if_pos h]; iintro ⟨H, -, -⟩; iexact H
  · rw [if_neg h, if_neg h]; iintro ⟨-, H1, H2⟩; isplitl [H1] <;> iassumption
theorem own_four (P : sProp (MT nD τ sig Unit (Elt F) ℕ UU ℕ)) :
    P ⊢ iprop((if (0 : Dev nD) = c then P else iprop(emp)) ∗ (if (1 : Dev nD) = c then P else iprop(emp)) ∗ (if (2 : Dev nD) = c then P else iprop(emp)) ∗ (if (3 : Dev nD) = c then P else iprop(emp))) := by
  rw [← four (fun q => if q = c then P else iprop(emp)), bigSep_univ_at _ c, if_pos rfl]
  have : bigSep (Finset.univ.erase c) (fun q => if q = c then P else iprop(emp)) = (iprop(emp) : sProp 𝕄) := by
    rw [bigSep_congr fun q hq => if_neg (Finset.ne_of_mem_erase hq)]; exact bigSep_emp_const _
  rw [this]; exact Laws.sep_emp.2
theorem aw_intro (q : Dev nD) : iprop(oth c q (cred (tallyAt (cell c (.arecv q)) () Na)) ∗ oth c q iprop(atPos EB (cell c (.asend q)) 0 ∅ 0 ∗ atPos EB (cell c (.arecv q)) 0 ∅ 0)) ⊢ Aw (F := F) c q := by
  unfold oth Aw
  by_cases h : q = c
  · rw [if_pos h, if_pos h, if_pos h]; exact BIClass.emp_sep.1
  · rw [if_neg h, if_neg h, if_neg h]
theorem creds_four : (iprop(cred (tallyAt (cell c (.arecv (peer c 2))) () Na) ∗ cred (tallyAt (cell c (.arecv (peer c 3))) () Na) ∗ cred (tallyAt (cell c (.arecv (peer c 1))) () Na)) : sProp 𝕄)
    ⊢ iprop(oth c 0 (cred (tallyAt (cell c (.arecv 0)) () Na)) ∗ oth c 1 (cred (tallyAt (cell c (.arecv 1)) () Na)) ∗ oth c 2 (cred (tallyAt (cell c (.arecv 2)) () Na)) ∗ oth c 3 (cred (tallyAt (cell c (.arecv 3)) () Na))) := by
  rw [← four (fun q => oth c q (cred (tallyAt (cell c (.arecv q)) () Na))), turn c]
  rw [show oth (F := F) c (peer c 0) (cred (tallyAt (cell c (.arecv (peer c 0))) () Na)) = iprop(emp) from if_pos (peer_zero c),
    show oth (F := F) c (peer c 2) (cred (tallyAt (cell c (.arecv (peer c 2))) () Na)) = _ from if_neg (peer_ne2 c),
    show oth (F := F) c (peer c 3) (cred (tallyAt (cell c (.arecv (peer c 3))) () Na)) = _ from if_neg (peer_ne3 c),
    show oth (F := F) c (peer c 1) (cred (tallyAt (cell c (.arecv (peer c 1))) () Na)) = _ from if_neg (peer_ne1 c)]
  exact BIClass.emp_sep.2

set_option maxHeartbeats 1000000 in
/-- What a device starts with is what its body takes, and the positions left aside. -/
theorem entry : Raw m c ⊢ iprop((Meet c ∗ LocalPre m c ∗ SendPre c ∗ RecvPre c ∗ MaxPre c) ∗ Aside c) := by
  unfold Raw LocalSems Creds Toks
  rw [scopedRest0_eq]
  iintro ⟨HX, HW, HO, ⟨Hxs, Hxb, Hwb, Hsv, Hrv, Hov, Has, Har⟩, ⟨Mx0, Mx1, Mw0, Mw1, Mo0, Mo1⟩, HP, HT, CB, C20, C21, C30, C31, C10, C11, CA⟩
  ihave HX := (halves (ℓ := bufX c) (xin m c)).1 $$ HX
  icases HX with ⟨HX0, HX1⟩
  ihave HW := (halves (ℓ := bufW c) (win m c)).1 $$ HW
  icases HW with ⟨HW0, HW1⟩
  ihave HO := ((out_pieces c).1.trans (Entails.of_eq (turn c _))) $$ HO
  icases HO with ⟨D0, D2, D3, D1⟩
  ihave Hxs := (xs_pieces c).1 $$ Hxs
  icases Hxs with ⟨Hxs0, Hxs1⟩
  ihave Hwb := (wb_pieces c).1 $$ Hwb
  icases Hwb with ⟨Hwb0, Hwb1⟩
  ihave Hov := (ov_pieces c).1 $$ Hov
  icases Hov with ⟨Hov0, Hov1⟩
  ihave Hsv := (sv_pieces c).1 $$ Hsv
  icases Hsv with ⟨S00, S01, S10, S11, S20, S21⟩
  ihave Hrv := ((rv_pieces c).1.trans (pull c _).1) $$ Hrv
  icases Hrv with ⟨⟨V0, V1⟩, B0, B1, B2, B3⟩
  ihave Har := ((ar_pieces c).1.trans (pull c _).1) $$ Har
  icases Har with ⟨Y, Y0, Y1, Y2, Y3⟩
  ihave Y := (own_four c (ar? c c)) $$ Y
  icases Y with ⟨Z0, Z1, Z2, Z3⟩
  ihave HP := (pos_eq c _).1 $$ HP
  icases HP with ⟨PB, ⟨PS00, PS01, PS10, PS11, PS20, PS21⟩, PR, PA⟩
  ihave PR := (Entails.of_eq (turn c _)) $$ PR
  icases PR with ⟨PR0, ⟨PR20, PR21⟩, ⟨PR30, PR31⟩, PR10, PR11⟩
  ihave PA := (pull c _).1 $$ PA
  icases PA with ⟨PAc, PA0, PA1, PA2, PA3⟩
  ihave HT := (tok_of c _) $$ HT
  icases HT with ⟨TB0, TB1, TB2, TB3, TS00, TS01, TS10, TS11, TS20, TS21, US00, US01, US10, US11, US20, US21, TA0, TA1, TA2, TA3, TE0, TE1, TE2, TE3⟩
  ihave CA := (creds_four c) $$ CA
  icases CA with ⟨CA0, CA1, CA2, CA3⟩
  isplitr [PR0 PAc]
  · unfold Meet LocalPre SendPre RecvPre MaxPre
    isplitl [TB0 B0 Y0 TB1 B1 Y1 TB2 B2 Y2 TB3 B3 Y3 PB CB]
    · isplitl [TB0 B0 Y0]
      · iapply (sig_intro c 0) $$ [TB0 B0 Y0]
        isplitl [TB0]; · iexact TB0
        isplitl [B0]; · iexact B0
        iexact Y0
      isplitl [TB1 B1 Y1]
      · iapply (sig_intro c 1) $$ [TB1 B1 Y1]
        isplitl [TB1]; · iexact TB1
        isplitl [B1]; · iexact B1
        iexact Y1
      isplitl [TB2 B2 Y2]
      · iapply (sig_intro c 2) $$ [TB2 B2 Y2]
        isplitl [TB2]; · iexact TB2
        isplitl [B2]; · iexact B2
        iexact Y2
      isplitl [TB3 B3 Y3]
      · iapply (sig_intro c 3) $$ [TB3 B3 Y3]
        isplitl [TB3]; · iexact TB3
        isplitl [B3]; · iexact B3
        iexact Y3
      isplitl [PB]; · iexact PB
      iexact CB
    isplitl [HX0 HX1 HW0 HW1 Hxs0 Hxs1 Hwb0 Hwb1 Hxb Hov0 Hov1 Mx0 Mx1 Mw0 Mw1 Mo0 Mo1 D0 D2 D3 D1]
    · isplitl [Hxs0 HX0 Mx0]
      · unfold XIdle Idle
        isplitl [Hxs0]; · iexact Hxs0
        isplitl [HX0]; · iexact HX0
        iexact Mx0
      isplitl [Hxs1 HX1 Mx1]
      · unfold XIdle Idle
        isplitl [Hxs1]; · iexact Hxs1
        isplitl [HX1]; · iexact HX1
        iexact Mx1
      isplitl [Hxb]
      · unfold XB; icases Hxb with ⟨%f, H⟩; iexists f; isplitr; · ipureintro; exact fun i h => absurd h (Nat.not_lt_zero _)
        iexact H
      isplitl [Hwb0 HW0 Mw0]
      · unfold WIdle Idle
        isplitl [Hwb0]; · iexact Hwb0
        isplitl [HW0]; · iexact HW0
        iexact Mw0
      isplitl [Hwb1 HW1 Mw1]
      · unfold WIdle Idle
        isplitl [Hwb1]; · iexact Hwb1
        isplitl [HW1]; · iexact HW1
        iexact Mw1
      isplitl [Hov0 Mo0]
      · unfold OSlot; isplitl [Hov0]; · iexact Hov0
        iexact Mo0
      isplitl [Hov1 Mo1]
      · unfold OSlot; isplitl [Hov1]; · iexact Hov1
        iexact Mo1
      isplitl [D0]; · iexact D0
      isplitl [D2]; · iexact D2
      isplitl [D3]; · iexact D3
      iexact D1
    isplitl [S00 S01 S10 S11 S20 S21 TS00 US00 PS00 TS01 US01 PS01 TS10 US10 PS10 TS11 US11 PS11 TS20 US20 PS20 TS21 US21 PS21 V0 V1]
    · isplitl [S00]; · iexact S00
      isplitl [S01]; · iexact S01
      isplitl [S10]; · iexact S10
      isplitl [S11]; · iexact S11
      isplitl [S20]; · iexact S20
      isplitl [S21]; · iexact S21
      isplitl [TS00 US00 PS00]
      · unfold SvTok; isplitl [TS00]; · iexact TS00
        isplitl [US00]; · iexact US00
        iexact PS00
      isplitl [TS01 US01 PS01]
      · unfold SvTok; isplitl [TS01]; · iexact TS01
        isplitl [US01]; · iexact US01
        iexact PS01
      isplitl [TS10 US10 PS10]
      · unfold SvTok; isplitl [TS10]; · iexact TS10
        isplitl [US10]; · iexact US10
        iexact PS10
      isplitl [TS11 US11 PS11]
      · unfold SvTok; isplitl [TS11]; · iexact TS11
        isplitl [US11]; · iexact US11
        iexact PS11
      isplitl [TS20 US20 PS20]
      · unfold SvTok; isplitl [TS20]; · iexact TS20
        isplitl [US20]; · iexact US20
        iexact PS20
      isplitl [TS21 US21 PS21]
      · unfold SvTok; isplitl [TS21]; · iexact TS21
        isplitl [US21]; · iexact US21
        iexact PS21
      isplitl [V0]; · iexact V0
      iexact V1
    isplitl [PR20 C20 PR21 C21 PR30 C30 PR31 C31 PR10 C10 PR11 C11]
    · isplitl [PR20 C20]
      · unfold RvWait; isplitl [PR20]; · iexact PR20
        iexact C20
      isplitl [PR21 C21]
      · unfold RvWait; isplitl [PR21]; · iexact PR21
        iexact C21
      isplitl [PR30 C30]
      · unfold RvWait; isplitl [PR30]; · iexact PR30
        iexact C30
      isplitl [PR31 C31]
      · unfold RvWait; isplitl [PR31]; · iexact PR31
        iexact C31
      isplitl [PR10 C10]
      · unfold RvWait; isplitl [PR10]; · iexact PR10
        iexact C10
      unfold RvWait; isplitl [PR11]; · iexact PR11
      iexact C11
    isplitl [Has]; · unfold As?; iexact Has
    isplitl [Z0 TA0 TE0]
    · iapply (aptok_intro c 0) $$ [Z0 TA0 TE0]
      isplitl [Z0]; · iexact Z0
      isplitl [TA0]; · iexact TA0
      iexact TE0
    isplitl [Z1 TA1 TE1]
    · iapply (aptok_intro c 1) $$ [Z1 TA1 TE1]
      isplitl [Z1]; · iexact Z1
      isplitl [TA1]; · iexact TA1
      iexact TE1
    isplitl [Z2 TA2 TE2]
    · iapply (aptok_intro c 2) $$ [Z2 TA2 TE2]
      isplitl [Z2]; · iexact Z2
      isplitl [TA2]; · iexact TA2
      iexact TE2
    isplitl [Z3 TA3 TE3]
    · iapply (aptok_intro c 3) $$ [Z3 TA3 TE3]
      isplitl [Z3]; · iexact Z3
      isplitl [TA3]; · iexact TA3
      iexact TE3
    isplitl [CA0 PA0]
    · iapply (aw_intro c 0) $$ [CA0 PA0]
      isplitl [CA0]; · iexact CA0
      iexact PA0
    isplitl [CA1 PA1]
    · iapply (aw_intro c 1) $$ [CA1 PA1]
      isplitl [CA1]; · iexact CA1
      iexact PA1
    isplitl [CA2 PA2]
    · iapply (aw_intro c 2) $$ [CA2 PA2]
      isplitl [CA2]; · iexact CA2
      iexact PA2
    iapply (aw_intro c 3) $$ [CA3 PA3]
    isplitl [CA3]; · iexact CA3
    iexact PA3
  · unfold Aside
    isplitl [PR0]
    · ihave PR0 := (Entails.of_eq (congrArg (fun o => (iprop(atPos EB (cell c (.recv o 0)) 0 ∅ 0 ∗ atPos EB (cell c (.recv o 1)) 0 ∅ 0) : sProp 𝕄)) (peer_zero c))) $$ PR0
      iexact PR0
    iexact PAc

end Cert.A2A

end
-- ==== Proof.Exit.lean ====
/-
# Out of the body

The pieces a device's body leaves, put together, and its cells closed.
-/
module

public import proofs.«01_k».proof.Proof.Entry

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (κ : Dev nD × CK → ℕ)

variable (c : Dev nD)

/-- The rounds the cells of a device have been through at the end: one, but for the three that it would use towards itself. -/
def rnd (c : Dev nD) : CK → ℕ
  | .bar => 1
  | .send _ _ => 1
  | .recv o _ => if o = c then 0 else 1
  | .asend p => if p = c then 0 else 1
  | .arecv o => if o = c then 0 else 1

theorem rnd_duties : ∀ k r, rnd c k ≤ r → (Rd m).duties (cell c k) r = ∅ := fun k r hr => by
  rcases Nat.eq_zero_or_pos r with h | h
  · subst h
    have h0 : payers c k = ∅ := by
      cases k with
      | bar => exact absurd hr (by show ¬(1 ≤ 0); omega)
      | send s h => exact absurd hr (by show ¬(1 ≤ 0); omega)
      | recv o h => by_cases e : o = c <;> [exact if_pos e; exact absurd hr (by show ¬((if o = c then 0 else 1) ≤ 0); rw [if_neg e]; omega)]
      | asend o => by_cases e : o = c <;> [exact if_pos e; exact absurd hr (by show ¬((if o = c then 0 else 1) ≤ 0); rw [if_neg e]; omega)]
      | arecv o => by_cases e : o = c <;> [exact if_pos e; exact absurd hr (by show ¬((if o = c then 0 else 1) ≤ 0); rw [if_neg e]; omega)]
    rw [duties_eq, h0]
  · exact duties_later m _ r h

/-- At the end every cell can be closed, its semaphore back at zero. -/
theorem shut (k : CK) : iprop(records m κ ∗ atPos EB (cell c k) (rnd c k) ∅ 0) ⊢ (iprop(|={Set.univ}=> semVal (cell c k) 0) : sProp 𝕄) := by
  iintro ⟨HR, Ha⟩
  ihave Hi := (records_inv m κ c k) $$ HR
  iapply (Rounds.cell_close EB (Rd m) (Set.mem_univ (κ (c, k))) (fun h => h) (R := rnd c k) (rnd_duties m c k)) $$ [Hi Ha]
  isplitl [Hi] <;> iassumption
theorem shut_all : iprop(records m κ ∗ Pos c (rnd c)) ⊢ (iprop(|={Set.univ}=> bigSep Finset.univ fun k : CK => semVal (cell c k) 0) : sProp 𝕄) :=
  (with_records fun k _ => shut m κ c k).trans (bigSep_fupd _ _)

/-! ## Forgetting what a piece holds -/

theorem sv_any (s : Fin 3) (h : Fin 2) : svD m c s h ⊢ sv? c s h := by unfold svD sv?; iintro H; iexists _; iexact H
theorem rv_any (o : Dev nD) : RvAll m c o ⊢ iprop(rv? c o 0 ∗ rv? c o 1) := by
  unfold RvAll rvD rv?
  iintro ⟨H0, H1⟩
  isplitl [H0]
  · iexists _; iexact H0
  iexists _; iexact H1
theorem ar_any (o : Dev nD) : arD m c o ⊢ ar? c o := by unfold arD ar?; iintro H; iexists _; iexact H

/-- The two positions of a pair of cells towards another device. -/
def AP (c q : Dev nD) : sProp 𝕄 := iprop(atPos EB (cell c (.asend q)) (rnd c (.asend q)) ∅ 0 ∗ atPos EB (cell c (.arecv q)) (rnd c (.arecv q)) ∅ 0)
def RP (c q : Dev nD) : sProp 𝕄 := iprop(atPos EB (cell c (.recv q 0)) (rnd c (.recv q 0)) ∅ 0 ∗ atPos EB (cell c (.recv q 1)) (rnd c (.recv q 1)) ∅ 0)
theorem ap_oth (q : Dev nD) : (if q = c then iprop(emp) else iprop(atPos EB (cell c (.asend q)) 1 ∅ 0 ∗ atPos EB (cell c (.arecv q)) 1 ∅ 0) : sProp 𝕄) ⊢ oth c q (AP c q) := by
  unfold oth AP; dsimp only [rnd]
  by_cases h : q = c
  · rw [if_pos h, if_pos h]
  · rw [if_neg h, if_neg h, if_neg h]
theorem ap_own : (iprop(atPos EB (cell c (.asend c)) 0 ∅ 0 ∗ atPos EB (cell c (.arecv c)) 0 ∅ 0) : sProp 𝕄) ⊢ AP c c := by
  unfold AP; dsimp only [rnd]; rw [if_pos rfl]
theorem rp_own : (iprop(atPos EB (cell c (.recv c 0)) 0 ∅ 0 ∗ atPos EB (cell c (.recv c 1)) 0 ∅ 0) : sProp 𝕄) ⊢ RP c (peer c 0) := by
  rw [peer_zero]; unfold RP; dsimp only [rnd]; rw [if_pos rfl]
theorem rvin_any (o : Dev nD) (h : o ≠ c) : RvIn m c o ⊢ iprop((rv? c o 0 ∗ rv? c o 1) ∗ RP c o) := by
  unfold RvIn RP; dsimp only [rnd]
  rw [if_neg h]
  exact sep_mono_left (rv_any m c o)
theorem a3_any (q : Dev nD) : A3 m c q ⊢ iprop(asD m c q ∗ ar? c q ∗ oth c q (AP c q)) := by
  unfold A3
  exact sep_mono_right (BIClass.sep_mono (ar_any m c q) (ap_oth c q))

/-- What a device ends with. -/
def Done (c : Dev nD) : sProp 𝕄 :=
  iprop((((bufX c) ↦{fullShare} (xin m c : Buf (Elt F) (bufX c))) ∗ ((bufW c) ↦{fullShare} (win m c : Buf (Elt F) (bufW c)))
      ∗ ((bufO c) ↦{fullShare} (outC (xin m) (win m) c : Buf (Elt F) (bufO c))))
    ∗ Pipeline.scopedRest cfg0.spec c ∗ LocalSems c)

set_option maxHeartbeats 1000000 in
/-- The pieces the body leaves, put together. -/
theorem gather : iprop((atPos EB (cell c .bar) 1 ∅ 0 ∗ LocalPost m c ∗ SendPost m c ∗ RecvPost m c ∗ MaxPost m c) ∗ Aside c) ⊢ iprop(Done m c ∗ Pos c (rnd c)) := by
  unfold LocalPost SendPost RecvPost MaxPost Aside
  iintro ⟨⟨PB, ⟨X0, X1, Hxb, W0, W1, O0, O1, D0, D2, D3, D1⟩, ⟨S00, S01, S10, S11, S20, S21⟩, ⟨R0, R2, R3, R1⟩, HA, A0, A1, A2, A3⟩, PR, PA⟩
  ihave W0 := (WHas_idle m 0 _) $$ W0
  ihave W1 := (WHas_idle m 1 _) $$ W1
  unfold XIdle WIdle Idle OSlot SvDone XB
  icases X0 with ⟨Hxs0, HX0, Mx0⟩
  icases X1 with ⟨Hxs1, HX1, Mx1⟩
  icases W0 with ⟨Hwb0, HW0, Mw0⟩
  icases W1 with ⟨Hwb1, HW1, Mw1⟩
  icases O0 with ⟨Hov0, Mo0⟩
  icases O1 with ⟨Hov1, Mo1⟩
  icases Hxb with ⟨%fb, -, Hxb⟩
  icases S00 with ⟨S00, PS00⟩
  ihave S00 := (sv_any m c 0 0) $$ S00
  icases S01 with ⟨S01, PS01⟩
  ihave S01 := (sv_any m c 0 1) $$ S01
  icases S10 with ⟨S10, PS10⟩
  ihave S10 := (sv_any m c 1 0) $$ S10
  icases S11 with ⟨S11, PS11⟩
  ihave S11 := (sv_any m c 1 1) $$ S11
  icases S20 with ⟨S20, PS20⟩
  ihave S20 := (sv_any m c 2 0) $$ S20
  icases S21 with ⟨S21, PS21⟩
  ihave S21 := (sv_any m c 2 1) $$ S21
  ihave R0 := (rv_any m c _) $$ R0
  ihave R2 := (rvin_any m c _ (peer_ne2 c)) $$ R2
  icases R2 with ⟨R2, PR2⟩
  ihave R3 := (rvin_any m c _ (peer_ne3 c)) $$ R3
  icases R3 with ⟨R3, PR3⟩
  ihave R1 := (rvin_any m c _ (peer_ne1 c)) $$ R1
  icases R1 with ⟨R1, PR1⟩
  ihave PR := (rp_own c) $$ PR
  ihave PA := (ap_own c) $$ PA
  ihave A0 := (a3_any m c 0) $$ A0
  icases A0 with ⟨A0, Y0, PA0⟩
  ihave A1 := (a3_any m c 1) $$ A1
  icases A1 with ⟨A1, Y1, PA1⟩
  ihave A2 := (a3_any m c 2) $$ A2
  icases A2 with ⟨A2, Y2, PA2⟩
  ihave A3 := (a3_any m c 3) $$ A3
  icases A3 with ⟨A3, Y3, PA3⟩
  isplitr [PB PS00 PS01 PS10 PS11 PS20 PS21 PR PR2 PR3 PR1 PA PA0 PA1 PA2 PA3]
  · unfold Done LocalSems
    rw [scopedRest0_eq]
    isplitl [HX0 HX1 HW0 HW1 D0 D2 D3 D1]
    · isplitl [HX0 HX1]
      · iapply (halves (ℓ := bufX c) (xin m c)).2 $$ [HX0 HX1]
        isplitl [HX0]; · iexact HX0
        iexact HX1
      isplitl [HW0 HW1]
      · iapply (halves (ℓ := bufW c) (win m c)).2 $$ [HW0 HW1]
        isplitl [HW0]; · iexact HW0
        iexact HW1
      iapply (Entails.of_eq ((out_whole m c).trans (turn c _)).symm) $$ [D0 D2 D3 D1]
      isplitl [D0]; · iexact D0
      isplitl [D2]; · iexact D2
      isplitl [D3]; · iexact D3
      iexact D1
    isplitr [Mx0 Mx1 Mw0 Mw1 Mo0 Mo1]
    · isplitl [Hxs0 Hxs1]
      · iapply (xs_pieces c).2 $$ [Hxs0 Hxs1]
        isplitl [Hxs0]; · iexact Hxs0
        iexact Hxs1
      isplitl [Hxb]; · iexists fb; iexact Hxb
      isplitl [Hwb0 Hwb1]
      · iapply (wb_pieces c).2 $$ [Hwb0 Hwb1]
        isplitl [Hwb0]; · iexact Hwb0
        iexact Hwb1
      isplitl [S00 S01 S10 S11 S20 S21]
      · iapply (sv_pieces c).2 $$ [S00 S01 S10 S11 S20 S21]
        isplitl [S00]; · iexact S00
        isplitl [S01]; · iexact S01
        isplitl [S10]; · iexact S10
        isplitl [S11]; · iexact S11
        isplitl [S20]; · iexact S20
        iexact S21
      isplitl [R0 R2 R3 R1]
      · iapply ((Entails.of_eq (turn c _).symm).trans (rv_pieces c).2) $$ [R0 R2 R3 R1]
        isplitl [R0]; · iexact R0
        isplitl [R2]; · iexact R2
        isplitl [R3]; · iexact R3
        iexact R1
      isplitl [Hov0 Hov1]
      · iapply (ov_pieces c).2 $$ [Hov0 Hov1]
        isplitl [Hov0]; · iexact Hov0
        iexact Hov1
      isplitl [HA A0 A1 A2 A3]
      · ihave H := (As_shares m).2 $$ [HA A0 A1 A2 A3]
        · isplitl [HA]; · iexact HA
          isplitl [A0]; · iexact A0
          isplitl [A1]; · iexact A1
          isplitl [A2]; · iexact A2
          iexact A3
        iexists (amaxS (xin m) (win m) c)
        unfold AsD
        iexact H
      iapply ((Entails.of_eq (four _).symm).trans (ar_pieces c).2) $$ [Y0 Y1 Y2 Y3]
      isplitl [Y0]; · iexact Y0
      isplitl [Y1]; · iexact Y1
      isplitl [Y2]; · iexact Y2
      iexact Y3
    isplitl [Mx0]; · iexact Mx0
    isplitl [Mx1]; · iexact Mx1
    isplitl [Mw0]; · iexact Mw0
    isplitl [Mw1]; · iexact Mw1
    isplitl [Mo0]; · iexact Mo0
    iexact Mo1
  iapply (pos_eq c (rnd c)).2 $$ [PB PS00 PS01 PS10 PS11 PS20 PS21 PR PR2 PR3 PR1 PA PA0 PA1 PA2 PA3]
  isplitl [PB]; · iexact PB
  isplitl [PS00 PS01 PS10 PS11 PS20 PS21]
  · isplitl [PS00]; · iexact PS00
    isplitl [PS01]; · iexact PS01
    isplitl [PS10]; · iexact PS10
    isplitl [PS11]; · iexact PS11
    isplitl [PS20]; · iexact PS20
    iexact PS21
  isplitl [PR PR2 PR3 PR1]
  · iapply (Entails.of_eq (turn c (RP c)).symm) $$ [PR PR2 PR3 PR1]
    isplitl [PR]; · iexact PR
    isplitl [PR2]; · iexact PR2
    isplitl [PR3]; · iexact PR3
    iexact PR1
  iapply (pull c (AP c)).2 $$ [PA PA0 PA1 PA2 PA3]
  isplitl [PA]; · iexact PA
  isplitl [PA0]; · iexact PA0
  isplitl [PA1]; · iexact PA1
  isplitl [PA2]; · iexact PA2
  iexact PA3

end Cert.A2A

end
-- ==== Proof.Launch.lean ====
/-
# The launch

Every device's kernel, together: the run of the whole program.
-/
module

public import proofs.«01_k».proof.Proof.Exit
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-- What device `c` hands its kernel; -/
def Φ₀ (c : Dev nD) : sProp 𝕄 :=
  iprop((G' m c ∗ Creds c ∗ levAts L lv ∗ ((bufX c) ↦{fullShare} (xin m c : Buf (Elt F) (bufX c))) ∗ ((bufW c) ↦{fullShare} (win m c : Buf (Elt F) (bufW c)))
      ∗ (∃ f : Buf (Elt F) (bufO c), (bufO c) ↦{fullShare} f)) ∗ Pipeline.scopedRest cfg0.spec c)
/-- the three arrays in memory at the end; -/
def Arrays (c : Dev nD) : sProp 𝕄 :=
  iprop(((bufX c) ↦{fullShare} (xin m c : Buf (Elt F) (bufX c))) ∗ ((bufW c) ↦{fullShare} (win m c : Buf (Elt F) (bufW c)))
      ∗ ((bufO c) ↦{fullShare} (outC (xin m) (win m) c : Buf (Elt F) (bufO c))))
/-- and what it gets back. -/
def Φ₁ (c : Dev nD) : sProp 𝕄 :=
  iprop((Arrays m c ∗ unscopedSems0 c) ∗ Pipeline.ownSems0 osem28 c ∗ Pipeline.scopedRest cfg0.spec c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed c 0
    | ⟨_ + 1, _⟩ => 0

/-- The kernel of one device, from what it is handed to what it gives back. -/
theorem kernel_run (c : Dev nD) (K : PUnit → sProp (MT nD τ sig Unit (Elt F) ℕ UU ℕ)) :
    iprop((Φ₀ m c ∗ ∃ W, owes (c : Thread nD τ) (owed c 0) W) ∗ (iprop(Φ₁ m c ∗ ∃ W, owes (c : Thread nD τ) 0 W) -∗ K ⟨⟩))
      ⊢ WP c (onBufs (cc0_body (F := F))) K := by
  unfold Φ₀ G'
  iintro ⟨⟨⟨⟨⟨%κ, #HR, HP, HT, HS⟩, HC, #HL, HX, HW, HO⟩, Hb⟩, Ho⟩, Hk⟩
  ihave H := (entry m c) $$ [HP HT HS HC HX HW HO Hb]
  · unfold Raw
    isplitl [HX]; · iexact HX
    isplitl [HW]; · iexact HW
    isplitl [HO]; · iexact HO
    isplitl [Hb]; · iexact Hb
    isplitl [HS]; · iexact HS
    isplitl [HP]; · iexact HP
    isplitl [HT]; · iexact HT
    iexact HC
  icases H with ⟨⟨HM, HLo, HSe, HRe, HMx⟩, HA⟩
  iapply (wp_fupd frame _ Set.univ)
  iapply (body_run m κ (fun a => iprop(|={Set.univ}=> K a))) $$ [HM HLo HSe HRe HMx Ho]
  · isplitl [HM]; · iexact HM
    isplitl [HLo]; · iexact HLo
    isplitl [HSe]; · iexact HSe
    isplitl [HRe]; · iexact HRe
    isplitl [HMx]; · iexact HMx
    unfold Ow
    isplitl []; · iexact HR
    isplitl []; · iexact HL
    iexact Ho
  iintro ⟨HB, HLo, HSe, HRe, HMx, Hw⟩
  unfold Ow
  icases Hw with ⟨-, -, Hw⟩
  ihave H := (gather m c) $$ [HB HLo HSe HRe HMx HA]
  · isplitr [HA]
    · isplitl [HB]; · iexact HB
      isplitl [HLo]; · iexact HLo
      isplitl [HSe]; · iexact HSe
      isplitl [HRe]; · iexact HRe
      iexact HMx
    iexact HA
  icases H with ⟨HD, HP⟩
  imod (shut_all m κ c) $$ [HP] with HZ
  · isplitl []; · iexact HR
    iexact HP
  unfold Done
  icases HD with ⟨HA, Hb, HS⟩
  ihave H := (sems_eq c).2 $$ [HS HZ]
  · isplitl [HS]; · iexact HS
    iexact HZ
  icases H with ⟨H1, H2⟩
  imodintro
  iapply Hk
  isplitr [Hw]
  · unfold Φ₁ Arrays
    isplitl [HA H2]
    · isplitl [HA]; · iexact HA
      iexact H2
    isplitl [H1]; · iexact H1
    iexact Hb
  rw [show owed c 14 = 0 from rfl]
  iexact Hw

theorem body_obligation (c : Dev nD) : BodyObligation (dats (F := F) m 0 c) (defs₀ (F := F)) 𝒱₀ () Set.univ := fun t => by
  rw [fin_N0 t]
  have h0 (Ψ : Fin cfg0.W → sProp (MT nD τ sig Unit (Elt F) ℕ UU ℕ)) : bigSep Finset.univ Ψ = iprop(emp) := bigSep_empty
  rw [h0, h0]
  show iprop(Φ₀ m c ∗ (dats m 0 c).owesAt () t0_0.castSucc ∗ emp) ⊢ WP c (onBufs (cc0_body (F := F))) (fun _ => iprop(Φ₁ m c ∗ (dats m 0 c).owesAt () t0_0.succ ∗ emp))
  unfold Dat.owesAt Pipeline.owesWithin
  rw [show (dats m 0 c).owed t0_0.castSucc = owed c 0 from rfl, show (dats m 0 c).owed t0_0.succ = 0 from rfl]
  iintro ⟨HΦ, ⟨%W, -, HO⟩, -⟩
  iapply (kernel_run m c _)
  isplitl [HΦ HO]
  · isplitl [HΦ]; · iexact HΦ
    iexists W; iexact HO
  iintro ⟨HΦ, ⟨%W', HO⟩⟩
  isplitl [HΦ]; · iexact HΦ
  isplitl [HO]
  · iexists W'
    isplitr
    · ipureintro; exact fun _ _ => Or.inl trivial
    iexact HO
  iempintro

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w _ _ => w.elim0

/-- What the kernel's launch leaves to a device. -/
def Start (c : Dev nD) : sProp 𝕄 :=
  iprop(G' m c ∗ Creds c ∗ levAts L lv ∗ ((bufX c) ↦{fullShare} (xin m c : Buf (Elt F) (bufX c))) ∗ ((bufW c) ↦{fullShare} (win m c : Buf (Elt F) (bufW c)))
      ∗ (∃ f : Buf (Elt F) (bufO c), (bufO c) ↦{fullShare} f))

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(Start m c ∗ emp) := by
  rw [Pipeline.unscopedRestP_eq_of_list cfg0.spec c Pipeline.Prefetch.none (fun b => m ((c : Thread nD τ).loc b)) [main_arg0, main_arg1, main_v1] (by decide) (by decide)]
  show iprop((((bufX c) ↦{fullShare} (xin m c : Buf (Elt F) (bufX c))) ∗ ((bufW c) ↦{fullShare} (win m c : Buf (Elt F) (bufW c)))
      ∗ ((bufO c) ↦{fullShare} (m (bufO c) : Buf (Elt F) (bufO c)))) ∗ levAts L lv
        ∗ Pipeline.launchCred (fun d => owed d 0) c ∗ prngReg c (ρ c) ∗ G' m c) ⊢ _
  iintro ⟨⟨HX, HW, HO⟩, HL, HC, -, HG⟩
  ihave HC := (creds (F := F) c) $$ HC
  imodintro
  unfold Start
  isplitl
  · isplitl [HG]; · iexact HG
    isplitl [HC]; · iexact HC
    isplitl [HL]; · iexact HL
    isplitl [HX]; · iexact HX
    isplitl [HW]; · iexact HW
    iexists _; iexact HO
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Start m c ∗ Pipeline.scopedRest cfg0.spec c) from rfl]
  iintro ⟨Hs, -, Hr⟩
  isplitl [Hs] <;> iassumption

theorem phi1_exit (c : Dev nD) :
    (dats m 0 c).Φ (Fin.last cfg0.N) ⊢ iprop((Arrays m c ∗ unscopedSems0 c) ∗ Pipeline.ownSems0 osem28 c ∗ Pipeline.scopedRest cfg0.spec c) := by
  rw [show (dats m 0 c).Φ (Fin.last cfg0.N) = Φ₁ m c from rfl]
  unfold Φ₁
  exact Entails.rfl

/-- What the memory of device `c` holds at the end. -/
def Ends (c : Dev nD) (s : MemSt nD τ sig (Elt F)) : Prop :=
  (s.mem (bufX c) = xin m c ∧ s.mem (bufW c) = win m c ∧ s.mem (bufO c) = outC (xin m) (win m) c)
    ∧ ∀ sm : SemLoc sig, sm.isScoped .tc = false → s.sem ((c.tc : Thread nD τ), sm) = 0

theorem read_one (ℓ : Loc nD τ sig) (f : Buf (Elt F) ℓ) (s' : Phys nD τ sig (Elt F)) : iprop((ℓ ↦{fullShare} f) ∗ SI s') ⊢ (iprop(⌜s'.mem.mem ℓ = f⌝ ∗ SI s') : sProp 𝕄) := by
  iintro ⟨Hp, HSI⟩
  icombine Hp HSI gives %h
  isplitr
  · ipureintro; funext i; exact h i (Finset.mem_univ i)
  iexact HSI

theorem arrays_read (c : Dev nD) (s' : Phys nD τ sig (Elt F)) :
    iprop((Arrays m c ∗ unscopedSems0 c) ∗ emp ∗ SI s') ⊢ (iprop(|={Set.univ}=> iprop(⌜Ends m c s'.mem⌝ ∗ SI s')) : sProp 𝕄) := by
  unfold Arrays
  iintro ⟨⟨⟨HX, HW, HO⟩, Hu⟩, -, HSI⟩
  ihave H := (read_one (bufX c) _ s') $$ [HX HSI]
  · isplitl [HX] <;> iassumption
  icases H with ⟨%h1, HSI⟩
  ihave H := (read_one (bufW c) _ s') $$ [HW HSI]
  · isplitl [HW] <;> iassumption
  icases H with ⟨%h2, HSI⟩
  ihave H := (read_one (bufO c) _ s') $$ [HO HSI]
  · isplitl [HO] <;> iassumption
  icases H with ⟨%h3, HSI⟩
  imod (Pipeline.unscopedSems0_read (X := unscopedSems0 c) (c := c) fupd_intro s') $$ [Hu HSI] with ⟨%h4, HSI⟩
  · isplitl [Hu] <;> iassumption
  imodintro
  isplitr
  · ipureintro; exact ⟨⟨h1, h2, h3⟩, h4⟩
  iexact HSI

/-- What the run leaves in memory, on every device. -/
def Result (r : PUnit × MemSt nD τ sig (Elt F)) : Prop :=
  ∀ c : Dev nD, r.2.mem (bufX c) = xin m c ∧ r.2.mem (bufW c) = win m c ∧ r.2.mem (bufO c) = outC (xin m) (win m) c

set_option maxRecDepth 8000 in
/-- For any float values and from any memory with zero counters, every weakly fair execution of the program on the four devices ends,
    with each device's result computed, its arguments unchanged and every semaphore at zero. -/
theorem run_main : θ_run defs (onTc (τ := τ) (main (F := F))) ⟨m, fun _ => 0, ρ⟩ (fun r => Result m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := G m) (G' := G' m) (u₀ := u₀)
    (hu₀ := by
      iintro Hu
      ihave H := own_u₀ $$ Hu
      icases H with ⟨HP, HX⟩
      imod (fund_cells m) $$ HX with HG
      imodintro
      isplitl [HP] <;> iassumption)
    (hglob := glob m)
    (hA := fun _ w => w.elim0) (hpf := fun _ k => k.elim0)
    (X := Start m) (Y := fun c => iprop(Arrays m c ∗ unscopedSems0 c)) (Z := fun _ => iprop(emp))
    (hX := start_intro m ρ) (hin := phi0_intro m) (hout := phi1_exit m)
    (QY := Ends m) (hY := arrays_read m)
    (hQ := fun _ h hs => ⟨fun c => (h c).2.2.1, sem_eq_zero hs fun c => (h c).2.2.2⟩)

end Cert.A2A

end
-- ==== Proof.Quant.lean ====
/-
# The quantiser over the extended reals

The kernel multiplies by `448 / g` where the reference divides by `g / 448`, `g` the largest magnitude. Over the
extended reals the two agree after scaling back, also where `g` is zero (the scale is then zero, and both results are)
and where it is infinite. Beside it, what a maximum over both axes of a matrix is.
-/
module

public import Idealize.ShloMosaic.PureOps.Ideal
public import Idealize.ShloMosaic.PureOps.Ideal.Laws
public import Idealize.ShloMosaic.PureOps.Reduce
public import Idealize.ShloMosaic.Lib.ValueIdxCore

@[expose] public section

noncomputable section

namespace Cert.A2A

open Idealize.ShloMosaic

/-- The bit pattern of the largest quantised value denotes 448. -/
theorem bits_448 : Ideal.ofBits .f32 0x43E00000#32 = ((448 : ℝ) : EReal) := by
  simp [Ideal.ofBits, Ideal.ieee, -EReal.coe_mul]; norm_num

/-- The pattern of minus infinity denotes it. -/
theorem bits_bot : Ideal.ofBits .f32 0xFF800000#32 = (⊥ : EReal) := by
  simp [Ideal.ofBits, Ideal.ieee]

/-- Division by something not zero is multiplication by its inverse. -/
theorem div_of_ne (a b : EReal) (hb : b ≠ 0) : Ideal.div a b = a * b⁻¹ := by
  unfold Ideal.div; rw [if_neg hb]

theorem real448_ne : ((448 : ℝ) : EReal) ≠ 0 := by
  rw [Ne, EReal.coe_eq_zero]; norm_num

theorem real448_inv_inv : (((448 : ℝ) : EReal)⁻¹)⁻¹ = ((448 : ℝ) : EReal) := by
  rw [← EReal.coe_inv, ← EReal.coe_inv, inv_inv]

theorem real448_inv_ne : ((448 : ℝ) : EReal)⁻¹ ≠ 0 := by
  rw [← EReal.coe_inv, Ne, EReal.coe_eq_zero]; norm_num

/-- Quantise by the inverse scale, or divide by the scale: scaled back, the same. The clip `C` is arbitrary. -/
theorem quant_eq (g r : EReal) (C : EReal) :
    min (r * Ideal.div ((448 : ℝ) : EReal) g) C * Ideal.div g ((448 : ℝ) : EReal)
      = min (Ideal.div r (Ideal.div g ((448 : ℝ) : EReal))) C * Ideal.div g ((448 : ℝ) : EReal) := by
  rw [div_of_ne g _ real448_ne]
  by_cases hg : g = 0
  · subst hg; rw [zero_mul, mul_zero, mul_zero]
  by_cases hs : g * ((448 : ℝ) : EReal)⁻¹ = 0
  · rw [hs, mul_zero, mul_zero]
  rw [div_of_ne _ _ hs, div_of_ne _ _ hg, EReal.mul_inv, real448_inv_inv, mul_comm g⁻¹]

/-- An index of a vector of one element is the only one. -/
theorem idx1_eq (i j : (⟨1, ![1]⟩ : Shape).Idx) : i = j := by
  funext k
  match k with
  | ⟨0, _⟩ => exact Fin.ext (by have h1 : (i 0).val < 1 := (i 0).isLt; have h2 : (j 0).val < 1 := (j 0).isLt; show (i 0).val = (j 0).val; omega)

/-- That index. -/
def only : (⟨1, ![1]⟩ : Shape).Idx := fun k => match k with
  | ⟨0, _⟩ => ⟨0, Nat.one_pos⟩

/-- The one number of a vector of one element, recast and extracted. -/
theorem only_apply {α : Type} (v : (⟨1, ![1]⟩ : Shape).Idx → α) (h : (⟨1, ![1]⟩ : Shape).ShapeCasts ⟨3, ![1, 1, 1]⟩)
    (h' : ∀ a, (![0, 0, 0] : Fin 3 → ℕ) a < (⟨3, ![1, 1, 1]⟩ : Shape).size a) (j : (⟨1, ![1]⟩ : Shape).Idx) :
    extractAt ![0, 0, 0] (shapeCast ⟨3, ![1, 1, 1]⟩ v h) h' = v j := congrArg v (idx1_eq _ _)

/-- The maximum of a vector recast and reduced to one element is below `b` just when every element is. -/
theorem max_le_iff_all {s s' : Shape} {axes : List (Fin s'.rank)} (v : FVec Ideal s .f32)
    (hc : s.ShapeCasts s') (h : s'.Reduces axes ⟨1, ![1]⟩) (hφ : FKind.Formats .f32)
    (hacc : (0xFF800000#32 : BitVec 32) = FKind.maximumf.neutral .f32 hφ) (j : (⟨1, ![1]⟩ : Shape).Idx) (b : EReal) :
    (multiReduction .maximumf axes ⟨1, ![1]⟩ (shapeCast s' v hc) 0xFF800000#32 h hφ hacc j : EReal) ≤ b ↔ ∀ i, (v i : EReal) ≤ b := by
  rw [multiReduction_maximumf_eq_fold]
  refine (Finset.fold_max_le (α := s'.Idx) (β := EReal) (s := Finset.univ.filter fun i => h.drop i = j) (b := Ideal.ofBits .f32 0xFF800000#32)
    (f := fun i => shapeCast s' v hc i) b).trans ?_
  rw [bits_bot]
  constructor
  · rintro ⟨-, H⟩ i
    have := H ((Shape.reshapeEquiv hc).symm i) (Finset.mem_filter.mpr ⟨Finset.mem_univ _, idx1_eq _ _⟩)
    simpa [shapeCast] using this
  · exact fun H => ⟨bot_le, fun i _ => H _⟩

end Cert.A2A

end
-- ==== Proof.Values.lean ====
/-
# The kernel's result over the extended reals is the reference's

The reference multiplies all the rows by the weights at once, takes the largest entry and quantises by it. A device's
products are the entries of that one product it is responsible for; the largest of the four devices' maxima is the
largest entry; so each device's result is its block of columns of the reference's.
-/
module

public import proofs.«01_k».proof.Proof.Contents
public import proofs.«01_k».proof.Proof.Quant
public import proofs.«01_k».proof.Proof.Gen.ReferenceIdeal
public import proofs.«01_k».proof.Proof.Gen.ReferenceIdeal.Skeleton
public import Idealize.ShloMosaic.Lib.MatmulPlain
public import Idealize.ShloMosaic.Lib.Layout
public import Idealize.ShloMosaic.Lib.Pipeline.Value

@[expose] public section

noncomputable section

namespace Cert.A2A

open Cert.KernelIdeal Cert.KernelIdeal.Gen
open Idealize.ShloMosaic
open scoped BigOperators

/-- The two ways of naming a matrix's index agree. -/
theorem ix2_eq {n m : ℕ} (a b : ℕ) (ha : a < n) (hb : b < m) : (ix2 a b ha hb : (⟨2, ![n, m]⟩ : Shape).Idx) = ValueIdx.ix2 ⟨a, ha⟩ ⟨b, hb⟩ :=
  ext2 rfl rfl

/-- An index is named by its coordinates. -/
theorem ix2_eta {n m : ℕ} (i : (⟨2, ![n, m]⟩ : Shape).Idx) : ix2 (i 0).val (i 1).val (lt2_0 i) (lt2_1 i) = i := ext2 rfl rfl

/-! ## Products -/

/-- A plain product onto zero, read at row `a` and column `b`. -/
theorem plain_apply {M K N : ℕ} {φ₁ φ₂ : FTy} (l : FVec Ideal ⟨2, ![M, K]⟩ φ₁) (r : FVec Ideal ⟨2, ![K, N]⟩ φ₂)
    (a b : ℕ) (ha : a < M) (hb : b < N) :
    FloatOps.matmul (DotDims.plain M K N) none l r (constant (F := Ideal) ⟨2, ![M, N]⟩ .f32 0x00000000#32) (ix2 a b ha hb)
      = ∑ k : Fin K, (l (ix2 a k.val ha k.isLt) : EReal) * (r (ix2 k.val b k.isLt hb) : EReal) := by
  rw [ix2_eq, Ideal.matmul_plain_apply]
  have h0 : (constant (F := Ideal) ⟨2, ![M, N]⟩ .f32 0x00000000#32 (ValueIdx.ix2 ⟨a, ha⟩ ⟨b, hb⟩) : EReal) = 0 := Ideal.ofBits_zero_f32
  rw [h0, zero_add]
  refine Finset.sum_congr rfl fun k _ => ?_
  rw [ix2_eq, ix2_eq]

/-- A block of weights as a matrix. -/
theorem wmat_apply {α : Type} (w : S1x4096x512.Idx → α) (k b : ℕ) (hk : k < 4096) (hb : b < 512) :
    shapeCast S4096x512 w shapeCasts_S1x4096x512_S4096x512 (ix2 k b hk hb) = w (ix3 0 k b (by decide) hk hb) := by
  rw [show shapeCast S4096x512 w shapeCasts_S1x4096x512_S4096x512 (ix2 k b hk hb) = _ from shapeCast_dropUnit_apply _ w _ _]
  exact congrArg w (ext3 rfl rfl rfl)

/-- The kernel's product of a half of rows and a block of weights, read at row `a` and column `b`. -/
theorem pay6_apply (x : Vec Ideal S512x4096 .bf16) (w : Vec Ideal S1x4096x512 .f32) (a b : ℕ) (ha : a < 512) (hb : b < 512) :
    (k0_pay6 (F := Ideal) x w (ix2 a b ha hb) : EReal)
      = ∑ k : Fin 4096, (x (ix2 a k.val ha k.isLt) : EReal) * (w (ix3 0 k.val b (by decide) k.isLt hb) : EReal) := by
  refine (plain_apply (M := 512) (K := 4096) (N := 512) x
    (truncf .bf16 (shapeCast S4096x512 w shapeCasts_S1x4096x512_S4096x512) bitsLt_bf16_f32) a b ha hb).trans ?_
  refine Finset.sum_congr rfl fun k _ => congrArg (_ * ·) ?_
  exact wmat_apply w k.val b k.isLt hb

/-- The reference's product: all the rows by all the weights. -/
def whole (X : Vec Ideal Cert.ReferenceIdeal.S4096x4096 .f32) (W : Vec Ideal Cert.ReferenceIdeal.S4096x2048 .f32) :
    FVec Ideal Cert.ReferenceIdeal.S4096x2048 .f32 :=
  matmul (φ₁ := .f32) (φ₂ := .f32) Cert.ReferenceIdeal.dot_S4096x4096_S4096x2048_S4096x2048_1_0_0_1_n_n none X W
    (constant Cert.ReferenceIdeal.S4096x2048 .f32 0x00000000#32)

/-- An entry of it. -/
theorem whole_apply (X : Vec Ideal Cert.ReferenceIdeal.S4096x4096 .f32) (W : Vec Ideal Cert.ReferenceIdeal.S4096x2048 .f32)
    (a b : ℕ) (ha : a < 4096) (hb : b < 2048) :
    (whole X W (ix2 a b ha hb) : EReal)
      = ∑ k : Fin 4096, (X (ix2 a k.val ha k.isLt) : EReal) * (W (ix2 k.val b k.isLt hb) : EReal) :=
  plain_apply (M := 4096) (K := 4096) (N := 2048) (φ₁ := .f32) (φ₂ := .f32) X W a b ha hb

section
variable (x : Dev nD → Vec Ideal S1024x4096 .f32) (w : Dev nD → Vec Ideal S4096x2048 .f32)
variable (X : Vec Ideal Cert.ReferenceIdeal.S4096x4096 .f32) (W : Vec Ideal Cert.ReferenceIdeal.S4096x2048 .f32)

/-- The devices' rows are the reference's, cut in four, and each has all of the weights. -/
def Cut : Prop :=
  (∀ (c : Dev nD) (a b : ℕ) (ha : a < 1024) (hb : b < 4096),
    x c (ix2 a b ha hb) = X (ix2 (1024 * c.val + a) b (by have : c.val < 4 := c.isLt; omega) hb)) ∧ ∀ c, w c = W

variable {x w X W}

/-- A product device `o` makes is the part of the reference's at its rows and the block's columns. -/
theorem prod_apply (hc : Cut x w X W) (o p : Dev nD) (h : Fin 2) (a b : ℕ) (ha : a < 512) (hb : b < 512) :
    (prod (F := Ideal) x w o p h (ix2 a b ha hb) : EReal)
      = whole X W (ix2 (1024 * o.val + (512 * h.val + a)) (512 * p.val + b)
          (by have : o.val < 4 := o.isLt; have := h.isLt; omega) (by have : p.val < 4 := p.isLt; omega)) := by
  rw [whole_apply]
  refine (pay6_apply _ _ a b ha hb).trans (Finset.sum_congr rfl fun k _ => ?_)
  refine congrArg₂ (· * ·) ?_ ?_
  · exact hc.1 o (512 * h.val + a) k.val (by have := h.isLt; omega) k.isLt
  · show w o _ = _
    rw [hc.2 o]

/-- What device `o` gives device `p`, likewise. -/
theorem yblk_apply (hc : Cut x w X W) (o p : Dev nD) (a b : ℕ) (ha : a < 1024) (hb : b < 512) :
    (yblk (F := Ideal) x w o p (ix2 a b ha hb) : EReal)
      = whole X W (ix2 (1024 * o.val + a) (512 * p.val + b)
          (by have : o.val < 4 := o.isLt; omega) (by have : p.val < 4 := p.isLt; omega)) := by
  refine (prod_apply hc o p ⟨a / 512, by omega⟩ (a % 512) b (Nat.mod_lt _ (by decide)) hb).trans ?_
  refine congrArg (whole X W) (ext2 ?_ rfl)
  show 1024 * o.val + (512 * (a / 512) + a % 512) = 1024 * o.val + a
  omega

/-! ## The largest entry -/

/-- The largest of zero and the reference's product: the bound is met just when zero and every entry meet it. -/
def Above (X : Vec Ideal Cert.ReferenceIdeal.S4096x4096 .f32) (W : Vec Ideal Cert.ReferenceIdeal.S4096x2048 .f32) (b : EReal) : Prop :=
  0 ≤ b ∧ ∀ i, (whole X W i : EReal) ≤ b

/-- Equals have the same bounds. -/
theorem le_iff_of_eq {a a' : EReal} (h : a = a') (b : EReal) : a ≤ b ↔ a' ≤ b := by rw [h]

/-- The kernel's last maximum: of the running one and the last product. -/
theorem pay42_le (a : FVec Ideal S512x512 .f32) (v : Vec Ideal S512x4096 .bf16) (u : Vec Ideal S1x4096x512 .f32) (b : EReal) :
    (k0_pay42 (F := Ideal) a v u : EReal) ≤ b ↔ ∀ i, (a i : EReal) ≤ b ∧ (k0_pay6 (F := Ideal) v u i : EReal) ≤ b := by
  have h := only_apply (multiReduction .maximumf [1, 2] S1 (shapeCast S1x512x512 (maximumf a (k0_pay36 v u)) shapeCasts_S512x512_S1x512x512)
    0xFF800000#32 reduces_S1x512x512_S1 (.inl rfl) rfl) shapeCasts_S1_S1x1x1 inpos_S1x1x1_p0_0_0 only
  refine (le_iff_of_eq h b).trans ?_
  refine (max_le_iff_all (s := S512x512) (s' := S1x512x512) (maximumf a (k0_pay36 v u)) shapeCasts_S512x512_S1x512x512
    reduces_S1x512x512_S1 (.inl rfl) rfl _ b).trans (forall_congr' fun i => ?_)
  exact max_le_iff (α := EReal)

/-- A bound on the running maximum of two, entry by entry. -/
theorem maxv_le (a c : FVec Ideal S512x512 .f32) (b : EReal) (i : S512x512.Idx) :
    (maximumf a c i : EReal) ≤ b ↔ (a i : EReal) ≤ b ∧ (c i : EReal) ≤ b := max_le_iff (α := EReal)

/-- A bound on the running maximum before the last product. -/
theorem acc7_le (c : Dev nD) (b : EReal) (i : S512x512.Idx) :
    (acc7 (F := Ideal) x w c i : EReal) ≤ b ↔
      ((((((0 : EReal) ≤ b ∧ (prod (F := Ideal) x w c (peer c 2) 0 i : EReal) ≤ b) ∧ (prod (F := Ideal) x w c (peer c 2) 1 i : EReal) ≤ b)
        ∧ (prod (F := Ideal) x w c (peer c 1) 0 i : EReal) ≤ b) ∧ (prod (F := Ideal) x w c (peer c 1) 1 i : EReal) ≤ b)
        ∧ (prod (F := Ideal) x w c (peer c 3) 0 i : EReal) ≤ b ∧ True) ∧ (prod (F := Ideal) x w c (peer c 3) 1 i : EReal) ≤ b
        ∧ (prod (F := Ideal) x w c (peer c 0) 0 i : EReal) ≤ b := by
  have h0 : (k0_pay5 (F := Ideal) i : EReal) = 0 := Ideal.ofBits_zero_f32
  refine (maxv_le _ _ b i).trans ?_
  refine (and_congr_left' (maxv_le _ _ b i)).trans ?_
  refine (and_congr_left' (and_congr_left' (maxv_le _ _ b i))).trans ?_
  refine (and_congr_left' (and_congr_left' (and_congr_left' (maxv_le _ _ b i)))).trans ?_
  refine (and_congr_left' (and_congr_left' (and_congr_left' (and_congr_left' (maxv_le _ _ b i))))).trans ?_
  refine (and_congr_left' (and_congr_left' (and_congr_left' (and_congr_left' (and_congr_left' (maxv_le _ _ b i)))))).trans ?_
  refine (and_congr_left' (and_congr_left' (and_congr_left' (and_congr_left' (and_congr_left' (and_congr_left' (maxv_le _ _ b i))))))).trans ?_
  rw [h0]
  show (((((((_ ∧ (prod (F := Ideal) x w c (peer c 2) 0 i : EReal) ≤ b) ∧ (prod (F := Ideal) x w c (peer c 2) 1 i : EReal) ≤ b)
        ∧ (prod (F := Ideal) x w c (peer c 1) 0 i : EReal) ≤ b) ∧ (prod (F := Ideal) x w c (peer c 1) 1 i : EReal) ≤ b)
        ∧ (prod (F := Ideal) x w c (peer c 3) 0 i : EReal) ≤ b) ∧ (prod (F := Ideal) x w c (peer c 3) 1 i : EReal) ≤ b)
        ∧ (prod (F := Ideal) x w c (peer c 0) 0 i : EReal) ≤ b) ↔ _
  tauto

/-- Every device is one of the four places after `c`. -/
theorem peer_cases (c p : Dev nD) : p = peer c 0 ∨ p = peer c 1 ∨ p = peer c 2 ∨ p = peer c 3 := by
  have hc : c.val < 4 := c.isLt
  have hp : p.val < 4 := p.isLt
  have : p.val = (c.val + 0) % 4 ∨ p.val = (c.val + 1) % 4 ∨ p.val = (c.val + 2) % 4 ∨ p.val = (c.val + 3) % 4 := by omega
  exact this.imp Fin.ext (Or.imp Fin.ext (Or.imp Fin.ext Fin.ext))

/-- A bound on device `c`'s maximum: on zero and on each entry of its eight products. -/
theorem amax_le (c : Dev nD) (b : EReal) :
    (amax (F := Ideal) x w c : EReal) ≤ b ↔ (0 : EReal) ≤ b ∧ ∀ p h i, (prod (F := Ideal) x w c p h i : EReal) ≤ b := by
  refine (pay42_le _ _ _ b).trans ?_
  constructor
  · intro H
    refine ⟨((acc7_le c b (ix2 0 0 (by decide) (by decide))).1 (H _).1).1.1.1.1.1.1, fun p h i => ?_⟩
    have A := (acc7_le c b i).1 (H i).1
    have B : (prod (F := Ideal) x w c (peer c 0) 1 i : EReal) ≤ b := (H i).2
    have hh : h = 0 ∨ h = 1 := by have := h.isLt; rcases h with ⟨_ | _ | n, hn⟩ <;> [exact .inl rfl; exact .inr rfl; exact absurd hn (by omega)]
    rcases peer_cases c p with rfl | rfl | rfl | rfl <;> rcases hh with rfl | rfl <;> tauto
  · rintro ⟨h0, H⟩ i
    exact ⟨(acc7_le c b i).2 ⟨⟨⟨⟨⟨⟨h0, H _ _ _⟩, H _ _ _⟩, H _ _ _⟩, H _ _ _⟩, H _ _ _, trivial⟩, H _ _ _, H _ _ _⟩, H (peer c 0) 1 i⟩

/-- The four maxima are below a bound just when the whole product is. -/
theorem amax_all (hc : Cut x w X W) (b : EReal) : (∀ c, (amax (F := Ideal) x w c : EReal) ≤ b) ↔ Above X W b := by
  constructor
  · intro H
    refine ⟨((amax_le 0 b).1 (H 0)).1, fun i => ?_⟩
    have h0 : (i 0).val < 4096 := lt2_0 i
    have h1 : (i 1).val < 2048 := lt2_1 i
    have := ((amax_le ⟨(i 0).val / 1024, by show _ < 4; omega⟩ b).1 (H _)).2 ⟨(i 1).val / 512, by show _ < 4; omega⟩
      ⟨(i 0).val % 1024 / 512, by omega⟩ (ix2 ((i 0).val % 512) ((i 1).val % 512) (by omega) (by omega))
    rw [prod_apply hc] at this
    refine le_of_eq_of_le (congrArg (whole X W) (ext2 ?_ ?_)) this
    · show (i 0).val = 1024 * ((i 0).val / 1024) + (512 * ((i 0).val % 1024 / 512) + (i 0).val % 512); omega
    · show (i 1).val = 512 * ((i 1).val / 512) + (i 1).val % 512; omega
  · rintro ⟨h0, H⟩ c
    refine (amax_le c b).2 ⟨h0, fun p h i => ?_⟩
    rw [← ix2_eta i, prod_apply hc]
    exact H _

/-- The largest of four numbers. -/
theorem pay49_le (a0 a1 a2 a3 b : EReal) :
    (k0_pay49 (F := Ideal) (fun _ => a0) (fun _ => a1) (fun _ => a2) (fun _ => a3) : EReal) ≤ b ↔ a0 ≤ b ∧ a1 ≤ b ∧ a2 ≤ b ∧ a3 ≤ b := by
  show max (max (max a0 a1) a2) a3 ≤ b ↔ _
  rw [max_le_iff, max_le_iff, max_le_iff]; tauto

/-- The scale is the largest over 448, -/
theorem pay50_eq (v0 v1 v2 v3 : Vec Ideal S1x1x1 .f32) :
    (k0_pay50 (F := Ideal) v0 v1 v2 v3 : EReal) = Ideal.div (k0_pay49 (F := Ideal) v0 v1 v2 v3) (Ideal.ofBits .f32 0x43E00000#32) := rfl
/-- its inverse 448 over the largest. -/
theorem pay51_eq (v0 v1 v2 v3 : Vec Ideal S1x1x1 .f32) :
    (k0_pay51 (F := Ideal) v0 v1 v2 v3 : EReal) = Ideal.div (Ideal.ofBits .f32 0x43E00000#32) (k0_pay49 (F := Ideal) v0 v1 v2 v3) := rfl

/-- The kernel's largest entry. -/
def top (x : Dev nD → Vec Ideal S1024x4096 .f32) (w : Dev nD → Vec Ideal S4096x2048 .f32) : EReal :=
  k0_pay49 (F := Ideal) (fun _ => amax x w 0) (fun _ => amax x w 1) (fun _ => amax x w 2) (fun _ => amax x w 3)

theorem top_le (hc : Cut x w X W) (b : EReal) : top x w ≤ b ↔ Above X W b := by
  refine (pay49_le _ _ _ _ b).trans ((Iff.intro (fun H c => ?_) fun H => ⟨H 0, H 1, H 2, H 3⟩).trans (amax_all hc b))
  have : c.val < 4 := c.isLt
  rcases c with ⟨_ | _ | _ | _ | n, hn⟩
  exacts [H.1, H.2.1, H.2.2.1, H.2.2.2, absurd this (by simp)]

end

/-! ## The reference -/

/-- The reference's largest magnitude, of its product after the clamp at zero. -/
def refTop (Y : FVec Ideal Cert.ReferenceIdeal.S4096x2048 .f32) : EReal :=
  extractAt ![0, 0, 0] (shapeCast Cert.ReferenceIdeal.S1x1x1 (multiReduction .maximumf [1, 2] Cert.ReferenceIdeal.S1
    (shapeCast Cert.ReferenceIdeal.S1x4096x2048 (absf (maximumf Y (broadcast Cert.ReferenceIdeal.S4096x2048 (Scalar.ofBits (F := Ideal) .f32 0x00000000#32))))
      Cert.ReferenceIdeal.Gen.shapeCasts_S4096x2048_S1x4096x2048) 0xFF800000#32 Cert.ReferenceIdeal.Gen.reduces_S1x4096x2048_S1 (.inl rfl) rfl)
    Cert.ReferenceIdeal.Gen.shapeCasts_S1_S1x1x1) Cert.ReferenceIdeal.Gen.inpos_S1x1x1_p0_0_0

/-- The magnitude of a number clamped at zero is the number clamped. -/
theorem abs_relu (y b : EReal) : max (max y 0) (-(max y 0)) ≤ b ↔ 0 ≤ b ∧ y ≤ b := by
  have h : (0 : EReal) ≤ max y 0 := le_max_right _ _
  have h' : -(max y 0) ≤ max y 0 := le_trans (EReal.neg_le_neg_iff.mpr h |>.trans (le_of_eq neg_zero)) h
  rw [max_eq_left h', max_le_iff, and_comm]

theorem refTop_le (Y : FVec Ideal Cert.ReferenceIdeal.S4096x2048 .f32) (b : EReal) : refTop Y ≤ b ↔ 0 ≤ b ∧ ∀ i, (Y i : EReal) ≤ b := by
  refine (le_iff_of_eq (only_apply _ Cert.ReferenceIdeal.Gen.shapeCasts_S1_S1x1x1 Cert.ReferenceIdeal.Gen.inpos_S1x1x1_p0_0_0 only) b).trans ?_
  refine (max_le_iff_all (s := Cert.ReferenceIdeal.S4096x2048) (s' := Cert.ReferenceIdeal.S1x4096x2048)
    (absf (maximumf Y (broadcast Cert.ReferenceIdeal.S4096x2048 (Scalar.ofBits (F := Ideal) .f32 0x00000000#32))))
    Cert.ReferenceIdeal.Gen.shapeCasts_S4096x2048_S1x4096x2048 Cert.ReferenceIdeal.Gen.reduces_S1x4096x2048_S1 (.inl rfl) rfl _ b).trans ?_
  have hz : ∀ i, ((absf (maximumf Y (broadcast Cert.ReferenceIdeal.S4096x2048 (Scalar.ofBits (F := Ideal) .f32 0x00000000#32))) i : EReal) ≤ b)
      ↔ 0 ≤ b ∧ (Y i : EReal) ≤ b := fun i => by
    have h0 : (Scalar.ofBits (F := Ideal) .f32 0x00000000#32 : EReal) = 0 := Ideal.ofBits_zero_f32
    rw [← abs_relu, ← h0]; rfl
  refine (forall_congr' hz).trans ⟨fun H => ⟨(H (ix2 0 0 (by decide) (by decide))).1, fun i => (H i).2⟩, fun H i => ⟨H.1, H.2 i⟩⟩

/-- The reference's result at an entry. -/
theorem ref_apply (X : Vec Ideal Cert.ReferenceIdeal.S4096x4096 .f32) (W : Vec Ideal Cert.ReferenceIdeal.S4096x2048 .f32)
    (i : Cert.ReferenceIdeal.S4096x2048.Idx) :
    (Cert.ReferenceIdeal.Gen.k0_pay1 (F := Ideal) X W i : EReal)
      = min (Ideal.div (max (whole X W i) (Ideal.ofBits .f32 0x00000000#32)) (Ideal.div (refTop (whole X W)) (Ideal.ofBits .f32 0x43E00000#32)))
          (Ideal.ofBits .f32 0x43E00000#32) * Ideal.div (refTop (whole X W)) (Ideal.ofBits .f32 0x43E00000#32) := rfl

/-! ## The kernel's result -/

/-- A block of rows as a matrix. -/
theorem rows_apply {α : Type} (v : S1x1024x512.Idx → α) (a b : ℕ) (ha : a < 1024) (hb : b < 512) :
    shapeCast S1024x512 v shapeCasts_S1x1024x512_S1024x512 (ix2 a b ha hb) = v (ix3 0 a b (by decide) ha hb) := by
  rw [show shapeCast S1024x512 v shapeCasts_S1x1024x512_S1024x512 (ix2 a b ha hb) = _ from shapeCast_dropUnit_apply _ v _ _]
  exact congrArg v (ext3 rfl rfl rfl)

/-- The kernel's quantiser at an entry. -/
theorem pay52_apply (s r : Ideal .f32) (v : Vec Ideal S1x1024x512 .bf16) (a b : ℕ) (ha : a < 1024) (hb : b < 512) :
    (k0_pay52 (F := Ideal) s r v (ix3 0 a b (by decide) ha hb) : EReal)
      = min (max (v (ix3 0 a b (by decide) ha hb)) (Ideal.ofBits .f32 0x00000000#32) * r) (Ideal.ofBits .f32 0x43E00000#32) * s := by
  unfold k0_pay52
  rw [show ∀ u : FVec Ideal S1024x512 .f32, shapeCast S1x1024x512 u shapeCasts_S1024x512_S1x1024x512 (ix3 0 a b (by decide) ha hb)
      = u (ix2 a b ha hb) from fun u => (shapeCast_addUnit_apply _ u _ _).trans (congrArg u (ext2 rfl rfl))]
  rw [← rows_apply v a b ha hb]
  rfl

variable {x : Dev nD → Vec Ideal S1024x4096 .f32} {w : Dev nD → Vec Ideal S4096x2048 .f32}
variable {X : Vec Ideal Cert.ReferenceIdeal.S4096x4096 .f32} {W : Vec Ideal Cert.ReferenceIdeal.S4096x2048 .f32}

/-- The largest entry is the same on both sides. -/
theorem top_eq (hc : Cut x w X W) : top x w = refTop (whole X W) :=
  eq_of_forall_ge_iff fun b => (top_le hc b).trans (refTop_le _ b).symm

/-- Device `p`'s result at a row and a column is the reference's at the column `512 * p` further. -/
theorem outC_apply (hc : Cut x w X W) (p : Dev nD) (i : S4096x512.Idx) :
    (outC (F := Ideal) x w p i : EReal) = Cert.ReferenceIdeal.Gen.k0_pay1 (F := Ideal) X W
      (ix2 (i 0).val (512 * p.val + (i 1).val) (lt2_0 i) (by have := lt2_1 i; have : p.val < 4 := p.isLt; omega)) := by
  have h0 : (i 0).val < 4096 := lt2_0 i
  rw [ref_apply, ← top_eq hc, bits_448, ← quant_eq]
  refine (pay52_apply _ _ _ ((i 0).val % 1024) (i 1).val (Nat.mod_lt _ (by decide)) (lt2_1 i)).trans ?_
  rw [bits_448]
  have hy := yblk_apply hc ⟨(i 0).val / 1024, by show _ < 4; omega⟩ p ((i 0).val % 1024) (i 1).val (Nat.mod_lt _ (by decide)) (lt2_1 i)
  have he : (ix2 (1024 * ((i 0).val / 1024) + (i 0).val % 1024) (512 * p.val + (i 1).val) (by omega)
      (by have := lt2_1 i; have : p.val < 4 := p.isLt; omega) : Cert.ReferenceIdeal.S4096x2048.Idx)
      = ix2 (i 0).val (512 * p.val + (i 1).val) (lt2_0 i) (by have := lt2_1 i; have : p.val < 4 := p.isLt; omega) :=
    ext2 (show 1024 * ((i 0).val / 1024) + (i 0).val % 1024 = (i 0).val by omega) rfl
  rw [he] at hy
  have hs : (scale (F := Ideal) x w : EReal) = Ideal.div (top x w) ((448 : ℝ) : EReal) := by rw [← bits_448]; exact pay50_eq _ _ _ _
  have hi : (inv (F := Ideal) x w : EReal) = Ideal.div ((448 : ℝ) : EReal) (top x w) := by rw [← bits_448]; exact pay51_eq _ _ _ _
  rw [hs, hi]
  exact congrArg (fun y : EReal => min (max y (Ideal.ofBits .f32 0x00000000#32) * Ideal.div ((448 : ℝ) : EReal) (top x w)) ((448 : ℝ) : EReal)
    * Ideal.div (top x w) ((448 : ℝ) : EReal)) hy

/-- Device `c`'s result is block `c` of the columns of the reference's, when its rows are block `c` of the reference's and
    its weights are the reference's. -/
theorem outC_block (hx : ∀ c : Dev nD, x c = Layout.block ⟨2, ![1024, 4096]⟩ ⟨2, ![4096, 4096]⟩ 0 4 c X) (hw : ∀ c, w c = W) (c : Dev nD) :
    outC (F := Ideal) x w c = Layout.block ⟨2, ![4096, 512]⟩ ⟨2, ![4096, 2048]⟩ 1 4 c (Cert.ReferenceIdeal.Gen.k0_pay1 (F := Ideal) X W) := by
  have hc : Cut x w X W := by
    refine ⟨fun c a b ha hb => ?_, hw⟩
    rw [hx c]
    refine congrArg X (ext2 ?_ rfl)
    show c.val * 1024 + a = 1024 * c.val + a
    omega
  funext i
  refine (outC_apply hc c i).trans (congrArg _ (ext2 rfl ?_))
  show 512 * c.val + (i 1).val = c.val * 512 + (i 1).val
  omega

end Cert.A2A

end
-- ==== Proof.lean ====
/-
The claims of this certificate, put together: the three frames, the idealization (no operation is rewritten), and that the
kernel's result on device `c` is block `c` of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.SL.Sem

/-- The kernel over the extended reals ends, its arguments unchanged and every semaphore at zero. -/
theorem frame_kernelIdeal : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1⟩, h.2⟩) (Cert.A2A.run_main (F := Ideal) m ρ)

/-- The kernel as printed likewise: its text is the same. -/
theorem frame_kernel : Cert.quiescent_Kernel (hKernel := Cert.Kernel.Gen.facts) := fun m ρ _ =>
  (θ_run (Cert.KernelIdeal.defs (F := Bits)) _ _).mono (fun _ h => ⟨fun c => ⟨(h.1 c).1, (h.1 c).2.1⟩, h.2⟩) (Cert.A2A.run_main (F := Bits) m ρ)

/-- And the reference. -/
theorem frame_reference : Cert.quiescent_ReferenceIdeal (hReferenceIdeal := Cert.ReferenceIdeal.Gen.facts) := fun m ρ _ =>
  Cert.ReferenceIdeal.Gen.frame (F := Ideal) m ρ

/-- When the devices' rows are the blocks of the reference's and each has its weights, device `c`'s result is block `c` of the
    columns of the reference's result. -/
theorem algebraic : Cert.algebraic_KernelIdeal_ReferenceIdeal (hKernelIdeal := Cert.KernelIdeal.Gen.facts)
    (hReferenceIdeal := Cert.ReferenceIdeal.Gen.facts) := fun m ρ m' ρ' _ hin =>
  ⟨Cert.ReferenceIdeal.Value.G2 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h.1 c).2.2.trans (Cert.A2A.outC_block (fun d => (hin d).1) (fun d => (hin d).2) c), (h.1 c).1, (h.1 c).2.1⟩)
      (Cert.A2A.run_main (F := Ideal) m ρ),
    (θ_run (Cert.ReferenceIdeal.defs (F := Ideal)) _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_kernelIdeal, frame_reference,
    trivial, algebraic⟩

end Cert.Proof

end
